-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![1024, 8, 128]⟩ ⟨3, ![1024, 64, 128]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![1024, 8, 128]⟩ ⟨3, ![1024, 64, 128]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S1024x8192 : Shape := ⟨2, ![1024, 8192]⟩
abbrev S1024x8x128 : Shape := ⟨3, ![1024, 8, 128]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  bcast_S_S1024x8192 : S_.BroadcastsInDim S1024x8192 (![] : Fin 0 → Fin S1024x8192.rank)
  bcast_S_S1024x8x128 : S_.BroadcastsInDim S1024x8x128 (![] : Fin 0 → Fin S1024x8x128.rank)

variable [Facts]

def fn {F : FTy → Type} [FloatOps F] (main_arg0 : FVec F S1024x1024 .f32) (main_arg1 : FVec F S1024x8192 .f32) (main_arg2 : FVec F S1024x8x128 .f32) (main_arg3 : FVec F S1024x8x128 .f32) (main_arg4 : FVec F S8192x1024 .f32) : IVec S1024x1024 1 × IVec S1024x8192 1 × IVec S1024x8x128 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1024x8x128 .f32 := Host.absf main_arg2
  let main_cst_1 : FVec F S_ .f32 := constant S_ .f32 0x7F800000#32
  let main_v7 : FVec F S1024x8x128 .f32 := broadcastInDim S1024x8x128 ![] bcast_S_S1024x8x128 main_cst_1
  let main_v8 : IVec S1024x8x128 1 := cmpf .olt main_v6 main_v7
  (main_v2, main_v5, main_v8)
-- ==== Pre_finite_ReferenceIdeal.lean ====
abbrev S1024x1024 : Shape := ⟨2, ![1024, 1024]⟩
abbrev S1024x8192 : Shape := ⟨2, ![1024, 8192]⟩
abbrev S1024x64x128 : Shape := ⟨3, ![1024, 64, 128]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  bcast_S_S1024x8192 : S_.BroadcastsInDim S1024x8192 (![] : Fin 0 → Fin S1024x8192.rank)
  bcast_S_S1024x64x128 : S_.BroadcastsInDim S1024x64x128 (![] : Fin 0 → Fin S1024x64x128.rank)

variable [Facts]

def fn {F : FTy → Type} [FloatOps F] (main_arg0 : FVec F S1024x1024 .f32) (main_arg1 : FVec F S1024x8192 .f32) (main_arg2 : FVec F S1024x64x128 .f32) (main_arg3 : FVec F S1024x64x128 .f32) (main_arg4 : FVec F S8192x1024 .f32) : IVec S1024x1024 1 × IVec S1024x8192 1 × IVec S1024x64x128 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  let main_v6 : FVec F S1024x64x128 .f32 := Host.absf main_arg2
  let main_cst_1 : FVec F S_ .f32 := constant S_ .f32 0x7F800000#32
  let main_v7 : FVec F S1024x64x128 .f32 := broadcastInDim S1024x64x128 ![] bcast_S_S1024x64x128 main_cst_1
  let main_v8 : IVec S1024x64x128 1 := cmpf .olt main_v6 main_v7
  (main_v2, main_v5, main_v8)
-- ==== Kernel.lean ====
abbrev S1024x1024 : Shape := ⟨2, ![1024, 1024]⟩
abbrev S1024x8192 : Shape := ⟨2, ![1024, 8192]⟩
abbrev S1024x8x128 : Shape := ⟨3, ![1024, 8, 128]⟩
abbrev S8192x1024 : Shape := ⟨2, ![8192, 1024]⟩
abbrev S1x1024x1024 : Shape := ⟨3, ![1, 1024, 1024]⟩
abbrev S8x1024x128 : Shape := ⟨3, ![8, 1024, 128]⟩
abbrev S384x1024 : Shape := ⟨2, ![384, 1024]⟩
abbrev S256x1024 : Shape := ⟨2, ![256, 1024]⟩
abbrev S192x1024 : Shape := ⟨2, ![192, 1024]⟩
abbrev S96x1024 : Shape := ⟨2, ![96, 1024]⟩
abbrev S48x1024 : Shape := ⟨2, ![48, 1024]⟩
abbrev S128x1024 : Shape := ⟨2, ![128, 1024]⟩
abbrev S64x1024 : Shape := ⟨2, ![64, 1024]⟩
abbrev S32x1024 : Shape := ⟨2, ![32, 1024]⟩
abbrev S2 : Shape := ⟨1, ![2]⟩
abbrev S2x8 : Shape := ⟨2, ![2, 8]⟩
abbrev S3x3 : Shape := ⟨2, ![3, 3]⟩
abbrev S1 : Shape := ⟨1, ![1]⟩
abbrev S_ : Shape := ⟨0, ![]⟩
abbrev S1x1 : Shape := ⟨2, ![1, 1]⟩
abbrev S1x1024x128 : Shape := ⟨3, ![1, 1024, 128]⟩
abbrev S1024x128 : Shape := ⟨2, ![1024, 128]⟩
abbrev S1024x1x128 : Shape := ⟨3, ![1024, 1, 128]⟩
abbrev S384x384 : Shape := ⟨2, ![384, 384]⟩
abbrev S1x384x128 : Shape := ⟨3, ![1, 384, 128]⟩
abbrev S384x128 : Shape := ⟨2, ![384, 128]⟩
abbrev S384 : Shape := ⟨1, ![384]⟩
abbrev S384x1 : Shape := ⟨2, ![384, 1]⟩
abbrev S384x768 : Shape := ⟨2, ![384, 768]⟩
abbrev S1x768x128 : Shape := ⟨3, ![1, 768, 128]⟩
abbrev S768x128 : Shape := ⟨2, ![768, 128]⟩
abbrev S256x128 : Shape := ⟨2, ![256, 128]⟩
abbrev S256 : Shape := ⟨1, ![256]⟩
abbrev S256x1 : Shape := ⟨2, ![256, 1]⟩
abbrev S1x384x1024 : Shape := ⟨3, ![1, 384, 1024]⟩
abbrev S1x256x1024 : Shape := ⟨3, ![1, 256, 1024]⟩

abbrev nBuf : Space → Nat
  | .hbm => 6
  | .vmem => 20
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S1024x8x128, .f32⟩
  | .hbm, ⟨3, _⟩ => ⟨S1024x8x128, .f32⟩
  | .hbm, ⟨4, _⟩ => ⟨S8192x1024, .f32⟩
  | .hbm, ⟨5, _⟩ => ⟨S1x1024x1024, .f32⟩
  | .local _ .vmem, ⟨0, _⟩ => ⟨S1024x1024, .f32⟩
  | .local _ .vmem, ⟨1, _⟩ => ⟨S1024x8x128, .f32⟩
  | .local _ .vmem, ⟨2, _⟩ => ⟨S1024x8x128, .f32⟩
  | .local _ .vmem, ⟨3, _⟩ => ⟨S1x1024x1024, .f32⟩
  | .local _ .vmem, ⟨4, _⟩ => ⟨S1024x1024, .f32⟩
  | .local _ .vmem, ⟨5, _⟩ => ⟨S1024x1024, .f32⟩
  | .local _ .vmem, ⟨6, _⟩ => ⟨S8x1024x128, .f32⟩
  | .local _ .vmem, ⟨7, _⟩ => ⟨S8x1024x128, .f32⟩
  | .local _ .vmem, ⟨8, _⟩ => ⟨S384x1024, .bf16⟩
  | .local _ .vmem, ⟨9, _⟩ => ⟨S384x1024, .bf16⟩
  | .local _ .vmem, ⟨10, _⟩ => ⟨S256x1024, .bf16⟩
  | .local _ .vmem, ⟨11, _⟩ => ⟨S192x1024, .bf16⟩
  | .local _ .vmem, ⟨12, _⟩ => ⟨S96x1024, .bf16⟩
  | .local _ .vmem, ⟨13, _⟩ => ⟨S48x1024, .bf16⟩
  | .local _ .vmem, ⟨14, _⟩ => ⟨S192x1024, .bf16⟩
  | .local _ .vmem, ⟨15, _⟩ => ⟨S96x1024, .bf16⟩
  | .local _ .vmem, ⟨16, _⟩ => ⟨S48x1024, .bf16⟩
  | .local _ .vmem, ⟨17, _⟩ => ⟨S128x1024, .bf16⟩
  | .local _ .vmem, ⟨18, _⟩ => ⟨S64x1024, .bf16⟩
  | .local _ .vmem, ⟨19, _⟩ => ⟨S32x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_scratch13 : Ref sig .tc := ⟨.vmem, 17, rfl⟩
abbrev cc0_scratch14 : Ref sig .tc := ⟨.vmem, 18, rfl⟩
abbrev cc0_scratch15 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 2 → Nat :=
  let c0_i32_1 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v3 : BitVec 32 := Scalar.muli v2 c1024_i32
  ![0, v3.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_0 : BitVec 32 := 1024#32
  let v4 : BitVec 32 := Scalar.muli v2 c1024_i32_0
  let c0_i32_3 : BitVec 32 := 0#32
  ![v4.toNat, 0]
def k0_dev1 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v107 : BitVec 32 := Scalar.xori v2 c1_i32_126
  let c1_i32_138 : BitVec 32 := 1#32
  let v121 : BitVec 32 := Scalar.muli v107 c1_i32_138
  let v122 : BitVec 32 := Scalar.addi c0_i32_139 v121
  v122.toNat
def k0_dev2 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v108 : BitVec 32 := Scalar.andi v2 c4_i32_127
  let c3_i32_128 : BitVec 32 := 3#32
  let v109 : BitVec 32 := Scalar.andi v2 c3_i32_128
  let c3_i32_129 : BitVec 32 := 3#32
  let v110 : BitVec 32 := Scalar.xori v109 c3_i32_129
  let v111 : BitVec 32 := Scalar.ori v108 v110
  let c1_i32_141 : BitVec 32 := 1#32
  let v123 : BitVec 32 := Scalar.muli v111 c1_i32_141
  let v124 : BitVec 32 := Scalar.addi c0_i32_142 v123
  v124.toNat
def k0_dev3 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v112 : BitVec 32 := Scalar.xori v2 c4_i32_130
  let c1_i32_144 : BitVec 32 := 1#32
  let v125 : BitVec 32 := Scalar.muli v112 c1_i32_144
  let v126 : BitVec 32 := Scalar.addi c0_i32_145 v125
  v126.toNat
def k0_off3 (d0 : Dev nD) : Fin 2 → Nat :=
  let c0_i32_378 : BitVec 32 := 0#32
  let c1_i32_376 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let v445 : BitVec 32 := Scalar.subi c1_i32_376 v115
  let c192_i32_377 : BitVec 32 := 192#32
  let v446 : BitVec 32 := Scalar.muli v445 c192_i32_377
  let v447 : BitVec 32 := Scalar.addi c0_i32_378 v446
  let c0_i32_385 : BitVec 32 := 0#32
  ![v447.toNat, 0]
def k0_dev4 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v107 : BitVec 32 := Scalar.xori v2 c1_i32_126
  let c1_i32_383 : BitVec 32 := 1#32
  let v448 : BitVec 32 := Scalar.muli v107 c1_i32_383
  let v449 : BitVec 32 := Scalar.addi c0_i32_384 v448
  v449.toNat
def k0_off4 (d0 : Dev nD) : Fin 2 → Nat :=
  let c0_i32_489 : BitVec 32 := 0#32
  let c1_i32_487 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v116 : BitVec 32 := Scalar.shrsi v2 c1_i32_133
  let c1_i32_134 : BitVec 32 := 1#32
  let v117 : BitVec 32 := Scalar.andi v116 c1_i32_134
  let v665 : BitVec 32 := Scalar.subi c1_i32_487 v117
  let c192_i32_488 : BitVec 32 := 192#32
  let v666 : BitVec 32 := Scalar.muli v665 c192_i32_488
  let v667 : BitVec 32 := Scalar.addi c0_i32_489 v666
  let c0_i32_496 : BitVec 32 := 0#32
  ![v667.toNat, 0]
def k0_dev5 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v108 : BitVec 32 := Scalar.andi v2 c4_i32_127
  let c3_i32_128 : BitVec 32 := 3#32
  let v109 : BitVec 32 := Scalar.andi v2 c3_i32_128
  let c3_i32_129 : BitVec 32 := 3#32
  let v110 : BitVec 32 := Scalar.xori v109 c3_i32_129
  let v111 : BitVec 32 := Scalar.ori v108 v110
  let c1_i32_494 : BitVec 32 := 1#32
  let v668 : BitVec 32 := Scalar.muli v111 c1_i32_494
  let v669 : BitVec 32 := Scalar.addi c0_i32_495 v668
  v669.toNat
def k0_off5 (d0 : Dev nD) : Fin 2 → Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c192_i32 : BitVec 32 := 192#32
  let v443 : BitVec 32 := Scalar.muli v115 c192_i32
  let v444 : BitVec 32 := Scalar.addi c0_i32_375 v443
  let v683 : Index := Scalar.indexCast v444
  let c0_510 : Index := 0#32
  ![v683.toNat, 0]
def k0_off6 (d0 : Dev nD) : Fin 2 → Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c192_i32 : BitVec 32 := 192#32
  let v443 : BitVec 32 := Scalar.muli v115 c192_i32
  let v444 : BitVec 32 := Scalar.addi c0_i32_375 v443
  let c1_i32_514 : BitVec 32 := 1#32
  let c1_i32_133 : BitVec 32 := 1#32
  let v116 : BitVec 32 := Scalar.shrsi v2 c1_i32_133
  let c1_i32_134 : BitVec 32 := 1#32
  let v117 : BitVec 32 := Scalar.andi v116 c1_i32_134
  let v693 : BitVec 32 := Scalar.subi c1_i32_514 v117
  let c96_i32_515 : BitVec 32 := 96#32
  let v694 : BitVec 32 := Scalar.muli v693 c96_i32_515
  let v695 : BitVec 32 := Scalar.addi v444 v694
  let c0_i32_522 : BitVec 32 := 0#32
  ![v695.toNat, 0]
def k0_dev6 (d0 : Dev nD) : Nat :=
  let c0_i32_521 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v108 : BitVec 32 := Scalar.andi v2 c4_i32_127
  let c3_i32_128 : BitVec 32 := 3#32
  let v109 : BitVec 32 := Scalar.andi v2 c3_i32_128
  let c3_i32_129 : BitVec 32 := 3#32
  let v110 : BitVec 32 := Scalar.xori v109 c3_i32_129
  let v111 : BitVec 32 := Scalar.ori v108 v110
  let c1_i32_520 : BitVec 32 := 1#32
  let v696 : BitVec 32 := Scalar.muli v111 c1_i32_520
  let v697 : BitVec 32 := Scalar.addi c0_i32_521 v696
  v697.toNat
def k0_off7 (d0 : Dev nD) : Fin 2 → Nat :=
  let c0_i32_625 : BitVec 32 := 0#32
  let c1_i32_623 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v118 : BitVec 32 := Scalar.shrsi v2 c2_i32_135
  let c1_i32_136 : BitVec 32 := 1#32
  let v119 : BitVec 32 := Scalar.andi v118 c1_i32_136
  let v913 : BitVec 32 := Scalar.subi c1_i32_623 v119
  let c128_i32_624 : BitVec 32 := 128#32
  let v914 : BitVec 32 := Scalar.muli v913 c128_i32_624
  let v915 : BitVec 32 := Scalar.addi c0_i32_625 v914
  let c0_i32_632 : BitVec 32 := 0#32
  ![v915.toNat, 0]
def k0_dev7 (d0 : Dev nD) : Nat :=
  let c0_i32_631 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v112 : BitVec 32 := Scalar.xori v2 c4_i32_130
  let c1_i32_630 : BitVec 32 := 1#32
  let v916 : BitVec 32 := Scalar.muli v112 c1_i32_630
  let v917 : BitVec 32 := Scalar.addi c0_i32_631 v916
  v917.toNat
def k0_off8 (d0 : Dev nD) : Fin 2 → Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v116 : BitVec 32 := Scalar.shrsi v2 c1_i32_133
  let c1_i32_134 : BitVec 32 := 1#32
  let v117 : BitVec 32 := Scalar.andi v116 c1_i32_134
  let c192_i32_485 : BitVec 32 := 192#32
  let v663 : BitVec 32 := Scalar.muli v117 c192_i32_485
  let v664 : BitVec 32 := Scalar.addi c0_i32_486 v663
  let v931 : Index := Scalar.indexCast v664
  let c0_646 : Index := 0#32
  ![v931.toNat, 0]
def k0_off9 (d0 : Dev nD) : Fin 2 → Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v116 : BitVec 32 := Scalar.shrsi v2 c1_i32_133
  let c1_i32_134 : BitVec 32 := 1#32
  let v117 : BitVec 32 := Scalar.andi v116 c1_i32_134
  let c192_i32_485 : BitVec 32 := 192#32
  let v663 : BitVec 32 := Scalar.muli v117 c192_i32_485
  let v664 : BitVec 32 := Scalar.addi c0_i32_486 v663
  let c1_i32_651 : BitVec 32 := 1#32
  let c2_i32_135 : BitVec 32 := 2#32
  let v118 : BitVec 32 := Scalar.shrsi v2 c2_i32_135
  let c1_i32_136 : BitVec 32 := 1#32
  let v119 : BitVec 32 := Scalar.andi v118 c1_i32_136
  let v941 : BitVec 32 := Scalar.subi c1_i32_651 v119
  let c96_i32_652 : BitVec 32 := 96#32
  let v942 : BitVec 32 := Scalar.muli v941 c96_i32_652
  let v943 : BitVec 32 := Scalar.addi v664 v942
  let c0_i32_659 : BitVec 32 := 0#32
  ![v943.toNat, 0]
def k0_dev8 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v112 : BitVec 32 := Scalar.xori v2 c4_i32_130
  let c1_i32_657 : BitVec 32 := 1#32
  let v944 : BitVec 32 := Scalar.muli v112 c1_i32_657
  let v945 : BitVec 32 := Scalar.addi c0_i32_658 v944
  v945.toNat
def k0_off10 (d0 : Dev nD) : Fin 2 → Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c192_i32 : BitVec 32 := 192#32
  let v443 : BitVec 32 := Scalar.muli v115 c192_i32
  let v444 : BitVec 32 := Scalar.addi c0_i32_375 v443
  let c1_i32_133 : BitVec 32 := 1#32
  let v116 : BitVec 32 := Scalar.shrsi v2 c1_i32_133
  let c1_i32_134 : BitVec 32 := 1#32
  let v117 : BitVec 32 := Scalar.andi v116 c1_i32_134
  let c96_i32 : BitVec 32 := 96#32
  let v691 : BitVec 32 := Scalar.muli v117 c96_i32
  let v692 : BitVec 32 := Scalar.addi v444 v691
  let v959 : Index := Scalar.indexCast v692
  let c0_673 : Index := 0#32
  ![v959.toNat, 0]
def k0_off11 (d0 : Dev nD) : Fin 2 → Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c192_i32 : BitVec 32 := 192#32
  let v443 : BitVec 32 := Scalar.muli v115 c192_i32
  let v444 : BitVec 32 := Scalar.addi c0_i32_375 v443
  let c1_i32_133 : BitVec 32 := 1#32
  let v116 : BitVec 32 := Scalar.shrsi v2 c1_i32_133
  let c1_i32_134 : BitVec 32 := 1#32
  let v117 : BitVec 32 := Scalar.andi v116 c1_i32_134
  let c96_i32 : BitVec 32 := 96#32
  let v691 : BitVec 32 := Scalar.muli v117 c96_i32
  let v692 : BitVec 32 := Scalar.addi v444 v691
  let c1_i32_677 : BitVec 32 := 1#32
  let c2_i32_135 : BitVec 32 := 2#32
  let v118 : BitVec 32 := Scalar.shrsi v2 c2_i32_135
  let c1_i32_136 : BitVec 32 := 1#32
  let v119 : BitVec 32 := Scalar.andi v118 c1_i32_136
  let v969 : BitVec 32 := Scalar.subi c1_i32_677 v119
  let c48_i32_678 : BitVec 32 := 48#32
  let v970 : BitVec 32 := Scalar.muli v969 c48_i32_678
  let v971 : BitVec 32 := Scalar.addi v692 v970
  let c0_i32_685 : BitVec 32 := 0#32
  ![v971.toNat, 0]
def k0_dev9 (d0 : Dev nD) : Nat :=
  let c0_i32_684 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v112 : BitVec 32 := Scalar.xori v2 c4_i32_130
  let c1_i32_683 : BitVec 32 := 1#32
  let v972 : BitVec 32 := Scalar.muli v112 c1_i32_683
  let v973 : BitVec 32 := Scalar.addi c0_i32_684 v972
  v973.toNat
def k0_off12 (d0 : Dev nD) : Fin 2 → Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v118 : BitVec 32 := Scalar.shrsi v2 c2_i32_135
  let c1_i32_136 : BitVec 32 := 1#32
  let v119 : BitVec 32 := Scalar.andi v118 c1_i32_136
  let c128_i32 : BitVec 32 := 128#32
  let v911 : BitVec 32 := Scalar.muli v119 c128_i32
  let v912 : BitVec 32 := Scalar.addi c0_i32_622 v911
  let v987 : Index := Scalar.indexCast v912
  let c0_699 : Index := 0#32
  ![v987.toNat, 0]
def k0_off13 (d0 : Dev nD) : Fin 2 → Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v118 : BitVec 32 := Scalar.shrsi v2 c2_i32_135
  let c1_i32_136 : BitVec 32 := 1#32
  let v119 : BitVec 32 := Scalar.andi v118 c1_i32_136
  let c128_i32 : BitVec 32 := 128#32
  let v911 : BitVec 32 := Scalar.muli v119 c128_i32
  let v912 : BitVec 32 := Scalar.addi c0_i32_622 v911
  let c1_i32_704 : BitVec 32 := 1#32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let v997 : BitVec 32 := Scalar.subi c1_i32_704 v115
  let c64_i32_705 : BitVec 32 := 64#32
  let v998 : BitVec 32 := Scalar.muli v997 c64_i32_705
  let v999 : BitVec 32 := Scalar.addi v912 v998
  let c0_i32_712 : BitVec 32 := 0#32
  ![v999.toNat, 0]
def k0_dev10 (d0 : Dev nD) : Nat :=
  let c0_i32_711 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v107 : BitVec 32 := Scalar.xori v2 c1_i32_126
  let c1_i32_710 : BitVec 32 := 1#32
  let v1000 : BitVec 32 := Scalar.muli v107 c1_i32_710
  let v1001 : BitVec 32 := Scalar.addi c0_i32_711 v1000
  v1001.toNat
def k0_off14 (d0 : Dev nD) : Fin 2 → Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v116 : BitVec 32 := Scalar.shrsi v2 c1_i32_133
  let c1_i32_134 : BitVec 32 := 1#32
  let v117 : BitVec 32 := Scalar.andi v116 c1_i32_134
  let c192_i32_485 : BitVec 32 := 192#32
  let v663 : BitVec 32 := Scalar.muli v117 c192_i32_485
  let v664 : BitVec 32 := Scalar.addi c0_i32_486 v663
  let c2_i32_135 : BitVec 32 := 2#32
  let v118 : BitVec 32 := Scalar.shrsi v2 c2_i32_135
  let c1_i32_136 : BitVec 32 := 1#32
  let v119 : BitVec 32 := Scalar.andi v118 c1_i32_136
  let c96_i32_650 : BitVec 32 := 96#32
  let v939 : BitVec 32 := Scalar.muli v119 c96_i32_650
  let v940 : BitVec 32 := Scalar.addi v664 v939
  let v1015 : Index := Scalar.indexCast v940
  let c0_726 : Index := 0#32
  ![v1015.toNat, 0]
def k0_off15 (d0 : Dev nD) : Fin 2 → Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v116 : BitVec 32 := Scalar.shrsi v2 c1_i32_133
  let c1_i32_134 : BitVec 32 := 1#32
  let v117 : BitVec 32 := Scalar.andi v116 c1_i32_134
  let c192_i32_485 : BitVec 32 := 192#32
  let v663 : BitVec 32 := Scalar.muli v117 c192_i32_485
  let v664 : BitVec 32 := Scalar.addi c0_i32_486 v663
  let c2_i32_135 : BitVec 32 := 2#32
  let v118 : BitVec 32 := Scalar.shrsi v2 c2_i32_135
  let c1_i32_136 : BitVec 32 := 1#32
  let v119 : BitVec 32 := Scalar.andi v118 c1_i32_136
  let c96_i32_650 : BitVec 32 := 96#32
  let v939 : BitVec 32 := Scalar.muli v119 c96_i32_650
  let v940 : BitVec 32 := Scalar.addi v664 v939
  let c1_i32_731 : BitVec 32 := 1#32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let v1025 : BitVec 32 := Scalar.subi c1_i32_731 v115
  let c48_i32_732 : BitVec 32 := 48#32
  let v1026 : BitVec 32 := Scalar.muli v1025 c48_i32_732
  let v1027 : BitVec 32 := Scalar.addi v940 v1026
  let c0_i32_739 : BitVec 32 := 0#32
  ![v1027.toNat, 0]
def k0_dev11 (d0 : Dev nD) : Nat :=
  let c0_i32_738 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v107 : BitVec 32 := Scalar.xori v2 c1_i32_126
  let c1_i32_737 : BitVec 32 := 1#32
  let v1028 : BitVec 32 := Scalar.muli v107 c1_i32_737
  let v1029 : BitVec 32 := Scalar.addi c0_i32_738 v1028
  v1029.toNat
def k0_off16 (d0 : Dev nD) : Fin 2 → Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c192_i32 : BitVec 32 := 192#32
  let v443 : BitVec 32 := Scalar.muli v115 c192_i32
  let v444 : BitVec 32 := Scalar.addi c0_i32_375 v443
  let c1_i32_133 : BitVec 32 := 1#32
  let v116 : BitVec 32 := Scalar.shrsi v2 c1_i32_133
  let c1_i32_134 : BitVec 32 := 1#32
  let v117 : BitVec 32 := Scalar.andi v116 c1_i32_134
  let c96_i32 : BitVec 32 := 96#32
  let v691 : BitVec 32 := Scalar.muli v117 c96_i32
  let v692 : BitVec 32 := Scalar.addi v444 v691
  let c2_i32_135 : BitVec 32 := 2#32
  let v118 : BitVec 32 := Scalar.shrsi v2 c2_i32_135
  let c1_i32_136 : BitVec 32 := 1#32
  let v119 : BitVec 32 := Scalar.andi v118 c1_i32_136
  let c48_i32 : BitVec 32 := 48#32
  let v967 : BitVec 32 := Scalar.muli v119 c48_i32
  let v968 : BitVec 32 := Scalar.addi v692 v967
  let v1043 : Index := Scalar.indexCast v968
  let c0_753 : Index := 0#32
  ![v1043.toNat, 0]
def k0_off17 (d0 : Dev nD) : Fin 2 → Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c192_i32 : BitVec 32 := 192#32
  let v443 : BitVec 32 := Scalar.muli v115 c192_i32
  let v444 : BitVec 32 := Scalar.addi c0_i32_375 v443
  let c1_i32_133 : BitVec 32 := 1#32
  let v116 : BitVec 32 := Scalar.shrsi v2 c1_i32_133
  let c1_i32_134 : BitVec 32 := 1#32
  let v117 : BitVec 32 := Scalar.andi v116 c1_i32_134
  let c96_i32 : BitVec 32 := 96#32
  let v691 : BitVec 32 := Scalar.muli v117 c96_i32
  let v692 : BitVec 32 := Scalar.addi v444 v691
  let c2_i32_135 : BitVec 32 := 2#32
  let v118 : BitVec 32 := Scalar.shrsi v2 c2_i32_135
  let c1_i32_136 : BitVec 32 := 1#32
  let v119 : BitVec 32 := Scalar.andi v118 c1_i32_136
  let c48_i32 : BitVec 32 := 48#32
  let v967 : BitVec 32 := Scalar.muli v119 c48_i32
  let v968 : BitVec 32 := Scalar.addi v692 v967
  let c0_i32_763 : BitVec 32 := 0#32
  ![v968.toNat, 0]
def k0_dev12 (d0 : Dev nD) : Nat :=
  let c0_i32_762 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v112 : BitVec 32 := Scalar.xori v2 c4_i32_130
  let c1_i32_761 : BitVec 32 := 1#32
  let v1051 : BitVec 32 := Scalar.muli v112 c1_i32_761
  let v1052 : BitVec 32 := Scalar.addi c0_i32_762 v1051
  v1052.toNat
def k0_off18 (d0 : Dev nD) : Fin 2 → Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v118 : BitVec 32 := Scalar.shrsi v2 c2_i32_135
  let c1_i32_136 : BitVec 32 := 1#32
  let v119 : BitVec 32 := Scalar.andi v118 c1_i32_136
  let c128_i32 : BitVec 32 := 128#32
  let v911 : BitVec 32 := Scalar.muli v119 c128_i32
  let v912 : BitVec 32 := Scalar.addi c0_i32_622 v911
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c64_i32_703 : BitVec 32 := 64#32
  let v995 : BitVec 32 := Scalar.muli v115 c64_i32_703
  let v996 : BitVec 32 := Scalar.addi v912 v995
  let v1069 : Index := Scalar.indexCast v996
  let c0_779 : Index := 0#32
  ![v1069.toNat, 0]
def k0_off19 (d0 : Dev nD) : Fin 2 → Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v118 : BitVec 32 := Scalar.shrsi v2 c2_i32_135
  let c1_i32_136 : BitVec 32 := 1#32
  let v119 : BitVec 32 := Scalar.andi v118 c1_i32_136
  let c128_i32 : BitVec 32 := 128#32
  let v911 : BitVec 32 := Scalar.muli v119 c128_i32
  let v912 : BitVec 32 := Scalar.addi c0_i32_622 v911
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c64_i32_703 : BitVec 32 := 64#32
  let v995 : BitVec 32 := Scalar.muli v115 c64_i32_703
  let v996 : BitVec 32 := Scalar.addi v912 v995
  let c1_i32_783 : BitVec 32 := 1#32
  let c1_i32_133 : BitVec 32 := 1#32
  let v116 : BitVec 32 := Scalar.shrsi v2 c1_i32_133
  let c1_i32_134 : BitVec 32 := 1#32
  let v117 : BitVec 32 := Scalar.andi v116 c1_i32_134
  let v1079 : BitVec 32 := Scalar.subi c1_i32_783 v117
  let c32_i32_784 : BitVec 32 := 32#32
  let v1080 : BitVec 32 := Scalar.muli v1079 c32_i32_784
  let v1081 : BitVec 32 := Scalar.addi v996 v1080
  let c0_i32_791 : BitVec 32 := 0#32
  ![v1081.toNat, 0]
def k0_dev13 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v108 : BitVec 32 := Scalar.andi v2 c4_i32_127
  let c3_i32_128 : BitVec 32 := 3#32
  let v109 : BitVec 32 := Scalar.andi v2 c3_i32_128
  let c3_i32_129 : BitVec 32 := 3#32
  let v110 : BitVec 32 := Scalar.xori v109 c3_i32_129
  let v111 : BitVec 32 := Scalar.ori v108 v110
  let c1_i32_789 : BitVec 32 := 1#32
  let v1082 : BitVec 32 := Scalar.muli v111 c1_i32_789
  let v1083 : BitVec 32 := Scalar.addi c0_i32_790 v1082
  v1083.toNat
def k0_off20 (d0 : Dev nD) : Fin 2 → Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v116 : BitVec 32 := Scalar.shrsi v2 c1_i32_133
  let c1_i32_134 : BitVec 32 := 1#32
  let v117 : BitVec 32 := Scalar.andi v116 c1_i32_134
  let c192_i32_485 : BitVec 32 := 192#32
  let v663 : BitVec 32 := Scalar.muli v117 c192_i32_485
  let v664 : BitVec 32 := Scalar.addi c0_i32_486 v663
  let c2_i32_135 : BitVec 32 := 2#32
  let v118 : BitVec 32 := Scalar.shrsi v2 c2_i32_135
  let c1_i32_136 : BitVec 32 := 1#32
  let v119 : BitVec 32 := Scalar.andi v118 c1_i32_136
  let c96_i32_650 : BitVec 32 := 96#32
  let v939 : BitVec 32 := Scalar.muli v119 c96_i32_650
  let v940 : BitVec 32 := Scalar.addi v664 v939
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c48_i32_730 : BitVec 32 := 48#32
  let v1023 : BitVec 32 := Scalar.muli v115 c48_i32_730
  let v1024 : BitVec 32 := Scalar.addi v940 v1023
  let v1097 : Index := Scalar.indexCast v1024
  let c0_805 : Index := 0#32
  ![v1097.toNat, 0]
def k0_off21 (d0 : Dev nD) : Fin 2 → Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v116 : BitVec 32 := Scalar.shrsi v2 c1_i32_133
  let c1_i32_134 : BitVec 32 := 1#32
  let v117 : BitVec 32 := Scalar.andi v116 c1_i32_134
  let c192_i32_485 : BitVec 32 := 192#32
  let v663 : BitVec 32 := Scalar.muli v117 c192_i32_485
  let v664 : BitVec 32 := Scalar.addi c0_i32_486 v663
  let c2_i32_135 : BitVec 32 := 2#32
  let v118 : BitVec 32 := Scalar.shrsi v2 c2_i32_135
  let c1_i32_136 : BitVec 32 := 1#32
  let v119 : BitVec 32 := Scalar.andi v118 c1_i32_136
  let c96_i32_650 : BitVec 32 := 96#32
  let v939 : BitVec 32 := Scalar.muli v119 c96_i32_650
  let v940 : BitVec 32 := Scalar.addi v664 v939
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c48_i32_730 : BitVec 32 := 48#32
  let v1023 : BitVec 32 := Scalar.muli v115 c48_i32_730
  let v1024 : BitVec 32 := Scalar.addi v940 v1023
  let c0_i32_815 : BitVec 32 := 0#32
  ![v1024.toNat, 0]
def k0_dev14 (d0 : Dev nD) : Nat :=
  let c0_i32_814 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v107 : BitVec 32 := Scalar.xori v2 c1_i32_126
  let c1_i32_813 : BitVec 32 := 1#32
  let v1105 : BitVec 32 := Scalar.muli v107 c1_i32_813
  let v1106 : BitVec 32 := Scalar.addi c0_i32_814 v1105
  v1106.toNat
def k0_off22 (d0 : Dev nD) : Fin 2 → Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c192_i32 : BitVec 32 := 192#32
  let v443 : BitVec 32 := Scalar.muli v115 c192_i32
  let v444 : BitVec 32 := Scalar.addi c0_i32_375 v443
  let c1_i32_133 : BitVec 32 := 1#32
  let v116 : BitVec 32 := Scalar.shrsi v2 c1_i32_133
  let c1_i32_134 : BitVec 32 := 1#32
  let v117 : BitVec 32 := Scalar.andi v116 c1_i32_134
  let c96_i32 : BitVec 32 := 96#32
  let v691 : BitVec 32 := Scalar.muli v117 c96_i32
  let v692 : BitVec 32 := Scalar.addi v444 v691
  let c2_i32_135 : BitVec 32 := 2#32
  let v118 : BitVec 32 := Scalar.shrsi v2 c2_i32_135
  let c1_i32_136 : BitVec 32 := 1#32
  let v119 : BitVec 32 := Scalar.andi v118 c1_i32_136
  let c48_i32 : BitVec 32 := 48#32
  let v967 : BitVec 32 := Scalar.muli v119 c48_i32
  let v968 : BitVec 32 := Scalar.addi v692 v967
  let c48_i32_765 : BitVec 32 := 48#32
  let v1059 : BitVec 32 := Scalar.muli v119 c48_i32_765
  let v1060 : BitVec 32 := Scalar.subi v968 v1059
  let c0_i32_839 : BitVec 32 := 0#32
  ![v1060.toNat, 0]
def k0_dev15 (d0 : Dev nD) : Nat :=
  let c0_i32_838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v108 : BitVec 32 := Scalar.andi v2 c4_i32_127
  let c3_i32_128 : BitVec 32 := 3#32
  let v109 : BitVec 32 := Scalar.andi v2 c3_i32_128
  let c3_i32_129 : BitVec 32 := 3#32
  let v110 : BitVec 32 := Scalar.xori v109 c3_i32_129
  let v111 : BitVec 32 := Scalar.ori v108 v110
  let c1_i32_837 : BitVec 32 := 1#32
  let v1125 : BitVec 32 := Scalar.muli v111 c1_i32_837
  let v1126 : BitVec 32 := Scalar.addi c0_i32_838 v1125
  v1126.toNat
def k0_off23 (d0 : Dev nD) : Fin 2 → Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v118 : BitVec 32 := Scalar.shrsi v2 c2_i32_135
  let c1_i32_136 : BitVec 32 := 1#32
  let v119 : BitVec 32 := Scalar.andi v118 c1_i32_136
  let c128_i32 : BitVec 32 := 128#32
  let v911 : BitVec 32 := Scalar.muli v119 c128_i32
  let v912 : BitVec 32 := Scalar.addi c0_i32_622 v911
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c64_i32_703 : BitVec 32 := 64#32
  let v995 : BitVec 32 := Scalar.muli v115 c64_i32_703
  let v996 : BitVec 32 := Scalar.addi v912 v995
  let c1_i32_133 : BitVec 32 := 1#32
  let v116 : BitVec 32 := Scalar.shrsi v2 c1_i32_133
  let c1_i32_134 : BitVec 32 := 1#32
  let v117 : BitVec 32 := Scalar.andi v116 c1_i32_134
  let c32_i32 : BitVec 32 := 32#32
  let v1077 : BitVec 32 := Scalar.muli v117 c32_i32
  let v1078 : BitVec 32 := Scalar.addi v996 v1077
  let v1143 : Index := Scalar.indexCast v1078
  let c0_855 : Index := 0#32
  ![v1143.toNat, 0]
def k0_off24 (d0 : Dev nD) : Fin 2 → Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v118 : BitVec 32 := Scalar.shrsi v2 c2_i32_135
  let c1_i32_136 : BitVec 32 := 1#32
  let v119 : BitVec 32 := Scalar.andi v118 c1_i32_136
  let c128_i32 : BitVec 32 := 128#32
  let v911 : BitVec 32 := Scalar.muli v119 c128_i32
  let v912 : BitVec 32 := Scalar.addi c0_i32_622 v911
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c64_i32_703 : BitVec 32 := 64#32
  let v995 : BitVec 32 := Scalar.muli v115 c64_i32_703
  let v996 : BitVec 32 := Scalar.addi v912 v995
  let c1_i32_133 : BitVec 32 := 1#32
  let v116 : BitVec 32 := Scalar.shrsi v2 c1_i32_133
  let c1_i32_134 : BitVec 32 := 1#32
  let v117 : BitVec 32 := Scalar.andi v116 c1_i32_134
  let c32_i32 : BitVec 32 := 32#32
  let v1077 : BitVec 32 := Scalar.muli v117 c32_i32
  let v1078 : BitVec 32 := Scalar.addi v996 v1077
  let c0_i32_865 : BitVec 32 := 0#32
  ![v1078.toNat, 0]
def k0_dev16 (d0 : Dev nD) : Nat :=
  let c0_i32_864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v108 : BitVec 32 := Scalar.andi v2 c4_i32_127
  let c3_i32_128 : BitVec 32 := 3#32
  let v109 : BitVec 32 := Scalar.andi v2 c3_i32_128
  let c3_i32_129 : BitVec 32 := 3#32
  let v110 : BitVec 32 := Scalar.xori v109 c3_i32_129
  let v111 : BitVec 32 := Scalar.ori v108 v110
  let c1_i32_863 : BitVec 32 := 1#32
  let v1151 : BitVec 32 := Scalar.muli v111 c1_i32_863
  let v1152 : BitVec 32 := Scalar.addi c0_i32_864 v1151
  v1152.toNat
def k0_off25 (d0 : Dev nD) : Fin 2 → Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v116 : BitVec 32 := Scalar.shrsi v2 c1_i32_133
  let c1_i32_134 : BitVec 32 := 1#32
  let v117 : BitVec 32 := Scalar.andi v116 c1_i32_134
  let c192_i32_485 : BitVec 32 := 192#32
  let v663 : BitVec 32 := Scalar.muli v117 c192_i32_485
  let v664 : BitVec 32 := Scalar.addi c0_i32_486 v663
  let c2_i32_135 : BitVec 32 := 2#32
  let v118 : BitVec 32 := Scalar.shrsi v2 c2_i32_135
  let c1_i32_136 : BitVec 32 := 1#32
  let v119 : BitVec 32 := Scalar.andi v118 c1_i32_136
  let c96_i32_650 : BitVec 32 := 96#32
  let v939 : BitVec 32 := Scalar.muli v119 c96_i32_650
  let v940 : BitVec 32 := Scalar.addi v664 v939
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c48_i32_730 : BitVec 32 := 48#32
  let v1023 : BitVec 32 := Scalar.muli v115 c48_i32_730
  let v1024 : BitVec 32 := Scalar.addi v940 v1023
  let c48_i32_817 : BitVec 32 := 48#32
  let v1113 : BitVec 32 := Scalar.muli v115 c48_i32_817
  let v1114 : BitVec 32 := Scalar.subi v1024 v1113
  let c0_i32_889 : BitVec 32 := 0#32
  ![v1114.toNat, 0]
def k0_dev17 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v112 : BitVec 32 := Scalar.xori v2 c4_i32_130
  let c1_i32_887 : BitVec 32 := 1#32
  let v1171 : BitVec 32 := Scalar.muli v112 c1_i32_887
  let v1172 : BitVec 32 := Scalar.addi c0_i32_888 v1171
  v1172.toNat
def k0_off26 (d0 : Dev nD) : Fin 2 → Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c192_i32 : BitVec 32 := 192#32
  let v443 : BitVec 32 := Scalar.muli v115 c192_i32
  let v444 : BitVec 32 := Scalar.addi c0_i32_375 v443
  let c1_i32_133 : BitVec 32 := 1#32
  let v116 : BitVec 32 := Scalar.shrsi v2 c1_i32_133
  let c1_i32_134 : BitVec 32 := 1#32
  let v117 : BitVec 32 := Scalar.andi v116 c1_i32_134
  let c96_i32 : BitVec 32 := 96#32
  let v691 : BitVec 32 := Scalar.muli v117 c96_i32
  let v692 : BitVec 32 := Scalar.addi v444 v691
  let c2_i32_135 : BitVec 32 := 2#32
  let v118 : BitVec 32 := Scalar.shrsi v2 c2_i32_135
  let c1_i32_136 : BitVec 32 := 1#32
  let v119 : BitVec 32 := Scalar.andi v118 c1_i32_136
  let c48_i32 : BitVec 32 := 48#32
  let v967 : BitVec 32 := Scalar.muli v119 c48_i32
  let v968 : BitVec 32 := Scalar.addi v692 v967
  let c48_i32_765 : BitVec 32 := 48#32
  let v1059 : BitVec 32 := Scalar.muli v119 c48_i32_765
  let v1060 : BitVec 32 := Scalar.subi v968 v1059
  let c96_i32_841 : BitVec 32 := 96#32
  let v1133 : BitVec 32 := Scalar.muli v117 c96_i32_841
  let v1134 : BitVec 32 := Scalar.subi v1060 v1133
  let c0_i32_913 : BitVec 32 := 0#32
  ![v1134.toNat, 0]
def k0_dev18 (d0 : Dev nD) : Nat :=
  let c0_i32_912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v107 : BitVec 32 := Scalar.xori v2 c1_i32_126
  let c1_i32_911 : BitVec 32 := 1#32
  let v1191 : BitVec 32 := Scalar.muli v107 c1_i32_911
  let v1192 : BitVec 32 := Scalar.addi c0_i32_912 v1191
  v1192.toNat
def k0_off27 (d0 : Dev nD) : Fin 2 → Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v118 : BitVec 32 := Scalar.shrsi v2 c2_i32_135
  let c1_i32_136 : BitVec 32 := 1#32
  let v119 : BitVec 32 := Scalar.andi v118 c1_i32_136
  let c128_i32 : BitVec 32 := 128#32
  let v911 : BitVec 32 := Scalar.muli v119 c128_i32
  let v912 : BitVec 32 := Scalar.addi c0_i32_622 v911
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c64_i32_703 : BitVec 32 := 64#32
  let v995 : BitVec 32 := Scalar.muli v115 c64_i32_703
  let v996 : BitVec 32 := Scalar.addi v912 v995
  let c1_i32_133 : BitVec 32 := 1#32
  let v116 : BitVec 32 := Scalar.shrsi v2 c1_i32_133
  let c1_i32_134 : BitVec 32 := 1#32
  let v117 : BitVec 32 := Scalar.andi v116 c1_i32_134
  let c32_i32 : BitVec 32 := 32#32
  let v1077 : BitVec 32 := Scalar.muli v117 c32_i32
  let v1078 : BitVec 32 := Scalar.addi v996 v1077
  let c32_i32_867 : BitVec 32 := 32#32
  let v1159 : BitVec 32 := Scalar.muli v117 c32_i32_867
  let v1160 : BitVec 32 := Scalar.subi v1078 v1159
  let c0_i32_936 : BitVec 32 := 0#32
  ![v1160.toNat, 0]
def k0_dev19 (d0 : Dev nD) : Nat :=
  let c0_i32_935 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_126 : BitVec 32 := 1#32
  let v107 : BitVec 32 := Scalar.xori v2 c1_i32_126
  let c1_i32_934 : BitVec 32 := 1#32
  let v1209 : BitVec 32 := Scalar.muli v107 c1_i32_934
  let v1210 : BitVec 32 := Scalar.addi c0_i32_935 v1209
  v1210.toNat
def k0_off28 (d0 : Dev nD) : Fin 2 → Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_133 : BitVec 32 := 1#32
  let v116 : BitVec 32 := Scalar.shrsi v2 c1_i32_133
  let c1_i32_134 : BitVec 32 := 1#32
  let v117 : BitVec 32 := Scalar.andi v116 c1_i32_134
  let c192_i32_485 : BitVec 32 := 192#32
  let v663 : BitVec 32 := Scalar.muli v117 c192_i32_485
  let v664 : BitVec 32 := Scalar.addi c0_i32_486 v663
  let c2_i32_135 : BitVec 32 := 2#32
  let v118 : BitVec 32 := Scalar.shrsi v2 c2_i32_135
  let c1_i32_136 : BitVec 32 := 1#32
  let v119 : BitVec 32 := Scalar.andi v118 c1_i32_136
  let c96_i32_650 : BitVec 32 := 96#32
  let v939 : BitVec 32 := Scalar.muli v119 c96_i32_650
  let v940 : BitVec 32 := Scalar.addi v664 v939
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c48_i32_730 : BitVec 32 := 48#32
  let v1023 : BitVec 32 := Scalar.muli v115 c48_i32_730
  let v1024 : BitVec 32 := Scalar.addi v940 v1023
  let c48_i32_817 : BitVec 32 := 48#32
  let v1113 : BitVec 32 := Scalar.muli v115 c48_i32_817
  let v1114 : BitVec 32 := Scalar.subi v1024 v1113
  let c96_i32_891 : BitVec 32 := 96#32
  let v1179 : BitVec 32 := Scalar.muli v119 c96_i32_891
  let v1180 : BitVec 32 := Scalar.subi v1114 v1179
  let c0_i32_960 : BitVec 32 := 0#32
  ![v1180.toNat, 0]
def k0_dev20 (d0 : Dev nD) : Nat :=
  let c0_i32_959 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_127 : BitVec 32 := 4#32
  let v108 : BitVec 32 := Scalar.andi v2 c4_i32_127
  let c3_i32_128 : BitVec 32 := 3#32
  let v109 : BitVec 32 := Scalar.andi v2 c3_i32_128
  let c3_i32_129 : BitVec 32 := 3#32
  let v110 : BitVec 32 := Scalar.xori v109 c3_i32_129
  let v111 : BitVec 32 := Scalar.ori v108 v110
  let c1_i32_958 : BitVec 32 := 1#32
  let v1229 : BitVec 32 := Scalar.muli v111 c1_i32_958
  let v1230 : BitVec 32 := Scalar.addi c0_i32_959 v1229
  v1230.toNat
def k0_off29 (d0 : Dev nD) : Fin 2 → Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_135 : BitVec 32 := 2#32
  let v118 : BitVec 32 := Scalar.shrsi v2 c2_i32_135
  let c1_i32_136 : BitVec 32 := 1#32
  let v119 : BitVec 32 := Scalar.andi v118 c1_i32_136
  let c128_i32 : BitVec 32 := 128#32
  let v911 : BitVec 32 := Scalar.muli v119 c128_i32
  let v912 : BitVec 32 := Scalar.addi c0_i32_622 v911
  let c1_i32_131 : BitVec 32 := 1#32
  let v113 : BitVec 32 := Scalar.shrsi v2 c1_i32_131
  let v114 : BitVec 32 := Scalar.xori v2 v113
  let c1_i32_132 : BitVec 32 := 1#32
  let v115 : BitVec 32 := Scalar.andi v114 c1_i32_132
  let c64_i32_703 : BitVec 32 := 64#32
  let v995 : BitVec 32 := Scalar.muli v115 c64_i32_703
  let v996 : BitVec 32 := Scalar.addi v912 v995
  let c1_i32_133 : BitVec 32 := 1#32
  let v116 : BitVec 32 := Scalar.shrsi v2 c1_i32_133
  let c1_i32_134 : BitVec 32 := 1#32
  let v117 : BitVec 32 := Scalar.andi v116 c1_i32_134
  let c32_i32 : BitVec 32 := 32#32
  let v1077 : BitVec 32 := Scalar.muli v117 c32_i32
  let v1078 : BitVec 32 := Scalar.addi v996 v1077
  let c32_i32_867 : BitVec 32 := 32#32
  let v1159 : BitVec 32 := Scalar.muli v117 c32_i32_867
  let v1160 : BitVec 32 := Scalar.subi v1078 v1159
  let c64_i32_938 : BitVec 32 := 64#32
  let v1217 : BitVec 32 := Scalar.muli v115 c64_i32_938
  let v1218 : BitVec 32 := Scalar.subi v1160 v1217
  let c0_i32_1003 : BitVec 32 := 0#32
  ![v1218.toNat, 0]
def k0_dev21 (d0 : Dev nD) : Nat :=
  let c0_i32_1002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v112 : BitVec 32 := Scalar.xori v2 c4_i32_130
  let c1_i32_1001 : BitVec 32 := 1#32
  let v1262 : BitVec 32 := Scalar.muli v112 c1_i32_1001
  let v1263 : BitVec 32 := Scalar.addi c0_i32_1002 v1262
  v1263.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x8192 : Shape := ⟨2, ![1024, 8192]⟩
abbrev S1024x64x128 : Shape := ⟨3, ![1024, 64, 128]⟩
abbrev S8192x1024 : Shape := ⟨2, ![8192, 1024]⟩
abbrev S1x1024x1024 : Shape := ⟨3, ![1, 1024, 1024]⟩
abbrev S1x1024x64x128 : Shape := ⟨4, ![1, 1024, 64, 128]⟩
abbrev S1x1024x8192 : Shape := ⟨3, ![1, 1024, 8192]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 92
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8192, .f32⟩
  | .hbm, ⟨2, _⟩ => ⟨S1024x64x128, .f32⟩
  | .hbm, ⟨3, _⟩ => ⟨S1024x64x128, .f32⟩
  | .hbm, ⟨4, _⟩ => ⟨S8192x1024, .f32⟩
  | .hbm, ⟨5, _⟩ => ⟨S1x1024x1024, .f32⟩
  | .hbm, ⟨6, _⟩ => ⟨S1x1024x64x128, .f32⟩
  | .hbm, ⟨7, _⟩ => ⟨S1x1024x64x128, .f32⟩
  | .hbm, ⟨8, _⟩ => ⟨S1x1024x8192, .f32⟩
  | .hbm, ⟨9, _⟩ => ⟨S1x1024x64x128, .f32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1024, .i32⟩
  | .hbm, ⟨31, _⟩ => ⟨S_, .i32⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1x1024, .i32⟩
  | .hbm, ⟨50, _⟩ => ⟨S1024x1024, .i32⟩
  | .hbm, ⟨51, _⟩ => ⟨S1024x1024, .i32⟩
  | .hbm, ⟨52, _⟩ => ⟨S1024x1024, .i1⟩
  | .hbm, ⟨53, _⟩ => ⟨S1x64x1024x1024, .f32⟩
  | .hbm, ⟨54, _⟩ => ⟨S_, .f32⟩
  | .hbm, ⟨55, _⟩ => ⟨S1x64x1024x1024, .f32⟩
  | .hbm, ⟨56, _⟩ => ⟨S1x64x1024x1024, .f32⟩
  | .hbm, ⟨57, _⟩ => ⟨S1x1x1024x1024, .i1⟩
  | .hbm, ⟨58, _⟩ => ⟨S_, .f32⟩
  | .hbm, ⟨59, _⟩ => ⟨S_, .f32⟩
  | .hbm, ⟨60, _⟩ => ⟨S1x64x1024x1024, .i1⟩
  | .hbm, ⟨61, _⟩ => ⟨S1x64x1024x1024, .f32⟩
  | .hbm, ⟨62, _⟩ => ⟨S1x64x1024x1024, .f32⟩
  | .hbm, ⟨63, _⟩ => ⟨S_, .f32⟩
  | .hbm, ⟨64, _⟩ => ⟨S1x64x1024, .f32⟩
  | .hbm, ⟨65, _⟩ => ⟨S1x64x1024x1, .f32⟩
  | .hbm, ⟨66, _⟩ => ⟨S1x64x1024x1024, .f32⟩
  | .hbm, ⟨67, _⟩ => ⟨S1x64x1024x1024, .f32⟩
  | .hbm, ⟨68, _⟩ => ⟨S1x64x1024x1024, .f32⟩
  | .hbm, ⟨69, _⟩ => ⟨S_, .i1⟩
  | .hbm, ⟨70, _⟩ => ⟨S1024, .i1⟩
  | .hbm, ⟨71, _⟩ => ⟨S1x1x1024x1, .i1⟩
  | .hbm, ⟨72, _⟩ => ⟨S_, .f32⟩
  | .hbm, ⟨73, _⟩ => ⟨S1x64x1024, .f32⟩
  | .hbm, ⟨74, _⟩ => ⟨S1x64x1024x1, .f32⟩
  | .hbm, ⟨75, _⟩ => ⟨S_, .f32⟩
  | .hbm, ⟨76, _⟩ => ⟨S_, .f32⟩
  | .hbm, ⟨77, _⟩ => ⟨S1x64x1024x1, .i1⟩
  | .hbm, ⟨78, _⟩ => ⟨S1x64x1024x1, .f32⟩
  | .hbm, ⟨79, _⟩ => ⟨S1x64x1024x1, .f32⟩
  | .hbm, ⟨80, _⟩ => ⟨S1x64x1024x1024, .f32⟩
  | .hbm, ⟨81, _⟩ => ⟨S1x64x1024x1024, .f32⟩
  | .hbm, ⟨82, _⟩ => ⟨S1x1x1024x1, .i1⟩
  | .hbm, ⟨83, _⟩ => ⟨S_, .f32⟩
  | .hbm, ⟨84, _⟩ => ⟨S_, .f32⟩
  | .hbm, ⟨85, _⟩ => ⟨S1x64x1024x1024, .i1⟩
  | .hbm, ⟨86, _⟩ => ⟨S1x64x1024x1024, .f32⟩
  | .hbm, ⟨87, _⟩ => ⟨S1x64x1024x1024, .f32⟩
  | .hbm, ⟨88, _⟩ => ⟨S1x64x128x1024, .f32⟩
  | .hbm, ⟨89, _⟩ => ⟨S1x1024x64x128, .f32⟩
  | .hbm, ⟨90, _⟩ => ⟨S1x1024x8192, .f32⟩
  | .hbm, ⟨91, _⟩ => ⟨S1x1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_cst : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_cst_1 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v18 : Ref sig .tc := ⟨.hbm, 62, rfl⟩
abbrev main_cst_2 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_c_3 : Ref sig .tc := ⟨.hbm, 69, rfl⟩
abbrev main_v24 : Ref sig .tc := ⟨.hbm, 70, rfl⟩
abbrev main_v25 : Ref sig .tc := ⟨.hbm, 71, rfl⟩
abbrev main_cst_4 : Ref sig .tc := ⟨.hbm, 72, rfl⟩
abbrev main_v26 : Ref sig .tc := ⟨.hbm, 73, rfl⟩
abbrev main_v27 : Ref sig .tc := ⟨.hbm, 74, rfl⟩
abbrev main_cst_5 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_cst_6 : Ref sig .tc := ⟨.hbm, 83, rfl⟩
abbrev main_call4_v0 : Ref sig .tc := ⟨.hbm, 84, rfl⟩
abbrev main_call4_v1 : Ref sig .tc := ⟨.hbm, 85, rfl⟩
abbrev main_call4_v2 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩

abbrev nD : Nat := 1
abbrev τ : Topo := Topo.v7x

variable {F : FTy → Type} [FloatOps F]
-- ==== Proof.Ranges.lean ====
/-
# The exchange's arithmetic: partners, row ranges, and the rows of a buffer

Each of the eight devices halves, three times over, the range of rows of a working buffer it is responsible for, and
doubles it again three times. This module states the partners, the ranges, the facts about them (decided over the eight
devices), and what a range of rows of a buffer is as a set of elements.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Partners and ranges -/

/-- The partner of device `c` in direction `d`: across the first, the second or the third dimension of the cube. -/
def pd (d : Fin 3) (c : Dev nD) : Dev nD :=
  (![![1, 0, 3, 2, 5, 4, 7, 6], ![3, 2, 1, 0, 7, 6, 5, 4], ![4, 5, 6, 7, 0, 1, 2, 3]] : Fin 3 → Fin 8 → Fin 8) d c

/-- Which half device `c` keeps in direction `d`. -/
def bit (d : Fin 3) (c : Dev nD) : Nat :=
  (![![0, 1, 1, 0, 0, 1, 1, 0], ![0, 0, 1, 1, 0, 0, 1, 1], ![0, 0, 0, 0, 1, 1, 1, 1]] : Fin 3 → Fin 8 → Nat) d c

/-- The direction of part `t`'s step `r`. -/
def dir (t : Fin 3) (r : Nat) : Fin 3 := ⟨(t.val + r) % 3, Nat.mod_lt _ (by decide)⟩

/-- The partner of device `c` in part `t`'s step `r`. -/
abbrev pr (t : Fin 3) (r : Nat) (c : Dev nD) : Dev nD := pd (dir t r) c

/-- The rows of part `t`. -/
def nT (t : Fin 3) : Nat := if t = 2 then 256 else 384

/-- The rows of the range a device holds of part `t` after `r` halvings. -/
def nn (t : Fin 3) (r : Nat) : Nat := nT t / 2 ^ r

/-- The first row of the range device `c` holds of part `t` after `r` halvings. -/
def lo (t : Fin 3) : Nat → Dev nD → Nat
  | 0, _ => 0
  | r + 1, c => lo t r c + bit (dir t r) c * nn t (r + 1)

theorem pd_pd (d : Fin 3) (c : Dev nD) : pd d (pd d c) = c := by revert d c; decide

/-- The partners in direction `d`, as a permutation of the devices. -/
def pdEquiv (d : Fin 3) : Dev nD ≃ Dev nD := ⟨pd d, pd d, pd_pd d, pd_pd d⟩

theorem pd_ne (d : Fin 3) (c : Dev nD) : pd d c ≠ c := by revert d c; decide
theorem pd_inj_dir (d d' : Fin 3) (c : Dev nD) (h : pd d c = pd d' c) : d = d' := by revert d d' c; decide

/-- Partners hold the same range before the step that makes them partners. -/
theorem lo_pr (t : Fin 3) (r : Fin 3) (c : Dev nD) : lo t r (pr t r c) = lo t r c := by
  revert t r c; decide +kernel

/-- The two halves of a range: one partner keeps the lower, the other the upper. -/
theorem lo_halves (t : Fin 3) (r : Fin 3) (c : Dev nD) :
    (lo t (r + 1) c = lo t r c ∧ lo t (r + 1) (pr t r c) = lo t r c + nn t (r + 1)) ∨
      (lo t (r + 1) (pr t r c) = lo t r c ∧ lo t (r + 1) c = lo t r c + nn t (r + 1)) := by
  revert t r c; decide +kernel

theorem nn_double (t : Fin 3) (r : Fin 3) : nn t r = nn t (r + 1) + nn t (r + 1) := by
  revert t r; decide +kernel

theorem lo_le (t : Fin 3) (r : Fin 4) (c : Dev nD) : lo t r c + nn t r ≤ nT t := by
  revert t r c; decide +kernel

theorem nn_pos (t : Fin 3) (r : Fin 4) : 0 < nn t r := by revert t r; decide +kernel

/-- The device that holds the `k`-th eighth of part `t` after the three halvings. -/
def ownDev (t : Fin 3) (k : Nat) : Dev nD :=
  ((List.finRange 8).find? fun c : Dev nD => lo t 3 c == k * nn t 3).getD 0

theorem ownDev_lo (t : Fin 3) (c : Dev nD) : ownDev t (lo t 3 c / nn t 3) = c := by
  revert t c; decide +kernel
theorem lo_dvd (t : Fin 3) (c : Dev nD) : lo t 3 c / nn t 3 * nn t 3 = lo t 3 c := by
  revert t c; decide +kernel

theorem ownDev_row (t : Fin 3) (c : Dev nD) (i : Nat) (h : lo t 3 c ≤ i) (h' : i < lo t 3 c + nn t 3) :
    ownDev t (i / nn t 3) = c := by
  have hd : i / nn t 3 = lo t 3 c / nn t 3 := by
    have h1 := lo_dvd t c
    have h2 := nn_pos t 3
    refine Nat.div_eq_of_lt_le ?_ ?_
    · omega
    · rw [Nat.add_mul, one_mul]; omega
  rw [hd, ownDev_lo]

/-! ## The rows of a buffer -/

/-- Index `a` of a buffer's element, and zero where the buffer has fewer dimensions. -/
def ixAt {s : Shape} (a : Nat) (i : s.Idx) : Nat := if h : a < s.rank then (i ⟨a, h⟩).val else 0

/-- The elements of a buffer in rows `n` from row `l`. -/
def rows (s : Shape) (l n : Nat) : Finset s.Idx := Finset.univ.filter fun i => l ≤ ixAt 0 i ∧ ixAt 0 i < l + n

theorem mem_rows {s : Shape} {l n : Nat} {i : s.Idx} : i ∈ rows s l n ↔ l ≤ ixAt 0 i ∧ ixAt 0 i < l + n := by
  simp [rows]

/-- Contents given by row and column. -/
def rc {s : Shape} {α : Type} (g : Nat → Nat → α) : s.Idx → α := fun i => g (ixAt 0 i) (ixAt 1 i)

theorem rows_disjoint {s : Shape} {l n l' n' : Nat} (h : l + n ≤ l' ∨ l' + n' ≤ l) : Disjoint (rows s l n) (rows s l' n') := by
  rw [Finset.disjoint_left]
  intro i hi hi'
  rw [mem_rows] at hi hi'
  omega

theorem rows_union {s : Shape} {l n n' : Nat} : rows s l n ∪ rows s (l + n) n' = rows s l (n + n') := by
  ext i; simp only [Finset.mem_union, mem_rows]; omega

theorem ixAt_lt {s : Shape} {a : Nat} (h : a < s.rank) (i : s.Idx) : ixAt a i < s.size ⟨a, h⟩ := by
  unfold ixAt; rw [dif_pos h]; exact (i ⟨a, h⟩).isLt

theorem rows_univ {s : Shape} {n : Nat} (h : 0 < s.rank) (hn : s.size ⟨0, h⟩ = n) : rows s 0 n = Finset.univ := by
  ext i; simp only [mem_rows, Finset.mem_univ, iff_true]
  have := ixAt_lt h i
  omega

/-- Contents by row and column of an array of two dimensions. -/
def toRC {m n : Nat} {α : Type} (hm : 0 < m) (hn : 0 < n) (f : Shape.Idx ⟨2, ![m, n]⟩ → α) : Nat → Nat → α :=
  fun i j => f fun a => ⟨(if a = 0 then i else j) % (⟨2, ![m, n]⟩ : Shape).size a, Nat.mod_lt _ (by
    match a with
    | 0 => exact hm
    | 1 => exact hn)⟩

theorem rc_toRC {m n : Nat} {α : Type} (hm : 0 < m) (hn : 0 < n) (f : Shape.Idx ⟨2, ![m, n]⟩ → α) :
    rc (toRC hm hn f) = f := by
  funext i
  unfold rc toRC
  congr 1
  funext a
  apply Fin.ext
  match a with
  | 0 => exact Nat.mod_eq_of_lt (i 0).isLt
  | 1 => exact Nat.mod_eq_of_lt (i 1).isLt

/-! ## Slices of rows -/

section Slice

variable {F : FTy → Type} [FloatOps F] (b : Ref sig .tc)

/-- A slice of whole rows covers those rows. -/
theorem slice_set {off size : Fin b.ty.shape.rank → Nat} (inb) (h2 : b.ty.shape.rank = 2) {l n : Nat}
    (h0 : ∀ a : Fin b.ty.shape.rank, a.val = 0 → off a = l ∧ size a = n)
    (h1 : ∀ a : Fin b.ty.shape.rank, a.val = 1 → off a = 0 ∧ size a = b.ty.shape.size a) :
    ((View.whole b).slice (Rect.unit off size inb)).set = rows b.ty.shape l n := by
  rw [View.set_slice_whole]
  ext i
  rw [Rect.mem_set_unit, mem_rows]
  have hr : (0 : Nat) < b.ty.shape.rank := by omega
  have e : ixAt 0 i = (i ⟨0, hr⟩).val := by unfold ixAt; rw [dif_pos hr]
  constructor
  · intro h
    have := h ⟨0, hr⟩
    rw [(h0 ⟨0, hr⟩ rfl).1, (h0 ⟨0, hr⟩ rfl).2] at this
    rw [e]; exact this
  · intro h a
    rcases Nat.lt_or_ge a.val 1 with ha | ha
    · have ha' : a = ⟨0, hr⟩ := Fin.ext (by simpa using ha)
      subst ha'
      rw [(h0 _ rfl).1, (h0 _ rfl).2, ← e]; exact h
    · have ha' : a.val = 1 := by have := a.isLt; omega
      rw [(h1 a ha').1, (h1 a ha').2]
      exact ⟨Nat.zero_le _, by have := (i a).isLt; omega⟩

end Slice

end Cert.Exchange

end
-- ==== Proof.Values.lean ====
/-
# What the kernel computes before the exchange

The three blocks of rows each device computes from its own arguments (its share of the heads), as the compositions of the
kernel's own payloads over the arrays it reads: the two weight slices, `x`, and the heads' keys and values.
-/
module

public import proofs.«01_k».proof.Proof.Ranges

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The reads -/

theorem hb0 (h : Nat) (hh : h < 8) : ∀ a, (![h, 0, 0] : Fin 3 → Nat) a + S1x384x128.size a ≤ S8x1024x128.size a := by
  intro a; match a with
  | 0 => show h + 1 ≤ 8; omega
  | 1 => show 0 + 384 ≤ 1024; omega
  | 2 => show 0 + 128 ≤ 128; omega
theorem hb1 (h : Nat) (hh : h < 8) : ∀ a, (![h, 0, 0] : Fin 3 → Nat) a + S1x768x128.size a ≤ S8x1024x128.size a := by
  intro a; match a with
  | 0 => show h + 1 ≤ 8; omega
  | 1 => show 0 + 768 ≤ 1024; omega
  | 2 => show 0 + 128 ≤ 128; omega
theorem hb2 (h : Nat) (hh : h < 8) : ∀ a, (![h, 0, 0] : Fin 3 → Nat) a + S1x1024x128.size a ≤ S8x1024x128.size a := by
  intro a; match a with
  | 0 => show h + 1 ≤ 8; omega
  | 1 => show 0 + 1024 ≤ 1024; omega
  | 2 => show 0 + 128 ≤ 128; omega

/-- The first 384 rows of head `h` of the keys; -/
abbrev kh0 (h : Nat) (hh : h < 8) (k : Vec F S8x1024x128 .f32) : Vec F S1x384x128 .f32 :=
  (Memref.whole cc0_scratch2 : Memref sig .tc .vmem S8x1024x128 .f32).view.readAt (Elt F) (Rect.unit (s := S8x1024x128) ![h, 0, 0] S1x384x128.size (hb0 h hh)).toLoadRect k
/-- of the values; -/
abbrev vh0 (h : Nat) (hh : h < 8) (v : Vec F S8x1024x128 .f32) : Vec F S1x384x128 .f32 :=
  (Memref.whole cc0_scratch3 : Memref sig .tc .vmem S8x1024x128 .f32).view.readAt (Elt F) (Rect.unit (s := S8x1024x128) ![h, 0, 0] S1x384x128.size (hb0 h hh)).toLoadRect v
/-- the first 768 rows of head `h` of the keys; -/
abbrev kh1 (h : Nat) (hh : h < 8) (k : Vec F S8x1024x128 .f32) : Vec F S1x768x128 .f32 :=
  (Memref.whole cc0_scratch2 : Memref sig .tc .vmem S8x1024x128 .f32).view.readAt (Elt F) (Rect.unit (s := S8x1024x128) ![h, 0, 0] S1x768x128.size (hb1 h hh)).toLoadRect k
/-- of the values; -/
abbrev vh1 (h : Nat) (hh : h < 8) (v : Vec F S8x1024x128 .f32) : Vec F S1x768x128 .f32 :=
  (Memref.whole cc0_scratch3 : Memref sig .tc .vmem S8x1024x128 .f32).view.readAt (Elt F) (Rect.unit (s := S8x1024x128) ![h, 0, 0] S1x768x128.size (hb1 h hh)).toLoadRect v
/-- all rows of head `h` of the keys; -/
abbrev kh2 (h : Nat) (hh : h < 8) (k : Vec F S8x1024x128 .f32) : Vec F S1x1024x128 .f32 :=
  (Memref.whole cc0_scratch2 : Memref sig .tc .vmem S8x1024x128 .f32).view.readAt (Elt F) (Rect.unit (s := S8x1024x128) ![h, 0, 0] S1x1024x128.size (hb2 h hh)).toLoadRect k
/-- of the values. -/
abbrev vh2 (h : Nat) (hh : h < 8) (v : Vec F S8x1024x128 .f32) : Vec F S1x1024x128 .f32 :=
  (Memref.whole cc0_scratch3 : Memref sig .tc .vmem S8x1024x128 .f32).view.readAt (Elt F) (Rect.unit (s := S8x1024x128) ![h, 0, 0] S1x1024x128.size (hb2 h hh)).toLoadRect v

/-- The first 384 rows of `x`, -/
abbrev x0 (x : Vec F S1024x1024 .f32) : Vec F S384x1024 .f32 :=
  (Memref.whole cc0_stg0_0 : Memref sig .tc .vmem S1024x1024 .f32).view.readAt (Elt F) (Rect.unit (s := S1024x1024) ![0, 0] S384x1024.size inb_S1024x1024_S384x1024_0_0).toLoadRect x
/-- the next 384 rows, -/
abbrev x1 (x : Vec F S1024x1024 .f32) : Vec F S384x1024 .f32 :=
  (Memref.whole cc0_stg0_0 : Memref sig .tc .vmem S1024x1024 .f32).view.readAt (Elt F) (Rect.unit (s := S1024x1024) ![384, 0] S384x1024.size inb_S1024x1024_S384x1024_384_0).toLoadRect x
/-- the last 256 rows. -/
abbrev x2 (x : Vec F S1024x1024 .f32) : Vec F S256x1024 .f32 :=
  (Memref.whole cc0_stg0_0 : Memref sig .tc .vmem S1024x1024 .f32).view.readAt (Elt F) (Rect.unit (s := S1024x1024) ![768, 0] S256x1024.size inb_S1024x1024_S256x1024_768_0).toLoadRect x

/-! ## The blocks -/

/-- The words the kernel hands between its parts for the first block's mask. -/
abbrev w253 : BitVec 32 := Scalar.extui (Scalar.cmpi .sgt 64#32 0#32)
abbrev w254 : BitVec 1 := Scalar.cmpi .slt 64#32 0#32

section
variable (wq wo x : Vec F S1024x1024 .f32) (k v : Vec F S8x1024x128 .f32)

/-- The first block's queries and mask. -/
abbrev q0 : FVec F S384x1024 .bf16 := k0_pay4 wq (x0 x)
abbrev m0 : IVec S384x384 1 := k0_pay8 k0_pay5 64#32 k0_pay6 k0_pay7 w253 w254

/-- The first block of rows, as the kernel stores it: from the queries, the mask, and the heads one by one. -/
def part0 : Vec F S384x1024 .bf16 :=
  k0_pay21 (k0_pay3 wo) (q0 wq x) m0
    (k0_pay10 (k0_pay9 (q0 wq x) k0_pay5 64#32 k0_pay6 k0_pay7 w253 w254 (kh0 0 (by decide) k)) (vh0 0 (by decide) v))
    (k0_pay11 (q0 wq x) m0 (kh0 1 (by decide) k) (vh0 1 (by decide) v))
    (k0_pay14 (k0_pay12 (q0 wq x) m0 (kh0 2 (by decide) k)) (k0_pay13 (q0 wq x) m0 (kh0 2 (by decide) k)) (vh0 2 (by decide) v))
    (k0_pay15 (q0 wq x) m0 (kh0 3 (by decide) k) (vh0 3 (by decide) v))
    (k0_pay17 (k0_pay16 (q0 wq x) m0 (kh0 4 (by decide) k)) (vh0 4 (by decide) v))
    (k0_pay18 (q0 wq x) m0 (kh0 5 (by decide) k) (vh0 5 (by decide) v))
    (k0_pay19 (q0 wq x) m0 (kh0 6 (by decide) k)) (k0_pay20 (vh0 6 (by decide) v))
    (kh0 7 (by decide) k) (vh0 7 (by decide) v)

/-- The second block's queries and mask. -/
abbrev q1 : FVec F S384x1024 .bf16 := k0_pay22 (k0_pay2 wq) (x1 x)
abbrev m1 : IVec S384x768 1 := k0_pay27 k0_pay23 (iota .tc S384x768 32 [1] iota_S384x768_d1_w32) 64#32 k0_pay24 k0_pay25 k0_pay26

/-- The second block of rows. -/
def part1 : Vec F S384x1024 .bf16 :=
  k0_pay39 (k0_pay3 wo)
    (k0_pay28 (q1 wq x) k0_pay23 (iota .tc S384x768 32 [1] iota_S384x768_d1_w32) 64#32 k0_pay24 k0_pay25 k0_pay26 (kh1 0 (by decide) k) (vh1 0 (by decide) v))
    (k0_pay30 m1 (k0_pay29 (q1 wq x) (kh1 1 (by decide) k)) (vh1 1 (by decide) v))
    (k0_pay31 (q1 wq x) m1 (kh1 2 (by decide) k) (vh1 2 (by decide) v))
    (k0_pay33 (k0_pay32 (q1 wq x) m1 (kh1 3 (by decide) k)) (vh1 3 (by decide) v))
    (k0_pay34 (q1 wq x) m1 (kh1 4 (by decide) k) (vh1 4 (by decide) v))
    (k0_pay36 (k0_pay35 (q1 wq x) m1 (kh1 5 (by decide) k)) (vh1 5 (by decide) v))
    (k0_pay37 (q1 wq x) m1 (kh1 6 (by decide) k) (vh1 6 (by decide) v))
    (k0_pay38 (q1 wq x) m1 (kh1 7 (by decide) k)) (vh1 7 (by decide) v)

/-- The third block's queries and mask. -/
abbrev q2 : FVec F S256x1024 .bf16 := k0_pay41 (k0_pay2 wq) (x2 x)
abbrev m2 : IVec S256x1024 1 := k0_pay45 k0_pay42 64#32 k0_pay43 k0_pay44 0#32

/-- The third block of rows. -/
def part2 : Vec F S256x1024 .bf16 :=
  k0_pay58 (k0_pay3 wo) (q2 wq x) m2
    (k0_pay46 (q2 wq x) m2 (kh2 0 (by decide) k) (vh2 0 (by decide) v))
    (k0_pay47 (q2 wq x) m2 (kh2 1 (by decide) k) (vh2 1 (by decide) v))
    (k0_pay50 m2 (k0_pay48 (kh2 2 (by decide) k)) (k0_pay49 (q2 wq x)) (constant S256x1024 .f32 0x00000000#32) (vh2 2 (by decide) v))
    (k0_pay51 (q2 wq x) m2 (kh2 3 (by decide) k) (vh2 3 (by decide) v))
    (k0_pay54 m2 (k0_pay52 (q2 wq x) (kh2 4 (by decide) k)) (k0_pay53 (F := F)) (vh2 4 (by decide) v))
    (k0_pay55 (q2 wq x) m2 (kh2 5 (by decide) k) (vh2 5 (by decide) v))
    (k0_pay56 (q2 wq x) m2 (kh2 6 (by decide) k)) (k0_pay57 (q2 wq x) m2 (kh2 6 (by decide) k)) (vh2 6 (by decide) v)
    (kh2 7 (by decide) k) (vh2 7 (by decide) v)

end

/-! ## The arrays -/

variable (m : (ℓ : Loc nD τ sig) → Buf (Elt F) ℓ) (c : Dev nD)

/-- Device `c`'s `x`, keys and values as the launch stages them. -/
def xT : Vec F S1024x1024 .f32 := (win0_0.blk (0 : Fin 1)).view.read (Elt F) (m ((c : Thread nD τ).loc main_arg0))
def kg : Vec F S1024x8x128 .f32 := (win0_1.blk (0 : Fin 1)).view.read (Elt F) (m ((c : Thread nD τ).loc main_arg2))
def vg : Vec F S1024x8x128 .f32 := (win0_2.blk (0 : Fin 1)).view.read (Elt F) (m ((c : Thread nD τ).loc main_arg3))

/-- The first and the second dimension exchanged: the layout of the copied keys and values. -/
def swp (f : Vec F S1024x8x128 .f32) : Vec F S8x1024x128 .f32 := fun i => f (fun a => match a with
  | 0 => (i 1 : Fin 1024)
  | 1 => (i 0 : Fin 8)
  | 2 => (i 2 : Fin 128))

/-- The keys and the values laid out by head. -/
abbrev kT : Vec F S8x1024x128 .f32 := swp (kg m c)
abbrev vT : Vec F S8x1024x128 .f32 := swp (vg m c)

/-- The memory references of the two weights' slices. -/
abbrev wqM (c : Dev nD) : Memref sig .tc .hbm S1024x1024 .f32 :=
  (Memref.whole main_arg1 : Memref sig .tc .hbm S1024x8192 .f32).slice (Rect.unit (s := S1024x8192) (k0_off1 c) S1024x1024.size (k0_off1_inb c)) (fun _ => rfl)
abbrev woM (c : Dev nD) : Memref sig .tc .hbm S1024x1024 .f32 :=
  (Memref.whole main_arg4 : Memref sig .tc .hbm S8192x1024 .f32).slice (Rect.unit (s := S8192x1024) (k0_off2 c) S1024x1024.size (k0_off2_inb c)) (fun _ => rfl)

/-- The weights' slices of device `c`. -/
def wqV : Vec F S1024x1024 .f32 := (wqM c).view.read (Elt F) (m ((c : Thread nD τ).loc main_arg1))
def woV : Vec F S1024x1024 .f32 := (woM c).view.read (Elt F) (m ((c : Thread nD τ).loc main_arg4))

/-- Part `t` as device `c` computes it from its own heads, by row and column. -/
def P : Fin 3 → Nat → Nat → F .bf16
  | 0 => toRC (m := 384) (n := 1024) (by decide) (by decide) (part0 (wqV m c) (woV m c) (xT m c) (kT m c) (vT m c))
  | 1 => toRC (m := 384) (n := 1024) (by decide) (by decide) (part1 (wqV m c) (woV m c) (xT m c) (kT m c) (vT m c))
  | 2 => toRC (m := 256) (n := 1024) (by decide) (by decide) (part2 (wqV m c) (woV m c) (xT m c) (kT m c) (vT m c))

/-- Part `t` at device `c` after `r` steps of the summation: each step adds the partner's. -/
def W (t : Fin 3) : Nat → Dev nD → Nat → Nat → F .bf16
  | 0, c => P m c t
  | r + 1, c => fun i j => FloatOps.addf (W t r c i j) (W t r (pr t r c) i j)

/-- Part `t` of the whole sum: each row as the device that ends up with it has it. -/
def A (t : Fin 3) (i j : Nat) : F .bf16 := W m t 3 (ownDev t (i / nn t 3)) i j

end Cert.Exchange

end
-- ==== Proof.Slices.lean ====
/-
# Rows of a buffer through the kernel's slices

What a slice of whole rows reads and writes, in terms of contents given by row and column.
-/
module

public import proofs.«01_k».proof.Proof.Values

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The rectangle of `size` at `off` is the rows `n` from row `l` of buffer `b`. -/
structure IsRows (b : Ref sig .tc) (off size : Fin b.ty.shape.rank → Nat) (l n : Nat) : Prop where
  two : b.ty.shape.rank = 2
  row : ∀ a : Fin b.ty.shape.rank, a.val = 0 → off a = l ∧ size a = n
  col : ∀ a : Fin b.ty.shape.rank, a.val = 1 → off a = 0 ∧ size a = b.ty.shape.size a

theorem isRows0 {off : Fin 2 → Nat} {l n : Nat} (h : off = ![l, 0]) : IsRows cc0_scratch4 off ![n, 1024] l n := by
  subst h
  exact ⟨rfl, fun a ha => by rw [show a = (0 : Fin 2) from Fin.ext ha]; exact ⟨rfl, rfl⟩,
    fun a ha => by rw [show a = (1 : Fin 2) from Fin.ext ha]; exact ⟨rfl, rfl⟩⟩
theorem isRows1 {off : Fin 2 → Nat} {l n : Nat} (h : off = ![l, 0]) : IsRows cc0_scratch5 off ![n, 1024] l n := by
  subst h
  exact ⟨rfl, fun a ha => by rw [show a = (0 : Fin 2) from Fin.ext ha]; exact ⟨rfl, rfl⟩,
    fun a ha => by rw [show a = (1 : Fin 2) from Fin.ext ha]; exact ⟨rfl, rfl⟩⟩
theorem isRows2 {off : Fin 2 → Nat} {l n : Nat} (h : off = ![l, 0]) : IsRows cc0_scratch6 off ![n, 1024] l n := by
  subst h
  exact ⟨rfl, fun a ha => by rw [show a = (0 : Fin 2) from Fin.ext ha]; exact ⟨rfl, rfl⟩,
    fun a ha => by rw [show a = (1 : Fin 2) from Fin.ext ha]; exact ⟨rfl, rfl⟩⟩

section
variable {b : Ref sig .tc} {off size : Fin b.ty.shape.rank → Nat} {l n : Nat} (h : IsRows b off size l n)
  (inb : ∀ a, off a + size a ≤ b.ty.shape.size a)
include h

theorem IsRows.set : ((View.whole b).slice (Rect.unit off size inb)).set = rows b.ty.shape l n :=
  slice_set b inb h.two h.row h.col

theorem IsRows.ix0 (j : (Rect.unit off size inb).shape.Idx) :
    ixAt 0 ((Rect.unit off size inb).emb j) = l + ixAt 0 j := by
  have hr : (0 : Nat) < b.ty.shape.rank := by have := h.two; omega
  unfold ixAt
  rw [dif_pos hr, dif_pos (show 0 < (Rect.unit off size inb).shape.rank from hr), Rect.emb_apply]
  show off ⟨0, hr⟩ + 1 * _ = _
  rw [(h.row ⟨0, hr⟩ rfl).1, one_mul]

theorem IsRows.ix1 (j : (Rect.unit off size inb).shape.Idx) :
    ixAt 1 ((Rect.unit off size inb).emb j) = ixAt 1 j := by
  have hr : (1 : Nat) < b.ty.shape.rank := by have := h.two; omega
  unfold ixAt
  rw [dif_pos hr, dif_pos (show 1 < (Rect.unit off size inb).shape.rank from hr), Rect.emb_apply]
  show off ⟨1, hr⟩ + 1 * _ = _
  rw [(h.col ⟨1, hr⟩ rfl).1, one_mul, zero_add]

/-- Reading a slice of rows. -/
theorem IsRows.read (g : Nat → Nat → Elt F b.ty.elt) :
    ((View.whole b).slice (Rect.unit off size inb)).read (Elt F) (rc g) = rc fun i j => g (l + i) j := by
  funext j
  show g (ixAt 0 ((Rect.unit off size inb).emb j)) (ixAt 1 ((Rect.unit off size inb).emb j)) = _
  rw [h.ix0, h.ix1]; rfl

/-- Writing a slice of rows, on those rows. -/
theorem IsRows.write (f : b.ty.Contents (Elt F)) (w : (Rect.unit off size inb).shape.Idx → Elt F b.ty.elt) (g : Nat → Nat → Elt F b.ty.elt)
    (hw : w = rc fun i j => g (l + i) j) (i : b.ty.shape.Idx) (hi : i ∈ rows b.ty.shape l n) :
    ((View.whole b).slice (Rect.unit off size inb)).write (Elt F) f w Finset.univ i = rc g i := by
  rw [← h.set inb] at hi
  obtain ⟨j, -, rfl⟩ := Finset.mem_map.mp hi
  rw [View.write_emb_of_mem _ _ (Finset.mem_univ j), hw]
  show g (l + ixAt 0 j) (ixAt 1 j) = g (ixAt 0 ((Rect.unit off size inb).emb j)) (ixAt 1 ((Rect.unit off size inb).emb j))
  rw [h.ix0, h.ix1]

end

/-! ## A head of the keys or values -/

theorem hbk (h : Nat) (hh : h < 8) : ∀ a, (![h, 0, 0] : Fin 3 → Nat) a + S1x1024x128.size a ≤ S8x1024x128.size a := by
  intro a; match a with
  | 0 => show h + 1 ≤ 8; omega
  | 1 => show 0 + 1024 ≤ 1024; omega
  | 2 => show 0 + 128 ≤ 128; omega
theorem hbg (h : Nat) (hh : h < 8) : ∀ a, (![0, h, 0] : Fin 3 → Nat) a + S1024x1x128.size a ≤ S1024x8x128.size a := by
  intro a; match a with
  | 0 => show 0 + 1024 ≤ 1024; omega
  | 1 => show h + 1 ≤ 8; omega
  | 2 => show 0 + 128 ≤ 128; omega

theorem sqk : S1x1024x128.Squeezes S1024x128 := by decide
theorem sqg : S1024x1x128.Squeezes S1024x128 := by decide

/-- The two copies' views of head `h`: of a head-major buffer, -/
abbrev hdV (V : View sig .tc .vmem S8x1024x128 .f32) (h : Nat) (hh : h < 8) : View sig .tc .vmem S1024x128 .f32 :=
  (V.slice (Rect.unit (s := S8x1024x128) ![h, 0, 0] S1x1024x128.size (hbk h hh))).reshape S1024x128 sqk.numel_eq
/-- of the staged keys or values. -/
abbrev hdG (V : View sig .tc .vmem S1024x8x128 .f32) (h : Nat) (hh : h < 8) : View sig .tc .vmem S1024x128 .f32 :=
  (V.slice (Rect.unit (s := S1024x8x128) ![0, h, 0] S1024x1x128.size (hbg h hh))).reshape S1024x128 sqg.numel_eq

/-- Element `j` of head `h` in the head-major layout, -/
def ixV (h : Nat) (hh : h < 8) (j : S1024x128.Idx) : S8x1024x128.Idx := fun a => match a with
  | 0 => (⟨h, hh⟩ : Fin 8)
  | 1 => (j 0 : Fin 1024)
  | 2 => (j 1 : Fin 128)
/-- in the layout of the arguments. -/
def ixG (h : Nat) (hh : h < 8) (j : S1024x128.Idx) : S1024x8x128.Idx := fun a => match a with
  | 0 => (j 0 : Fin 1024)
  | 1 => (⟨h, hh⟩ : Fin 8)
  | 2 => (j 1 : Fin 128)

theorem sq_V (j : S1024x128.Idx) : Shape.reshapeEquiv sqk.numel_eq j = (fun a => match a with
    | 0 => (0 : Fin 1)
    | 1 => (j 0 : Fin 1024)
    | 2 => (j 1 : Fin 128) : S1x1024x128.Idx) := by
  apply Shape.reshapeEquiv_eq_of_rowMajor
  rw [Shape.rowMajor_val_three, Shape.rowMajor_val_two]
  show ((0 : Nat) * 1024 + (j 0).val) * 128 + (j 1).val = (j 0).val * 128 + (j 1).val
  omega
theorem sq_G (j : S1024x128.Idx) : Shape.reshapeEquiv sqg.numel_eq j = (fun a => match a with
    | 0 => (j 0 : Fin 1024)
    | 1 => (0 : Fin 1)
    | 2 => (j 1 : Fin 128) : S1024x1x128.Idx) := by
  apply Shape.reshapeEquiv_eq_of_rowMajor
  rw [Shape.rowMajor_val_three, Shape.rowMajor_val_two]
  show ((j 0).val * 1 + 0) * 128 + (j 1).val = (j 0).val * 128 + (j 1).val
  omega

theorem emb_V (h : Nat) (hh : h < 8) (j : S1024x128.Idx) :
    (Rect.unit (s := S8x1024x128) ![h, 0, 0] S1x1024x128.size (hbk h hh)).emb (Shape.reshapeEquiv sqk.numel_eq j) = ixV h hh j := by
  rw [sq_V]
  funext a
  apply Fin.ext
  rw [Rect.emb_apply]
  match a with
  | 0 => rfl
  | 1 => show 0 + 1 * (j 0).val = (j 0).val; omega
  | 2 => show 0 + 1 * (j 1).val = (j 1).val; omega
theorem emb_G (h : Nat) (hh : h < 8) (j : S1024x128.Idx) :
    (Rect.unit (s := S1024x8x128) ![0, h, 0] S1024x1x128.size (hbg h hh)).emb (Shape.reshapeEquiv sqg.numel_eq j) = ixG h hh j := by
  rw [sq_G]
  funext a
  apply Fin.ext
  rw [Rect.emb_apply]
  match a with
  | 0 => show 0 + 1 * (j 0).val = (j 0).val; omega
  | 1 => rfl
  | 2 => show 0 + 1 * (j 1).val = (j 1).val; omega

theorem swp_ixV (f : Vec F S1024x8x128 .f32) (h : Nat) (hh : h < 8) (j : S1024x128.Idx) : swp f (ixV h hh j) = f (ixG h hh j) := by
  unfold swp
  congr 1

/-- The elements of head `h`, head-major; -/
def hdS (h : Nat) : Finset S8x1024x128.Idx := Finset.univ.filter fun i => (i 0).val = h
/-- in the arguments' layout. -/
def hgS (h : Nat) : Finset S1024x8x128.Idx := Finset.univ.filter fun i => (i 1).val = h

theorem map_V (h : Nat) (hh : h < 8) (e : S1024x128.Idx ↪ S8x1024x128.Idx) (he : ∀ j, e j = ixV h hh j) : Finset.univ.map e = hdS h := by
  ext i
  simp only [hdS, Finset.mem_map, Finset.mem_univ, true_and, Finset.mem_filter]
  constructor
  · rintro ⟨j, rfl⟩; rw [he]; rfl
  · intro hi
    refine ⟨fun a => match a with
      | 0 => (i 1 : Fin 1024)
      | 1 => (i 2 : Fin 128), ?_⟩
    rw [he]
    funext a
    match a with
    | 0 => exact Fin.ext hi.symm
    | 1 => rfl
    | 2 => rfl
theorem map_G (h : Nat) (hh : h < 8) (e : S1024x128.Idx ↪ S1024x8x128.Idx) (he : ∀ j, e j = ixG h hh j) : Finset.univ.map e = hgS h := by
  ext i
  simp only [hgS, Finset.mem_map, Finset.mem_univ, true_and, Finset.mem_filter]
  constructor
  · rintro ⟨j, rfl⟩; rw [he]; rfl
  · intro hi
    refine ⟨fun a => match a with
      | 0 => (i 0 : Fin 1024)
      | 1 => (i 2 : Fin 128), ?_⟩
    rw [he]
    funext a
    match a with
    | 0 => rfl
    | 1 => exact Fin.ext hi.symm
    | 2 => rfl

theorem set_k (h : Nat) (hh : h < 8) : (hdV (View.whole cc0_scratch2) h hh).set = hdS h := map_V h hh _ (emb_V h hh)
theorem set_v (h : Nat) (hh : h < 8) : (hdV (View.whole cc0_scratch3) h hh).set = hdS h := map_V h hh _ (emb_V h hh)
theorem set_kg (h : Nat) (hh : h < 8) : (hdG (View.whole cc0_stg1_0) h hh).set = hgS h := map_G h hh _ (emb_G h hh)
theorem set_vg (h : Nat) (hh : h < 8) : (hdG (View.whole cc0_stg2_0) h hh).set = hgS h := map_G h hh _ (emb_G h hh)

/-- What the copy of head `h` of the keys leaves, on that head; -/
theorem write_k (h : Nat) (hh : h < 8) (fd : Vec F S8x1024x128 .f32) (f : Vec F S1024x8x128 .f32) (i : S8x1024x128.Idx) (hi : i ∈ hdS h) :
    (hdV (View.whole cc0_scratch2) h hh).write (Elt F) fd ((hdG (View.whole cc0_stg1_0) h hh).read (Elt F) f) Finset.univ i = swp f i := by
  rw [← set_k h hh] at hi
  obtain ⟨j, -, rfl⟩ := Finset.mem_map.mp hi
  rw [View.write_emb_of_mem _ _ (Finset.mem_univ j)]
  show f ((Rect.unit (s := S1024x8x128) ![0, h, 0] S1024x1x128.size (hbg h hh)).emb (Shape.reshapeEquiv sqg.numel_eq j))
    = swp f ((Rect.unit (s := S8x1024x128) ![h, 0, 0] S1x1024x128.size (hbk h hh)).emb (Shape.reshapeEquiv sqk.numel_eq j))
  rw [emb_G h hh, emb_V h hh, swp_ixV f h hh]
/-- of the values. -/
theorem write_v (h : Nat) (hh : h < 8) (fd : Vec F S8x1024x128 .f32) (f : Vec F S1024x8x128 .f32) (i : S8x1024x128.Idx) (hi : i ∈ hdS h) :
    (hdV (View.whole cc0_scratch3) h hh).write (Elt F) fd ((hdG (View.whole cc0_stg2_0) h hh).read (Elt F) f) Finset.univ i = swp f i := by
  rw [← set_v h hh] at hi
  obtain ⟨j, -, rfl⟩ := Finset.mem_map.mp hi
  rw [View.write_emb_of_mem _ _ (Finset.mem_univ j)]
  show f ((Rect.unit (s := S1024x8x128) ![0, h, 0] S1024x1x128.size (hbg h hh)).emb (Shape.reshapeEquiv sqg.numel_eq j))
    = swp f ((Rect.unit (s := S8x1024x128) ![h, 0, 0] S1x1024x128.size (hbk h hh)).emb (Shape.reshapeEquiv sqk.numel_eq j))
  rw [emb_G h hh, emb_V h hh, swp_ixV f h hh]

theorem hdS_disjoint {h h' : Nat} (hne : h ≠ h') : Disjoint (hdS h) (hdS h') := by
  rw [Finset.disjoint_left]; intro i hi hi'
  simp only [hdS, Finset.mem_filter] at hi hi'
  omega
theorem hgS_disjoint {h h' : Nat} (hne : h ≠ h') : Disjoint (hgS h) (hgS h') := by
  rw [Finset.disjoint_left]; intro i hi hi'
  simp only [hgS, Finset.mem_filter] at hi hi'
  omega
theorem hdS_univ : (Finset.univ : Finset (Fin 8)).biUnion (fun h => hdS h.val) = Finset.univ := by
  ext i
  simp only [hdS, Finset.mem_biUnion, Finset.mem_univ, Finset.mem_filter, true_and, iff_true]
  exact ⟨i 0, rfl⟩
theorem hgS_univ : (Finset.univ : Finset (Fin 8)).biUnion (fun h => hgS h.val) = Finset.univ := by
  ext i
  simp only [hgS, Finset.mem_biUnion, Finset.mem_univ, Finset.mem_filter, true_and, iff_true]
  exact ⟨i 1, rfl⟩

/-! ## The offsets and devices of the exchange's operations -/

set_option maxRecDepth 8000

theorem dev1_eq (c : Dev nD) : (⟨k0_dev1 c, k0_dev1_lt c⟩ : Dev nD) = pd 0 c := by revert c; decide +kernel
theorem dev2_eq (c : Dev nD) : (⟨k0_dev2 c, k0_dev2_lt c⟩ : Dev nD) = pd 1 c := by revert c; decide +kernel
theorem dev3_eq (c : Dev nD) : (⟨k0_dev3 c, k0_dev3_lt c⟩ : Dev nD) = pd 2 c := by revert c; decide +kernel
theorem off3_rs (c : Dev nD) : k0_off3 c = ![lo 0 (0 + 1) (pr 0 0 c), 0] := by revert c; decide +kernel
theorem dev4_eq (c : Dev nD) : (⟨k0_dev4 c, k0_dev4_lt c⟩ : Dev nD) = pr 0 0 c := by revert c; decide +kernel
theorem off4_rs (c : Dev nD) : k0_off4 c = ![lo 1 (0 + 1) (pr 1 0 c), 0] := by revert c; decide +kernel
theorem dev5_eq (c : Dev nD) : (⟨k0_dev5 c, k0_dev5_lt c⟩ : Dev nD) = pr 1 0 c := by revert c; decide +kernel
theorem off6_rs (c : Dev nD) : k0_off6 c = ![lo 0 (1 + 1) (pr 0 1 c), 0] := by revert c; decide +kernel
theorem dev6_eq (c : Dev nD) : (⟨k0_dev6 c, k0_dev6_lt c⟩ : Dev nD) = pr 0 1 c := by revert c; decide +kernel
theorem off7_rs (c : Dev nD) : k0_off7 c = ![lo 2 (0 + 1) (pr 2 0 c), 0] := by revert c; decide +kernel
theorem dev7_eq (c : Dev nD) : (⟨k0_dev7 c, k0_dev7_lt c⟩ : Dev nD) = pr 2 0 c := by revert c; decide +kernel
theorem off9_rs (c : Dev nD) : k0_off9 c = ![lo 1 (1 + 1) (pr 1 1 c), 0] := by revert c; decide +kernel
theorem dev8_eq (c : Dev nD) : (⟨k0_dev8 c, k0_dev8_lt c⟩ : Dev nD) = pr 1 1 c := by revert c; decide +kernel
theorem off11_rs (c : Dev nD) : k0_off11 c = ![lo 0 (2 + 1) (pr 0 2 c), 0] := by revert c; decide +kernel
theorem dev9_eq (c : Dev nD) : (⟨k0_dev9 c, k0_dev9_lt c⟩ : Dev nD) = pr 0 2 c := by revert c; decide +kernel
theorem off13_rs (c : Dev nD) : k0_off13 c = ![lo 2 (1 + 1) (pr 2 1 c), 0] := by revert c; decide +kernel
theorem dev10_eq (c : Dev nD) : (⟨k0_dev10 c, k0_dev10_lt c⟩ : Dev nD) = pr 2 1 c := by revert c; decide +kernel
theorem off15_rs (c : Dev nD) : k0_off15 c = ![lo 1 (2 + 1) (pr 1 2 c), 0] := by revert c; decide +kernel
theorem dev11_eq (c : Dev nD) : (⟨k0_dev11 c, k0_dev11_lt c⟩ : Dev nD) = pr 1 2 c := by revert c; decide +kernel
theorem off19_rs (c : Dev nD) : k0_off19 c = ![lo 2 (2 + 1) (pr 2 2 c), 0] := by revert c; decide +kernel
theorem dev13_eq (c : Dev nD) : (⟨k0_dev13 c, k0_dev13_lt c⟩ : Dev nD) = pr 2 2 c := by revert c; decide +kernel
theorem off5_keep (c : Dev nD) : k0_off5 c = ![lo 0 (0 + 1) c, 0] := by revert c; decide +kernel
theorem off8_keep (c : Dev nD) : k0_off8 c = ![lo 1 (0 + 1) c, 0] := by revert c; decide +kernel
theorem off10_keep (c : Dev nD) : k0_off10 c = ![lo 0 (1 + 1) c, 0] := by revert c; decide +kernel
theorem off12_keep (c : Dev nD) : k0_off12 c = ![lo 2 (0 + 1) c, 0] := by revert c; decide +kernel
theorem off14_keep (c : Dev nD) : k0_off14 c = ![lo 1 (1 + 1) c, 0] := by revert c; decide +kernel
theorem off16_keep (c : Dev nD) : k0_off16 c = ![lo 0 (2 + 1) c, 0] := by revert c; decide +kernel
theorem off18_keep (c : Dev nD) : k0_off18 c = ![lo 2 (1 + 1) c, 0] := by revert c; decide +kernel
theorem off20_keep (c : Dev nD) : k0_off20 c = ![lo 1 (2 + 1) c, 0] := by revert c; decide +kernel
theorem off23_keep (c : Dev nD) : k0_off23 c = ![lo 2 (2 + 1) c, 0] := by revert c; decide +kernel
theorem off17_ag (c : Dev nD) : k0_off17 c = ![lo 0 (3 - 0) c, 0] := by revert c; decide +kernel
theorem dev12_eq (c : Dev nD) : (⟨k0_dev12 c, k0_dev12_lt c⟩ : Dev nD) = pr 0 (2 - 0) c := by revert c; decide +kernel
theorem off21_ag (c : Dev nD) : k0_off21 c = ![lo 1 (3 - 0) c, 0] := by revert c; decide +kernel
theorem dev14_eq (c : Dev nD) : (⟨k0_dev14 c, k0_dev14_lt c⟩ : Dev nD) = pr 1 (2 - 0) c := by revert c; decide +kernel
theorem off22_ag (c : Dev nD) : k0_off22 c = ![lo 0 (3 - 1) c, 0] := by revert c; decide +kernel
theorem dev15_eq (c : Dev nD) : (⟨k0_dev15 c, k0_dev15_lt c⟩ : Dev nD) = pr 0 (2 - 1) c := by revert c; decide +kernel
theorem off24_ag (c : Dev nD) : k0_off24 c = ![lo 2 (3 - 0) c, 0] := by revert c; decide +kernel
theorem dev16_eq (c : Dev nD) : (⟨k0_dev16 c, k0_dev16_lt c⟩ : Dev nD) = pr 2 (2 - 0) c := by revert c; decide +kernel
theorem off25_ag (c : Dev nD) : k0_off25 c = ![lo 1 (3 - 1) c, 0] := by revert c; decide +kernel
theorem dev17_eq (c : Dev nD) : (⟨k0_dev17 c, k0_dev17_lt c⟩ : Dev nD) = pr 1 (2 - 1) c := by revert c; decide +kernel
theorem off26_ag (c : Dev nD) : k0_off26 c = ![lo 0 (3 - 2) c, 0] := by revert c; decide +kernel
theorem dev18_eq (c : Dev nD) : (⟨k0_dev18 c, k0_dev18_lt c⟩ : Dev nD) = pr 0 (2 - 2) c := by revert c; decide +kernel
theorem off27_ag (c : Dev nD) : k0_off27 c = ![lo 2 (3 - 1) c, 0] := by revert c; decide +kernel
theorem dev19_eq (c : Dev nD) : (⟨k0_dev19 c, k0_dev19_lt c⟩ : Dev nD) = pr 2 (2 - 1) c := by revert c; decide +kernel
theorem off28_ag (c : Dev nD) : k0_off28 c = ![lo 1 (3 - 2) c, 0] := by revert c; decide +kernel
theorem dev20_eq (c : Dev nD) : (⟨k0_dev20 c, k0_dev20_lt c⟩ : Dev nD) = pr 1 (2 - 2) c := by revert c; decide +kernel
theorem off29_ag (c : Dev nD) : k0_off29 c = ![lo 2 (3 - 2) c, 0] := by revert c; decide +kernel
theorem dev21_eq (c : Dev nD) : (⟨k0_dev21 c, k0_dev21_lt c⟩ : Dev nD) = pr 2 (2 - 2) c := by revert c; decide +kernel

end Cert.Exchange

end
-- ==== Proof.Sched.lean ====
/-
# The exchange's protocol

One cell per semaphore: the barrier's, and one per copy. A cell's payload is what its semaphore's signal hands its owner:
the barrier's three signals the partners' landing buffers; a local copy's its two buffers; a summation step's the landed
rows and, with them, the partner's own copy of those rows (which the gathering step writes back into); a gathering step's
the gathered rows.
-/
module

public import proofs.«01_k».proof.Proof.Slices

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The copies' semaphores: the weights', the heads', and those of the exchange's steps, sending and receiving. -/
inductive DCell
  | w (i : Fin 2)
  | kv (i : Fin 2) (h : Fin 8)
  | rsS (t r : Fin 3)
  | rsR (t r : Fin 3)
  | agS (t r : Fin 3)
  | agR (t r : Fin 3)
  deriving DecidableEq

/-- The cells of the copies, listed. -/
def DCell.equiv : DCell ≃ (Fin 2 ⊕ Fin 2 × Fin 8) ⊕ ((Fin 3 × Fin 3 ⊕ Fin 3 × Fin 3) ⊕ (Fin 3 × Fin 3 ⊕ Fin 3 × Fin 3)) where
  toFun
    | .w i => .inl (.inl i)
    | .kv i h => .inl (.inr (i, h))
    | .rsS t r => .inr (.inl (.inl (t, r)))
    | .rsR t r => .inr (.inl (.inr (t, r)))
    | .agS t r => .inr (.inr (.inl (t, r)))
    | .agR t r => .inr (.inr (.inr (t, r)))
  invFun
    | .inl (.inl i) => .w i
    | .inl (.inr (i, h)) => .kv i h
    | .inr (.inl (.inl (t, r))) => .rsS t r
    | .inr (.inl (.inr (t, r))) => .rsR t r
    | .inr (.inr (.inl (t, r))) => .agS t r
    | .inr (.inr (.inr (t, r))) => .agR t r
  left_inv x := by cases x <;> rfl
  right_inv x := by rcases x with (_ | _) | ((_ | _) | (_ | _)) <;> rfl

instance : Fintype DCell := Fintype.ofEquiv _ DCell.equiv.symm

/-- All the cells: the barrier's (`none`) and the copies'. -/
abbrev Cl : Type := Option DCell

/-- Which semaphore a copy's cell is. -/
def semOf : DCell → DmaSem sig
  | .w i => ⟨4 + i.val, by have := i.isLt; show 4 + i.val < 58; omega⟩
  | .kv i h => ⟨6 + 8 * i.val + h.val, by have := i.isLt; have := h.isLt; show 6 + 8 * i.val + h.val < 58; omega⟩
  | .rsS t r => ⟨22 + 3 * t.val + r.val, by have := t.isLt; have := r.isLt; show 22 + 3 * t.val + r.val < 58; omega⟩
  | .rsR t r => ⟨31 + 3 * t.val + r.val, by have := t.isLt; have := r.isLt; show 31 + 3 * t.val + r.val < 58; omega⟩
  | .agS t r => ⟨40 + 3 * t.val + r.val, by have := t.isLt; have := r.isLt; show 40 + 3 * t.val + r.val < 58; omega⟩
  | .agR t r => ⟨49 + 3 * t.val + r.val, by have := t.isLt; have := r.isLt; show 49 + 3 * t.val + r.val < 58; omega⟩

abbrev barS : Sem sig := (SemArray.scalar (sig.barrier 0 rfl) : Sems sig S_).sem

abbrev osem : DCell → SemLoc sig := fun x => .dma (semOf x)
abbrev csem : Cl → SemLoc sig
  | none => .reg barS
  | some x => .dma (semOf x)

theorem semOf_injective : Function.Injective semOf := fun x y => by revert x y; decide +kernel
theorem semOf_ge : ∀ x : DCell, 4 ≤ (semOf x).val := by decide +kernel
theorem csem_injective : Function.Injective csem := by
  rintro (_ | x) (_ | y) h
  · rfl
  · cases h
  · cases h
  · exact congrArg some (semOf_injective (SemLoc.dma.inj h))

open Classical in
/-- The cell of a semaphore, if it is one of the protocol's. -/
def cellAt (g : SemLoc sig) : Option Cl := if h : ∃ x, csem x = g then some h.choose else none

theorem cellAt_csem (x : Cl) : cellAt (csem x) = some x := by
  unfold cellAt
  rw [dif_pos ⟨x, rfl⟩]
  exact congrArg some (csem_injective (Exists.choose_spec (⟨x, rfl⟩ : ∃ y, csem y = csem x)))

theorem cellAt_stage (q : DmaSem sig) (hq : q.val < 4) : cellAt (.dma q) = none := by
  unfold cellAt
  refine dif_neg ?_
  rintro ⟨_ | x, h⟩
  · cases h
  · have h1 : semOf x = q := SemLoc.dma.inj h
    have h2 := semOf_ge x
    rw [h1] at h2; omega

abbrev kcell (ck : Dev nD × Cl) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The units a cell's copy raises it by. -/
def amt : DCell → Nat
  | .w _ => 131072
  | .kv _ _ => 16384
  | .rsS t r => 64 * nn t (r + 1)
  | .rsR t r => 64 * nn t (r + 1)
  | .agS t r => 64 * nn t (3 - r)
  | .agR t r => 64 * nn t (3 - r)

theorem amt_pos (x : DCell) : 0 < amt x := by revert x; decide +kernel

/-! ## What the buffers hold -/

/-- Rows of a buffer on device `c`, holding what `g` says. -/
abbrev rowPts (b : Ref sig .tc) (c : Dev nD) (l n : Nat) (g : Nat → Nat → Elt F b.ty.elt) : sProp 𝕄 :=
  ((c : Thread nD τ).loc b) ↦[rows b.ty.shape l n]{fullShare} (rc g : Buf (Elt F) ((c : Thread nD τ).loc b))
/-- A whole buffer on device `c`. -/
abbrev allPts (b : Ref sig .tc) (c : Dev nD) (f : Buf (Elt F) ((c : Thread nD τ).loc b)) : sProp 𝕄 :=
  ((c : Thread nD τ).loc b) ↦{fullShare} f
/-- A whole buffer on device `c`, whatever it holds. -/
abbrev anyPts (b : Ref sig .tc) (c : Dev nD) : sProp 𝕄 := iprop(∃ f, allPts (F := F) b c f)

/-- Rows of part `t`'s working buffer on device `c`. -/
def own (t : Fin 3) (c : Dev nD) (l n : Nat) (g : Nat → Nat → F .bf16) : sProp 𝕄 := match t with
  | 0 => rowPts cc0_scratch4 c l n g
  | 1 => rowPts cc0_scratch5 c l n g
  | 2 => rowPts cc0_scratch6 c l n g

/-- The landing buffer of part `t`'s step `r`. -/
def stB (t r : Fin 3) : Ref sig .tc := match t, r with
  | 0, 0 => cc0_scratch7 | 0, 1 => cc0_scratch8 | 0, 2 => cc0_scratch9
  | 1, 0 => cc0_scratch10 | 1, 1 => cc0_scratch11 | 1, 2 => cc0_scratch12
  | 2, 0 => cc0_scratch13 | 2, 1 => cc0_scratch14 | 2, 2 => cc0_scratch15

/-- The landing buffer, whatever it holds, -/
def stAny (t r : Fin 3) (c : Dev nD) : sProp 𝕄 := anyPts (F := F) (stB t r) c
/-- holding what `g` says. -/
def stg (t r : Fin 3) (c : Dev nD) (g : Nat → Nat → F .bf16) : sProp 𝕄 := match t, r with
  | 0, 0 => allPts cc0_scratch7 c (rc g) | 0, 1 => allPts cc0_scratch8 c (rc g) | 0, 2 => allPts cc0_scratch9 c (rc g)
  | 1, 0 => allPts cc0_scratch10 c (rc g) | 1, 1 => allPts cc0_scratch11 c (rc g) | 1, 2 => allPts cc0_scratch12 c (rc g)
  | 2, 0 => allPts cc0_scratch13 c (rc g) | 2, 1 => allPts cc0_scratch14 c (rc g) | 2, 2 => allPts cc0_scratch15 c (rc g)

instance own_storable (t : Fin 3) (c : Dev nD) (l n : Nat) (g) : BI.Storable (upEmb : UEmb _ 𝕄) (own (F := F) t c l n g) := by
  unfold own; split <;> infer_instance
instance stAny_storable (t r : Fin 3) (c : Dev nD) : BI.Storable (upEmb : UEmb _ 𝕄) (stAny (F := F) t r c) := by
  unfold stAny; infer_instance
instance stg_storable (t r : Fin 3) (c : Dev nD) (g) : BI.Storable (upEmb : UEmb _ 𝕄) (stg (F := F) t r c g) := by
  unfold stg; split <;> infer_instance

theorem allPts_any (b : Ref sig .tc) (c : Dev nD) (f) : allPts (F := F) b c f ⊢ anyPts (F := F) b c := by
  iintro H; iexists f; iexact H

theorem stg_any (t r : Fin 3) (c : Dev nD) (g) : stg (F := F) t r c g ⊢ stAny t r c := by
  match t, r with
  | 0, 0 => exact allPts_any cc0_scratch7 c _
  | 0, 1 => exact allPts_any cc0_scratch8 c _
  | 0, 2 => exact allPts_any cc0_scratch9 c _
  | 1, 0 => exact allPts_any cc0_scratch10 c _
  | 1, 1 => exact allPts_any cc0_scratch11 c _
  | 1, 2 => exact allPts_any cc0_scratch12 c _
  | 2, 0 => exact allPts_any cc0_scratch13 c _
  | 2, 1 => exact allPts_any cc0_scratch14 c _
  | 2, 2 => exact allPts_any cc0_scratch15 c _

theorem rowPts_split (b : Ref sig .tc) (c : Dev nD) (l n n' : Nat) (g : Nat → Nat → Elt F b.ty.elt) :
    (rowPts b c l (n + n') g : sProp 𝕄) ⊣⊢ iprop(rowPts b c l n g ∗ rowPts b c (l + n) n' g) := by
  unfold rowPts
  rw [← rows_union]
  exact pointsTo_union (rows_disjoint (Or.inl (le_refl _)))

/-- Rows split and join; -/
theorem own_split (t : Fin 3) (c : Dev nD) (l n n' : Nat) (g) :
    (own (F := F) t c l (n + n') g) ⊣⊢ iprop(own t c l n g ∗ own t c (l + n) n' g) := by
  match t with
  | 0 => exact rowPts_split _ _ _ _ _ _
  | 1 => exact rowPts_split _ _ _ _ _ _
  | 2 => exact rowPts_split _ _ _ _ _ _

theorem rowPts_congr (b : Ref sig .tc) (c : Dev nD) (l n : Nat) {g g' : Nat → Nat → Elt F b.ty.elt}
    (h : ∀ i j, l ≤ i → i < l + n → g i j = g' i j) : (rowPts b c l n g : sProp 𝕄) = rowPts b c l n g' :=
  pointsTo_congr fun i hi => h _ _ (mem_rows.mp hi).1 (mem_rows.mp hi).2

/-- contents that agree on the rows are as good. -/
theorem own_congr (t : Fin 3) (c : Dev nD) (l n : Nat) {g g' : Nat → Nat → F .bf16} (h : ∀ i j, l ≤ i → i < l + n → g i j = g' i j) :
    own t c l n g = own t c l n g' := by
  match t with
  | 0 => exact rowPts_congr _ _ _ _ h
  | 1 => exact rowPts_congr _ _ _ _ h
  | 2 => exact rowPts_congr _ _ _ _ h

/-! ## The schedule -/

section
variable (m : (ℓ : Loc nD τ sig) → Buf (Elt F) ℓ)

/-- What a copy's cell hands device `c`. -/
def dPay (c : Dev nD) : DCell → sProp 𝕄
  | .w i => match i with
    | 0 => iprop(allPts cc0_scratch0 c (wqV m c) ∗ (((wqM c).view.loc (c : Thread nD τ)) ↦[(wqM c).view.set]{fullShare} m ((c : Thread nD τ).loc main_arg1)))
    | 1 => iprop(allPts cc0_scratch1 c (woV m c) ∗ (((woM c).view.loc (c : Thread nD τ)) ↦[(woM c).view.set]{fullShare} m ((c : Thread nD τ).loc main_arg4)))
  | .kv i h => match i with
    | 0 => iprop((((c : Thread nD τ).loc cc0_scratch2) ↦[hdS h.val]{fullShare} kT m c) ∗ (((c : Thread nD τ).loc cc0_stg1_0) ↦[hgS h.val]{fullShare} kg m c))
    | 1 => iprop((((c : Thread nD τ).loc cc0_scratch3) ↦[hdS h.val]{fullShare} vT m c) ∗ (((c : Thread nD τ).loc cc0_stg2_0) ↦[hgS h.val]{fullShare} vg m c))
  | .rsS _ _ => iprop(emp)
  | .rsR t r => iprop(stg t r c (fun i j => W m t r (pr t r c) (lo t (r + 1) c + i) j)
      ∗ own t (pr t r c) (lo t (r + 1) c) (nn t (r + 1)) (W m t r (pr t r c)))
  | .agS t r => own t c (lo t (3 - r) c) (nn t (3 - r)) (A m t)
  | .agR t r => own t c (lo t (3 - r) (pr t (2 - r) c)) (nn t (3 - r)) (A m t)

/-- The step in which part `t` goes in direction `d`. -/
def stepOf (t d : Fin 3) : Fin 3 := d - t

/-- What the partner in direction `d` hands device `c` at the barrier: its landing buffers of the steps in that direction. -/
def barPay (c : Dev nD) (d : Fin 3) : sProp 𝕄 :=
  iprop(stAny (F := F) 0 (stepOf 0 d) (pd d c) ∗ stAny (F := F) 1 (stepOf 1 d) (pd d c) ∗ stAny (F := F) 2 (stepOf 2 d) (pd d c))

instance dPay_storable (c : Dev nD) (x : DCell) : BI.Storable (upEmb : UEmb _ 𝕄) (dPay m c x) := by
  unfold dPay
  split
  · split <;> infer_instance
  · split <;> infer_instance
  all_goals infer_instance

instance barPay_storable (c : Dev nD) (d : Fin 3) : BI.Storable (upEmb : UEmb _ 𝕄) (barPay (F := F) c d) := by
  unfold barPay; infer_instance

/-- One round: the barrier's cell has three duties of one unit, every other cell the duty `0` of its copy's units. -/
def Rd : Rounds.Schedule (GSem nD τ sig) (Fin 3) 𝕄 where
  duties g r := if r = 0 ∧ g.1.2 = .tc then (match cellAt g.2 with
    | some none => Finset.univ
    | some (some _) => {0}
    | none => ∅) else ∅
  unitless _ := False
  amount g _ _ := match cellAt g.2 with
    | some (some x) => amt x
    | _ => 1
  payload g _ d := match cellAt g.2 with
    | some none => barPay g.1.1 d
    | some (some x) => dPay m g.1.1 x
    | none => iprop(emp)
  amount_pos g _ _ _ := by
    split
    · exact amt_pos _
    · exact Nat.one_pos

instance Rd_payload_storable (g : GSem nD τ sig) (r : ℕ) (d : Fin 3) :
    BI.Storable (upEmb : UEmb _ 𝕄) ((Rd (F := F) m).payload g r d) := by
  show BI.Storable upEmb (match cellAt g.2 with
    | some none => barPay g.1.1 d
    | some (some x) => dPay m g.1.1 x
    | none => iprop(emp))
  split <;> infer_instance

theorem duties_bar (c : Dev nD) : (Rd (F := F) m).duties (kcell (c, none)) 0 = Finset.univ := by
  dsimp only [Rd]; rw [if_pos ⟨rfl, rfl⟩]
  show (match cellAt (csem none) with | some none => (Finset.univ : Finset (Fin 3)) | some (some _) => {0} | none => ∅) = _
  rw [cellAt_csem]
theorem duties_d (c : Dev nD) (x : DCell) : (Rd (F := F) m).duties (kcell (c, some x)) 0 = {0} := by
  dsimp only [Rd]; rw [if_pos ⟨rfl, rfl⟩]
  show (match cellAt (csem (some x)) with | some none => (Finset.univ : Finset (Fin 3)) | some (some _) => {0} | none => ∅) = _
  rw [cellAt_csem]
theorem duties_later (g : GSem nD τ sig) : ∀ r, 1 ≤ r → (Rd (F := F) m).duties g r = ∅ :=
  fun r hr => by dsimp only [Rd]; rw [if_neg fun h => by omega]
theorem amount_bar (c : Dev nD) (d : Fin 3) : (Rd (F := F) m).amount (kcell (c, none)) 0 d = 1 := by
  show (match cellAt (csem none) with | some (some x) => amt x | _ => 1) = _
  rw [cellAt_csem]
theorem amount_d (c : Dev nD) (x : DCell) (d : Fin 3) : (Rd (F := F) m).amount (kcell (c, some x)) 0 d = amt x := by
  show (match cellAt (csem (some x)) with | some (some x) => amt x | _ => 1) = _
  rw [cellAt_csem]
theorem payload_bar (c : Dev nD) (d : Fin 3) : (Rd (F := F) m).payload (kcell (c, none)) 0 d = barPay c d := by
  show (match cellAt (csem none) with | some none => barPay c d | some (some x) => dPay m c x | none => iprop(emp)) = _
  rw [cellAt_csem]
theorem payload_d (c : Dev nD) (x : DCell) (d : Fin 3) : (Rd (F := F) m).payload (kcell (c, some x)) 0 d = dPay m c x := by
  show (match cellAt (csem (some x)) with | some none => barPay c d | some (some x) => dPay m c x | none => iprop(emp)) = _
  rw [cellAt_csem]
theorem expect_bar (c : Dev nD) : (Rd (F := F) m).expect (kcell (c, none)) 0 = 3 := by
  unfold Schedule.expect Schedule.amountOf
  rw [duties_bar, Finset.sum_congr rfl fun d _ => amount_bar m c d]; rfl
theorem expect_d (c : Dev nD) (x : DCell) : (Rd (F := F) m).expect (kcell (c, some x)) 0 = amt x := by
  unfold Schedule.expect Schedule.amountOf; rw [duties_d, Finset.sum_singleton, amount_d]
theorem rest_bar (c : Dev nD) : bigSep ((Rd (F := F) m).duties (kcell (c, none)) 0 \ ∅) (fun d => (Rd (F := F) m).payload (kcell (c, none)) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_d (c : Dev nD) (x : DCell) : bigSep ((Rd (F := F) m).duties (kcell (c, some x)) 0 \ ∅) (fun d => (Rd (F := F) m).payload (kcell (c, some x)) 0 d)
    = dPay m c x := by
  rw [Finset.sdiff_empty, duties_d, bigSep_singleton, payload_d]

end

/-! ## The duties' tokens, in the order they are spent; the waits, in the order they are made -/

/-- A duty: the barrier's in direction `d`, or a copy's cell's. -/
abbrev Tok : Type := Fin 3 ⊕ DCell

/-- The cell a duty is of, -/
def tcl : Tok → Cl
  | .inl _ => none
  | .inr x => some x
/-- its name there, -/
def tdu : Tok → Fin 3
  | .inl d => d
  | .inr _ => 0
/-- the direction it is paid across, if it is paid by another device than the cell's owner, -/
def tdir : Tok → Option (Fin 3)
  | .inl d => some d
  | .inr (.rsR t r) => some (dir t r)
  | .inr (.agR t r) => some (dir t (2 - r))
  | .inr _ => none
/-- the device whose duty device `c` pays, -/
def tdev (k : Tok) (c : Dev nD) : Dev nD := match tdir k with
  | some d => pd d c
  | none => c
/-- its units. -/
def tamt : Tok → Nat
  | .inl _ => 1
  | .inr x => amt x

/-- Paid across devices one way and the other: a permutation. -/
def tdevEquiv (k : Tok) : Dev nD ≃ Dev nD where
  toFun := tdev k
  invFun := tdev k
  left_inv c := by unfold tdev; split <;> first | exact pd_pd _ _ | rfl
  right_inv c := by unfold tdev; split <;> first | exact pd_pd _ _ | rfl

abbrev tokAt (k : Tok) (c : Dev nD) : sProp 𝕄 := dutyTok ER (kcell (c, tcl k)) 0 (tdu k)

/-- The duties in the order of the program's operations. -/
def payL : List Tok :=
  [.inr (.w 0), .inr (.w 1), .inr (.kv 0 0), .inr (.kv 1 0), .inr (.kv 0 1), .inr (.kv 1 1), .inr (.kv 0 2), .inr (.kv 1 2),
   .inr (.kv 0 3), .inr (.kv 1 3), .inr (.kv 0 4), .inr (.kv 1 4), .inr (.kv 0 5), .inr (.kv 1 5), .inr (.kv 0 6), .inr (.kv 1 6),
   .inr (.kv 0 7), .inr (.kv 1 7), .inl 0, .inl 1, .inl 2,
   .inr (.rsS 0 0), .inr (.rsR 0 0), .inr (.rsS 1 0), .inr (.rsR 1 0), .inr (.rsS 0 1), .inr (.rsR 0 1), .inr (.rsS 2 0), .inr (.rsR 2 0),
   .inr (.rsS 1 1), .inr (.rsR 1 1), .inr (.rsS 0 2), .inr (.rsR 0 2), .inr (.rsS 2 1), .inr (.rsR 2 1), .inr (.rsS 1 2), .inr (.rsR 1 2),
   .inr (.agS 0 0), .inr (.agR 0 0), .inr (.rsS 2 2), .inr (.rsR 2 2), .inr (.agS 1 0), .inr (.agR 1 0), .inr (.agS 0 1), .inr (.agR 0 1),
   .inr (.agS 2 0), .inr (.agR 2 0), .inr (.agS 1 1), .inr (.agR 1 1), .inr (.agS 0 2), .inr (.agR 0 2), .inr (.agS 2 1), .inr (.agR 2 1),
   .inr (.agS 1 2), .inr (.agR 1 2), .inr (.agS 2 2), .inr (.agR 2 2)]

/-- The waits in the order of the program's operations. -/
def waitL : List Cl :=
  [none, some (.w 0), some (.w 1), some (.kv 0 0), some (.kv 1 0), some (.kv 0 1), some (.kv 1 1), some (.kv 0 2), some (.kv 1 2),
   some (.kv 0 3), some (.kv 1 3), some (.kv 0 4), some (.kv 1 4), some (.kv 0 5), some (.kv 1 5), some (.kv 0 6), some (.kv 1 6),
   some (.kv 0 7), some (.kv 1 7),
   some (.rsS 0 0), some (.rsR 0 0), some (.rsS 1 0), some (.rsR 1 0), some (.rsS 0 1), some (.rsR 0 1), some (.rsS 2 0), some (.rsR 2 0),
   some (.rsS 1 1), some (.rsR 1 1), some (.rsS 0 2), some (.rsR 0 2), some (.rsS 2 1), some (.rsR 2 1), some (.rsS 1 2), some (.rsR 1 2),
   some (.agS 0 0), some (.agR 0 0), some (.rsS 2 2), some (.rsR 2 2), some (.agS 1 0), some (.agR 1 0), some (.agS 0 1), some (.agR 0 1),
   some (.agS 2 0), some (.agR 2 0), some (.agS 1 1), some (.agR 1 1), some (.agS 0 2), some (.agR 0 2), some (.agS 2 1), some (.agR 2 1),
   some (.agS 1 2), some (.agR 1 2), some (.agS 2 2), some (.agR 2 2)]

theorem payL_all : (Finset.univ : Finset Tok) = payL.toFinset := by decide +kernel
theorem payL_nodup : payL.Nodup := by decide +kernel
theorem waitL_all : (Finset.univ : Finset Cl) = waitL.toFinset := by decide +kernel
theorem waitL_nodup : waitL.Nodup := by decide +kernel

/-- What device `c` owes for a duty: nothing where it pays its own cell. -/
def tal (c : Dev nD) (k : Tok) : CellTallies nD τ sig Unit := match tdir k with
  | some d => tallyAt (kcell (pd d c, tcl k)) () (tamt k)
  | none => 0

/-- What device `c` owes for the duties of a list. -/
def owed (c : Dev nD) : List Tok → CellTallies nD τ sig Unit
  | [] => 0
  | k :: l => owed c l + tal c k

/-! ## The levels -/

/-- The landings in the order of their sends: `3 t + r` the summation step, `9 + (3 t + r)` the gathering step `r` of part `t`. -/
def landings : List Nat := [0, 3, 1, 6, 4, 2, 7, 5, 9, 8, 12, 10, 15, 13, 11, 16, 14, 17]

/-- A cell's level: the barrier below the exchange's receiving cells, which are in the order of their sends; the rest below. -/
def clev : Cl → Nat
  | none => 1
  | some (.rsR t r) => 2 + landings.idxOf (3 * t.val + r.val)
  | some (.agR t r) => 2 + landings.idxOf (9 + (3 * t.val + r.val))
  | some _ => 0

def L (g : GSem nD τ sig) : Finset Unit := if g.1.2 = .tc then {()} else ∅
def lv (g : GSem nD τ sig) (_ : Unit) : ℕ := match cellAt g.2 with
  | some x => clev x
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cl) : lv (kcell (c, x)) () = clev x := by
  show (match cellAt (csem x) with | some x => clev x | none => 0) = _
  rw [cellAt_csem]

theorem owed_pos {c : Dev nD} {l : List Tok} {g : GSem nD τ sig} {u : Unit} (h : 0 < owed c l g u) :
    ∃ k ∈ l, (tdir k).isSome ∧ ∃ c', g = kcell (c', tcl k) := by
  induction l with
  | nil => exact absurd h (Nat.lt_irrefl 0)
  | cons k l ih =>
    by_cases h1 : 0 < owed c l g u
    · obtain ⟨k', hk, h'⟩ := ih h1
      exact ⟨k', List.mem_cons_of_mem _ hk, h'⟩
    · have h2 : 0 < tal c k g u := by
        have h3 : owed c (k :: l) g u = owed c l g u + tal c k g u := rfl
        omega
      refine ⟨k, List.mem_cons_self, ?_⟩
      unfold tal at h2
      cases hd : tdir k with
      | none => rw [hd] at h2; exact absurd h2 (Nat.lt_irrefl 0)
      | some d =>
        rw [hd] at h2
        have h2' : 0 < tallyAt (kcell (pd d c, tcl k)) () (tamt k) g u := h2
        rw [tallyAt_apply] at h2'
        by_cases h3 : g = kcell (pd d c, tcl k) ∧ u = ()
        · exact ⟨rfl, _, h3.1⟩
        · rw [if_neg h3] at h2'; exact absurd h2' (Nat.lt_irrefl 0)

/-- A duty paid across devices lies above level `b`. -/
def above (b : Nat) (k : Tok) : Bool := !(tdir k).isSome || decide (b < clev (tcl k))

theorem mayWait_of (c : Dev nD) (sm : SemLoc sig) (l : List Tok) (b : Nat) (hb : lv ((c : Thread nD τ), sm) () ≤ b) (hl : l.all (above b) = true) :
    (levAts L lv : sProp 𝕄) ⊢ MayWait (c : Thread nD τ) sm () (owed c l) := by
  refine MayOwe.of_cut (L := L) (lev := lv) b (fun p hp => by rw [Finset.mem_singleton.mp hp, L_tc]; exact Finset.mem_singleton_self _)
    (fun g u hg => ?_) (fun p hp => by rw [Finset.mem_singleton.mp hp]; exact hb) (fun g u hg => ?_)
  · obtain ⟨k, -, -, c', rfl⟩ := owed_pos hg
    exact Finset.mem_singleton_self _
  · obtain ⟨k, hk, hs, c', rfl⟩ := owed_pos hg
    have h := List.all_eq_true.mp hl k hk
    unfold above at h
    rw [hs] at h
    rw [show lv (kcell (c', tcl k)) u = clev (tcl k) from lv_cell c' _]
    simpa using h

/-- A wait on cell `x` is allowed while the duties `l` are owed. -/
theorem mayWait_cell (c : Dev nD) (x : Cl) (l : List Tok) (hl : l.all (above (clev x)) = true) :
    (levAts L lv : sProp 𝕄) ⊢ MayWait (c : Thread nD τ) (csem x) () (owed c l) :=
  mayWait_of c (csem x) l (clev x) (le_of_eq (lv_cell c x)) hl

/-- So is a wait of the staging copies, at the beginning and at the end. -/
theorem mayWait_stage (c : Dev nD) (q : DmaSem sig) (hq : q.val < 4) (l : List Tok) (hl : l.all (above 0) = true) :
    (levAts L lv : sProp 𝕄) ⊢ MayWait (c : Thread nD τ) (.dma q) () (owed c l) :=
  mayWait_of c (.dma q) l 0 (by unfold lv; rw [cellAt_stage q hq]) hl

end Cert.Exchange

end
-- ==== Proof.Steps.lean ====
/-
# One step of the protocol

What device `c` holds while it runs: the duties it has yet to pay, with their tokens and the units it owes for them, and
the waits it has yet to make. Each theorem here is one operation of the program: a copy or a signal pays the next duty, a
wait makes the next wait and hands over its cell's payload.
-/
module

public import proofs.«01_k».proof.Proof.Sched
public import Idealize.ShloMosaic.Lib.Pipeline.BigSepL

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Cl → ℕ)

/-- The cells' invariants, under the names `K`, that each is at its round, and the levels. -/
def env : sProp 𝕄 :=
  iprop(levAts L lv ∗ (bigSep Finset.univ fun ck => cellInv ER (Rd m) (K ck) (kcell ck))
    ∗ bigSep Finset.univ fun ck : Dev nD × Cl => reached ER (kcell ck) 0)

instance env_persistent : BI.Persistent (env m K) := by unfold env; infer_instance

theorem env_lev : env m K ⊢ levAts L lv := by unfold env; iintro ⟨#H, -, -⟩; iexact H
theorem inv_at (ck : Dev nD × Cl) :
    (bigSep Finset.univ fun ck => (cellInv ER (Rd m) (K ck) (kcell ck) : sProp 𝕄)) ⊢ cellInv ER (Rd m) (K ck) (kcell ck) := bigSep_elim (Finset.mem_univ ck)
theorem reached_at (ck : Dev nD × Cl) :
    (bigSep Finset.univ fun ck : Dev nD × Cl => (reached ER (kcell ck) 0 : sProp 𝕄)) ⊢ reached ER (kcell ck) 0 := bigSep_elim (Finset.mem_univ ck)
theorem env_inv (ck : Dev nD × Cl) : env m K ⊢ cellInv ER (Rd m) (K ck) (kcell ck) := by
  unfold env; iintro ⟨-, #H, -⟩; iapply (inv_at m K ck); iexact H
theorem env_reached (ck : Dev nD × Cl) : env m K ⊢ reached ER (kcell ck) 0 := by
  unfold env; iintro ⟨-, -, #H⟩; iapply (reached_at (F := F) ck); iexact H

/-- The units that come to a cell from the launch: those other devices owe it. -/
def lcred (c : Dev nD) : Cl → sProp 𝕄
  | none => cred (tallyAt (kcell (c, none)) () 3)
  | some (.rsR t r) => cred (tallyAt (kcell (c, some (.rsR t r))) () (amt (.rsR t r)))
  | some (.agR t r) => cred (tallyAt (kcell (c, some (.agR t r))) () (amt (.agR t r)))
  | _ => iprop(emp)

/-- The right to wait on a cell, -/
def wt (c : Dev nD) (x : Cl) : sProp 𝕄 := iprop(atPos ER (kcell (c, x)) 0 ∅ 0 ∗ lcred (F := F) c x)
/-- the duties from the `i`-th, -/
def pays (c : Dev nD) (i : Nat) : sProp 𝕄 :=
  iprop((∃ W, owes (c : Thread nD τ) (owed c (payL.drop i)) W) ∗ bigSepL (payL.drop i) fun k => tokAt (F := F) k (tdev k c))
/-- the waits from the `j`-th, and the counters of the cells already waited for. -/
def waits (c : Dev nD) (j : Nat) : sProp 𝕄 :=
  iprop((bigSepL (waitL.drop j) fun x => wt (F := F) c x) ∗ bigSepL (waitL.take j) fun x => semVal (kcell (c, x)) 0)

/-- A copy under way, of those whose units are the device's own. -/
abbrev fl (c : Dev nD) (x : DCell) : sProp 𝕄 := cred (tallyAt (kcell (c, some x)) () (amt x))

theorem drop_cons {α : Type} {l : List α} {i : Nat} {k : α} (h : l[i]? = some k) : l.drop i = k :: l.drop (i + 1) := by
  obtain ⟨hi, he⟩ := List.getElem?_eq_some_iff.mp h
  rw [← he]; exact List.drop_eq_getElem_cons hi
theorem take_snoc {α : Type} {l : List α} {i : Nat} {k : α} (h : l[i]? = some k) : l.take (i + 1) = l.take i ++ [k] := by
  rw [List.take_add_one, h]; rfl

/-- The next duty is there, -/
theorem pays_next (c : Dev nD) {i : Nat} {k : Tok} (h : payL[i]? = some k) :
    (pays (F := F) c i) = iprop((∃ W, owes (c : Thread nD τ) (owed c (payL.drop (i + 1)) + tal c k) W)
      ∗ (tokAt (F := F) k (tdev k c) ∗ bigSepL (payL.drop (i + 1)) fun k => tokAt (F := F) k (tdev k c))) := by
  unfold pays; rw [drop_cons h, bigSepL_cons']; rfl
/-- so is the next wait. -/
theorem waits_next (c : Dev nD) {j : Nat} {x : Cl} (h : waitL[j]? = some x) :
    (waits (F := F) c j) = iprop(((atPos ER (kcell (c, x)) 0 ∅ 0 ∗ lcred (F := F) c x) ∗ bigSepL (waitL.drop (j + 1)) fun x => wt (F := F) c x)
      ∗ bigSepL (waitL.take j) fun x => semVal (kcell (c, x)) 0) := by
  unfold waits; rw [drop_cons h, bigSepL_cons']; rfl

theorem waits_succ (c : Dev nD) {j : Nat} {x : Cl} (h : waitL[j]? = some x) :
    iprop((bigSepL (waitL.drop (j + 1)) fun x => wt (F := F) c x) ∗ (bigSepL (waitL.take j) fun x => semVal (kcell (c, x)) 0)
      ∗ semVal (kcell (c, x)) 0) ⊢ waits (F := F) c (j + 1) := by
  unfold waits
  rw [take_snoc h, bigSepL_append]
  exact .rfl

section
variable {α : Type} {Q : α → sProp (MT nD τ sig Unit (Elt F) ℕ UU ℕ)} {k : PUnit → Prog (TpuEff nD τ sig (Elt F) Λ₀ .tc) α}

/-- A copy on the device pays the next duty, of its own cell `x`. -/
theorem step_copy (c : Dev nD) (x : DCell) {i : Nat} (hx : payL[i]? = some (.inr x)) (hl : tdir (.inr x) = none)
    {sp sp' : Space} {s : Shape} {e : EltTy} {src : Memref sig .tc sp s e} {dst : Memref sig .tc sp' s e} {sem : DmaSem sig} (hq : sem = semOf x)
    {hsrc : src.view.WordExact} {hdst : dst.view.WordExact} {hsem : DmaTarget.Typed (nD := nD) (τ := τ) (p := .tc) sp (.dma sem) (.here dst)}
    {fs : Buf (Elt F) (src.view.loc (c : Thread nD τ))} {fd : Buf (Elt F) (dst.view.loc (c : Thread nD τ))}
    (hN : dst.view.amount (.dma (semOf x)) = amt x)
    (hpay : iprop((dst.view.loc (c : Thread nD τ) ↦[dst.view.set]{fullShare} (dst.view.write (Elt F) fd (src.view.read (Elt F) fs) Finset.univ))
              ∗ (src.view.loc (c : Thread nD τ) ↦[src.view.set]{fullShare} fs)) ⊢ dPay m c x) :
    env m K ⊢ iprop(pays (F := F) c i -∗ (src.view.loc (c : Thread nD τ) ↦[src.view.set]{fullShare} fs)
      -∗ (dst.view.loc (c : Thread nD τ) ↦[dst.view.set]{fullShare} fd)
      -∗ ((pays (F := F) c (i + 1) ∗ fl (F := F) c x) -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.here dst) (.dma sem) hsrc hdst hsem) k) Q) := by
  subst hq
  rw [pays_next c hx]
  have ht : tal c (.inr x) = 0 := by unfold tal; rw [hl]
  have hv : tdev (.inr x) c = c := by unfold tdev; rw [hl]
  rw [ht, hv]
  iintro #HE ⟨⟨%W, HO⟩, Ht, Hts⟩ Hs Hd Hk
  iapply (Rounds.wp_copy_pointsTo 𝒱₀ ER (Rd m) (c : Thread nD τ) none (r := 0) (d := 0) (κ := K (c, some x))
      (by show (0 : Fin 3) ∈ (Rd m).duties (kcell (c, some x)) 0; rw [duties_d]; exact Finset.mem_singleton_self _) () (amt x) hN (amount_d m c x 0)
      (by rw [show (Rd m).payload ((c : Thread nD τ), .dma (semOf x)) 0 0 = dPay m c x from payload_d m c x 0]; exact hpay)) $$ [Ht Hs Hd]
  · isplitr; · iapply (env_inv m K (c, some x)); iexact HE
    isplitl [Hs]; · iexact Hs
    isplitl [Hd]; · iexact Hd
    isplitl [Ht]; · iexact Ht
    iapply (env_reached m K (c, some x)); iexact HE
  iintro Hc
  iapply Hk
  isplitr [Hc]
  · unfold pays
    isplitl [HO]; · iexists W; rw [add_zero]; iexact HO
    iexact Hts
  iexact Hc

/-- A signal to the partner in direction `d`, handing over the landing buffers of the steps in that direction. -/
theorem step_signal (c : Dev nD) (d : Fin 3) {i : Nat} (hx : payL[i]? = some (.inl d)) (n : Dev nD) (hn : n = pd d c) :
    env m K ⊢ iprop(pays (F := F) c i -∗ barPay (F := F) (pd d c) d
      -∗ (pays (F := F) c (i + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n, .tc) barS (1#32).toInt) k) Q) := by
  subst hn
  rw [pays_next c hx]
  iintro #HE ⟨⟨%W, HO⟩, Ht, Hts⟩ Hp Hk
  iapply (Rounds.wp_signal 𝒱₀ ER (Rd m) (c : Thread nD τ) none (dst := (pd d c : Thread nD τ)) (κ := K (pd d c, none)) (r := 0)
      (d := d) (k' := 1) (by show d ∈ (Rd m).duties (kcell (pd d c, none)) 0; rw [duties_bar]; exact Finset.mem_univ _) (amount_bar m (pd d c) d) () (owed c (payL.drop (i + 1))) rfl)
    $$ [HO Ht Hp]
  · isplitr; · iapply (env_inv m K (pd d c, none)); iexact HE
    isplitl [HO]; · iexact HO
    isplitl [Ht]; · iexact Ht
    isplitl [Hp]
    · rw [show (Rd m).payload ((pd d c : Thread nD τ), .reg barS) 0 d = barPay (pd d c) d from payload_bar m (pd d c) d]; iexact Hp
    iapply (env_reached m K (pd d c, none)); iexact HE
  iintro HO
  iapply Hk
  unfold pays
  isplitl [HO]; · iexists W; iexact HO
  iexact Hts

section
variable (c : Dev nD) (x y : DCell) {i : Nat} (d : Fin 3) (hx : payL[i]? = some (.inr x)) (hy : payL[i + 1]? = some (.inr y))
    (hxl : tdir (.inr x) = none) (hyl : tdir (.inr y) = some d) (hxy : amt x = amt y) (n : Dev nD) (hn : n = pd d c)
    {sp sp' : Space} {s : Shape} {e : EltTy} {src : Memref sig .tc sp s e} {dst : Memref sig .tc sp' s e} {semS semR : DmaSem sig}
    (hS : semS = semOf x) (hR : semR = semOf y)
    {hsc : (dst : Memref sig (Dev.tc n : Thread nD τ).2.kind sp' s e).view.ref.isScScratch = false}
    {hsrc : src.view.WordExact} {hdst : dst.view.WordExact} {hsem : DmaTarget.Typed sp (.dma semR) (.remote (Dev.tc n : Thread nD τ) dst (.dma semS) hsc)}
    {fs : Buf (Elt F) (src.view.loc (c : Thread nD τ))} {fd : Buf (Elt F) (dst.view.loc (pd d c : Thread nD τ))}
    (hN : dst.view.amount (.dma (semOf y)) = amt y)

theorem pays_send (hx : payL[i]? = some (.inr x)) (hy : payL[i + 1]? = some (.inr y))
    (hxl : tdir (.inr x) = none) (hyl : tdir (.inr y) = some d) :
    pays (F := F) c i = iprop((∃ W, owes (c : Thread nD τ) (owed c (payL.drop (i + 2)) + tallyAt (kcell (pd d c, some y)) () (amt y)) W)
      ∗ (tokAt (F := F) (.inr x) c ∗ tokAt (F := F) (.inr y) (pd d c) ∗ bigSepL (payL.drop (i + 2)) fun k => tokAt (F := F) k (tdev k c))) := by
  rw [pays_next c hx, drop_cons hy, bigSepL_cons']
  have h1 : tal c (.inr x) = 0 := by unfold tal; rw [hxl]
  have h2 : tdev (.inr x) c = c := by unfold tdev; rw [hxl]
  have h3 : tdev (.inr y) c = pd d c := by unfold tdev; rw [hyl]
  have h4 : tal c (.inr y) = tallyAt (kcell (pd d c, some y)) () (amt y) := by unfold tal; rw [hyl]; rfl
  rw [h1, h2, h3]
  show iprop((∃ W, owes (c : Thread nD τ) (owed c (payL.drop (i + 1 + 1)) + tal c (.inr y) + 0) W) ∗ _) = _
  rw [h4, add_zero]

include hx hy hxl hyl hxy hn hS hR hN

/-- A copy to the partner in direction `d` that gives the source up with the landing: the next two duties, of the device's
    own sending cell and the partner's receiving cell. -/
theorem step_send_landing
    (hp1 : dPay m c x = iprop(emp))
    (hp2 : iprop((dst.view.loc (pd d c : Thread nD τ) ↦[dst.view.set]{fullShare} (dst.view.write (Elt F) fd (src.view.read (Elt F) fs) Finset.univ))
              ∗ (src.view.loc (c : Thread nD τ) ↦[src.view.set]{fullShare} fs)) ⊢ dPay m (pd d c) y) :
    env m K ⊢ iprop(pays (F := F) c i -∗ (src.view.loc (c : Thread nD τ) ↦[src.view.set]{fullShare} fs)
      -∗ (dst.view.loc (pd d c : Thread nD τ) ↦[dst.view.set]{fullShare} fd)
      -∗ ((pays (F := F) c (i + 2) ∗ fl (F := F) c x) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma semS) hsc) (.dma semR) hsrc hdst hsem) k) Q) := by
  subst hn; subst hS; subst hR
  rw [pays_send c x y d hx hy hxl hyl]
  iintro #HE ⟨⟨%W, HO⟩, Ht, Hu, Hts⟩ Hs Hd Hk
  iapply (Rounds.wp_send_landing_pointsTo 𝒱₀ ER (Rd m) (c : Thread nD τ) none (κ₁ := K (c, some x)) (κ₂ := K (pd d c, some y))
    (r₁ := 0) (r₂ := 0) (d₁ := 0) (d₂ := 0) (fd := fd)
    (by show (0 : Fin 3) ∈ (Rd m).duties (kcell (c, some x)) 0; rw [duties_d]; exact Finset.mem_singleton_self _)
    (by show (0 : Fin 3) ∈ (Rd m).duties (kcell (pd d c, some y)) 0; rw [duties_d]; exact Finset.mem_singleton_self _)
    () () (amt y) hN ((amount_d m c x 0).trans hxy) (amount_d m (pd d c) y 0) (owed c (payL.drop (i + 2))) rfl (W := W)
    (by rw [show (Rd m).payload ((c : Thread nD τ), .dma (semOf x)) 0 0 = dPay m c x from payload_d m c x 0, hp1])
    (by rw [show (Rd m).payload ((pd d c : Thread nD τ), .dma (semOf y)) 0 0 = dPay m (pd d c) y from payload_d m (pd d c) y 0]; exact hp2))
    $$ [HO Ht Hu Hs Hd]
  · isplitr; · iapply (env_inv m K (c, some x)); iexact HE
    isplitr; · iapply (env_inv m K (pd d c, some y)); iexact HE
    isplitl [Hs]; · iexact Hs
    isplitl [Hd]; · iexact Hd
    isplitl [HO]; · iexact HO
    isplitl [Ht]; · iexact Ht
    isplitr; · iapply (env_reached m K (c, some x)); iexact HE
    isplitl [Hu]; · iexact Hu
    iapply (env_reached m K (pd d c, some y)); iexact HE
  iintro ⟨Hc, HO⟩
  iapply Hk
  isplitr [Hc]
  · unfold pays
    isplitl [HO]; · iexists W; iexact HO
    iexact Hts
  rw [← hxy]; iexact Hc

/-- A copy to the partner in direction `d` whose source comes back with the sending cell. -/
theorem step_send
    (hp1 : iprop(src.view.loc (c : Thread nD τ) ↦[src.view.set]{fullShare} fs) ⊢ dPay m c x)
    (hp2 : iprop(dst.view.loc (pd d c : Thread nD τ) ↦[dst.view.set]{fullShare} (dst.view.write (Elt F) fd (src.view.read (Elt F) fs) Finset.univ))
              ⊢ dPay m (pd d c) y) :
    env m K ⊢ iprop(pays (F := F) c i -∗ (src.view.loc (c : Thread nD τ) ↦[src.view.set]{fullShare} fs)
      -∗ (dst.view.loc (pd d c : Thread nD τ) ↦[dst.view.set]{fullShare} fd)
      -∗ ((pays (F := F) c (i + 2) ∗ fl (F := F) c x) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma semS) hsc) (.dma semR) hsrc hdst hsem) k) Q) := by
  subst hn; subst hS; subst hR
  rw [pays_send c x y d hx hy hxl hyl]
  iintro #HE ⟨⟨%W, HO⟩, Ht, Hu, Hts⟩ Hs Hd Hk
  iapply (Rounds.wp_send_pointsTo 𝒱₀ ER (Rd m) (c : Thread nD τ) none (κ₁ := K (c, some x)) (κ₂ := K (pd d c, some y))
    (r₁ := 0) (r₂ := 0) (d₁ := 0) (d₂ := 0) (fd := fd)
    (by show (0 : Fin 3) ∈ (Rd m).duties (kcell (c, some x)) 0; rw [duties_d]; exact Finset.mem_singleton_self _)
    (by show (0 : Fin 3) ∈ (Rd m).duties (kcell (pd d c, some y)) 0; rw [duties_d]; exact Finset.mem_singleton_self _)
    () () (amt y) hN ((amount_d m c x 0).trans hxy) (amount_d m (pd d c) y 0) (owed c (payL.drop (i + 2))) rfl (W := W)
    (by rw [show (Rd m).payload ((c : Thread nD τ), .dma (semOf x)) 0 0 = dPay m c x from payload_d m c x 0]; exact hp1)
    (by rw [show (Rd m).payload ((pd d c : Thread nD τ), .dma (semOf y)) 0 0 = dPay m (pd d c) y from payload_d m (pd d c) y 0]; exact hp2))
    $$ [HO Ht Hu Hs Hd]
  · isplitr; · iapply (env_inv m K (c, some x)); iexact HE
    isplitr; · iapply (env_inv m K (pd d c, some y)); iexact HE
    isplitl [Hs]; · iexact Hs
    isplitl [Hd]; · iexact Hd
    isplitl [HO]; · iexact HO
    isplitl [Ht]; · iexact Ht
    isplitr; · iapply (env_reached m K (c, some x)); iexact HE
    isplitl [Hu]; · iexact Hu
    iapply (env_reached m K (pd d c, some y)); iexact HE
  iintro ⟨Hc, HO⟩
  iapply Hk
  isplitr [Hc]
  · unfold pays
    isplitl [HO]; · iexists W; iexact HO
    iexact Hts
  rw [← hxy]; iexact Hc

end

/-- The wait at the barrier: the three partners' landing buffers. -/
theorem step_barrier (c : Dev nD) {i j : Nat} (hj : waitL[j]? = some none) (ha : (payL.drop i).all (above (clev none)) = true) :
    env m K ⊢ iprop(pays (F := F) c i -∗ waits (F := F) c j
      -∗ ((pays (F := F) c i ∗ waits (F := F) c (j + 1) ∗ barPay (F := F) c 0 ∗ barPay (F := F) c 1 ∗ barPay (F := F) c 2)
          -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS (3#32).toInt) k) Q) := by
  rw [waits_next c hj, show lcred (F := F) c none = cred (tallyAt ((c : Thread nD τ), .reg barS) () 3) from rfl]
  iintro #HE Hpays ⟨⟨Hw, Hws⟩, Hz⟩ Hk
  unfold pays
  icases Hpays with ⟨⟨%W, HO⟩, Hts⟩
  icases Hw with ⟨Hat, Hc⟩
  iapply (Rounds.wp_wait_rest_token 𝒱₀ ER (Rd m) (c : Thread nD τ) none (κ := K (c, none)) (k' := 3)
      (wpE_semWait_eq 𝒱₀ (c : Thread nD τ) none Set.univ) (Set.mem_univ _) () (O := owed c (payL.drop i)) (W := W) (R := 0) (m := 0) (T := ∅)
      (by rw [Nat.zero_add]; exact (expect_bar m c).symm)) $$ [Hc HO Hat]
  · isplitr; · iapply (env_inv m K (c, none)); iexact HE
    isplitl [Hc]; · iexact Hc
    isplitl [HO]; · iexact HO
    isplitr; · iapply (mayWait_cell c none (payL.drop i) ha); iapply (env_lev m K); iexact HE
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (kcell (c, none)))) $$ [Hat] with H0
  · isplitr; · iapply (env_inv m K (c, none)); iexact HE
    iexact Hat
  iapply Hk
  isplitl [HO Hts]
  · isplitl [HO]; · iexists _; iexact HO
    iexact Hts
  isplitr [Hp]
  · iapply (waits_succ (F := F) c hj)
    isplitl [Hws]; · iexact Hws
    isplitl [Hz]; · iexact Hz
    iexact H0
  iexact Hp

/-- The wait on cell `x`, its units in hand: its payload. -/
theorem step_wait_core (c : Dev nD) (x : DCell) {i j : Nat} (hj : waitL[j]? = some (some x)) (ha : (payL.drop i).all (above (clev (some x))) = true)
    {sp sp' : Space} {s s' : Shape} {e e' : EltTy} {src : Memref sig .tc sp s e} {dst : Memref sig .tc sp' s' e'} {sem : DmaSem sig} (hq : sem = semOf x)
    {hsrc : src.view.WordExact} {hdst : dst.view.WordExact} (hN : dst.view.dmaCredit = amt x) :
    env m K ⊢ iprop(pays (F := F) c i -∗ (bigSepL (waitL.drop (j + 1)) fun x => wt (F := F) c x) -∗ (bigSepL (waitL.take j) fun x => semVal (kcell (c, x)) 0)
      -∗ atPos ER (kcell (c, some x)) 0 ∅ 0 -∗ fl (F := F) c x
      -∗ ((pays (F := F) c i ∗ waits (F := F) c (j + 1) ∗ dPay m c x)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hq
  iintro #HE Hpays Hws Hz Hat Hc Hk
  unfold pays
  icases Hpays with ⟨⟨%W, HO⟩, Hts⟩
  iapply (Rounds.wp_wait_rest_token 𝒱₀ ER (Rd m) (c : Thread nD τ) none (κ := K (c, some x))
      (wpE_waitDma2_eq 𝒱₀ (c : Thread nD τ) none Set.univ) (Set.mem_univ _) () (O := owed c (payL.drop i)) (W := W) (R := 0) (m := 0) (T := ∅)
      (by rw [Nat.zero_add, hN]; exact (expect_d m c x).symm)) $$ [Hc HO Hat]
  · isplitr; · iapply (env_inv m K (c, some x)); iexact HE
    isplitl [Hc]; · rw [hN]; iexact Hc
    isplitl [HO]; · iexact HO
    isplitr; · iapply (mayWait_cell c (some x) (payL.drop i) ha); iapply (env_lev m K); iexact HE
    iexact Hat
  iintro ⟨HO, Hat, -, Hpay⟩
  ihave Hp := (Entails.of_eq (rest_d m c x)) $$ Hpay
  imod (Rounds.cell_close ER (Rd m) (Set.mem_univ (K (c, some x))) (fun h => h) (R := 0 + 1) (duties_later m (kcell (c, some x)))) $$ [Hat] with H0
  · isplitr; · iapply (env_inv m K (c, some x)); iexact HE
    iexact Hat
  iapply Hk
  isplitl [HO Hts]
  · isplitl [HO]; · iexists _; iexact HO
    iexact Hts
  isplitr [Hp]
  · iapply (waits_succ (F := F) c hj)
    isplitl [Hws]; · iexact Hws
    isplitl [Hz]; · iexact Hz
    iexact H0
  iexact Hp

/-- The wait on a cell whose copy the device made itself. -/
theorem step_wait (c : Dev nD) (x : DCell) {i j : Nat} (hj : waitL[j]? = some (some x)) (ha : (payL.drop i).all (above (clev (some x))) = true)
    {sp sp' : Space} {s s' : Shape} {e e' : EltTy} {src : Memref sig .tc sp s e} {dst : Memref sig .tc sp' s' e'} {sem : DmaSem sig} (hq : sem = semOf x)
    {hsrc : src.view.WordExact} {hdst : dst.view.WordExact} (hN : dst.view.dmaCredit = amt x) :
    env m K ⊢ iprop(pays (F := F) c i -∗ waits (F := F) c j -∗ fl (F := F) c x
      -∗ ((pays (F := F) c i ∗ waits (F := F) c (j + 1) ∗ dPay m c x)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  rw [waits_next c hj]
  iintro #HE Hpays ⟨⟨Hw, Hws⟩, Hz⟩ Hc Hk
  icases Hw with ⟨Hat, -⟩
  iapply (step_wait_core m K c x hj ha hq hN) $$ HE Hpays Hws Hz Hat Hc Hk

/-- The wait on a receiving cell. -/
theorem step_recv (c : Dev nD) (x : DCell) (hl : lcred (F := F) c (some x) = fl (F := F) c x) {i j : Nat} (hj : waitL[j]? = some (some x))
    (ha : (payL.drop i).all (above (clev (some x))) = true)
    {sp sp' : Space} {s s' : Shape} {e e' : EltTy} {src : Memref sig .tc sp s e} {dst : Memref sig .tc sp' s' e'} {sem : DmaSem sig} (hq : sem = semOf x)
    {hsrc : src.view.WordExact} {hdst : dst.view.WordExact} (hN : dst.view.dmaCredit = amt x) :
    env m K ⊢ iprop(pays (F := F) c i -∗ waits (F := F) c j
      -∗ ((pays (F := F) c i ∗ waits (F := F) c (j + 1) ∗ dPay m c x)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  rw [waits_next c hj, hl]
  iintro #HE Hpays ⟨⟨Hw, Hws⟩, Hz⟩ Hk
  icases Hw with ⟨Hat, Hc⟩
  iapply (step_wait_core m K c x hj ha hq hN) $$ HE Hpays Hws Hz Hat Hc Hk

end

end Cert.Exchange

end
-- ==== Proof.Exch.lean ====
/-
# The exchange's steps

For one part, what device `c` holds at each point of the three summation steps and the three gathering steps, and the
operations that lead from one point to the next.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The buffers' views -/

/-- `src` is the rows `n` from row `l` of part `t`'s working buffer. -/
structure Slc (t : Fin 3) (l n : Nat) {s : Shape} (src : Memref sig .tc .vmem s .bf16) where
  C : (c : Dev nD) → (Nat → Nat → F .bf16) → Buf (Elt F) (src.view.loc (c : Thread nD τ))
  pts : ∀ (c : Dev nD) (g : Nat → Nat → F .bf16), own (F := F) t c l n g = (src.view.loc (c : Thread nD τ) ↦[src.view.set]{fullShare} C c g)
  read : ∀ (c : Dev nD) (g : Nat → Nat → F .bf16), src.view.read (Elt F) (C c g) = rc fun i j => g (l + i) j
  write : ∀ (c : Dev nD) (f : Buf (Elt F) (src.view.loc (c : Thread nD τ))) (w : s.Idx → F .bf16) (g : Nat → Nat → F .bf16), w = (rc fun i j => g (l + i) j) →
    (src.view.loc (c : Thread nD τ) ↦[src.view.set]{fullShare} (src.view.write (Elt F) f w Finset.univ) : sProp 𝕄) = own t c l n g

/-- `dst` is the landing buffer of part `t`'s step `r`. -/
structure Stg (t r : Fin 3) {s : Shape} (dst : Memref sig .tc .vmem s .bf16) : Prop where
  any : ∀ c : Dev nD, stAny (F := F) t r c ⊢ iprop(∃ fd : Buf (Elt F) (dst.view.loc (c : Thread nD τ)), (dst.view.loc (c : Thread nD τ) ↦[dst.view.set]{fullShare} fd))
  land : ∀ (c : Dev nD) (fd : Buf (Elt F) (dst.view.loc (c : Thread nD τ))) (w : s.Idx → F .bf16) (g : Nat → Nat → F .bf16), w = rc g →
    (dst.view.loc (c : Thread nD τ) ↦[dst.view.set]{fullShare} (dst.view.write (Elt F) fd w Finset.univ) : sProp 𝕄) ⊢ stg t r c g

theorem rows_pts {b : Ref sig .tc} {off size : Fin b.ty.shape.rank → Nat} {l n : Nat} (H : IsRows b off size l n)
    (inb : ∀ a, off a + size a ≤ b.ty.shape.size a) (c : Dev nD) (g : Nat → Nat → Elt F b.ty.elt) :
    rowPts (F := F) b c l n g = (((View.whole b).slice (Rect.unit off size inb)).loc (c : Thread nD τ)
      ↦[((View.whole b).slice (Rect.unit off size inb)).set]{fullShare} (rc g : b.ty.Contents (Elt F))) :=
  congrArg (fun S : Finset b.ty.shape.Idx => (((c : Thread nD τ).loc b) ↦[S]{fullShare} (rc g : b.ty.Contents (Elt F)) : sProp 𝕄)) (H.set inb).symm
theorem rows_write {b : Ref sig .tc} {off size : Fin b.ty.shape.rank → Nat} {l n : Nat} (H : IsRows b off size l n)
    (inb : ∀ a, off a + size a ≤ b.ty.shape.size a) (c : Dev nD) (f : b.ty.Contents (Elt F))
    (w : (Rect.unit off size inb).shape.Idx → Elt F b.ty.elt) (g : Nat → Nat → Elt F b.ty.elt) (hw : w = rc fun i j => g (l + i) j) :
    (((View.whole b).slice (Rect.unit off size inb)).loc (c : Thread nD τ) ↦[((View.whole b).slice (Rect.unit off size inb)).set]{fullShare}
      (((View.whole b).slice (Rect.unit off size inb)).write (Elt F) f w Finset.univ) : sProp 𝕄) = rowPts (F := F) b c l n g := by
  rw [rows_pts H inb c g]
  exact pointsTo_congr fun i hi => H.write inb f w g hw i (by rw [← H.set inb]; exact hi)

/-- A slice of whole rows is such a view. -/
def slc0 {off : Fin 2 → Nat} {l n : Nat} (h : off = ![l, 0]) (inb : ∀ a, off a + (![n, 1024] : Fin 2 → Nat) a ≤ S384x1024.size a) :
    Slc (F := F) 0 l n ((Memref.whole cc0_scratch4).slice (Rect.unit (s := S384x1024) off ![n, 1024] inb) (fun _ => rfl)) where
  C c g := rc g
  pts c g := rows_pts (isRows0 h) inb c g
  read c g := (isRows0 h).read inb g
  write c f w g hw := rows_write (isRows0 h) inb c f w g hw
def slc1 {off : Fin 2 → Nat} {l n : Nat} (h : off = ![l, 0]) (inb : ∀ a, off a + (![n, 1024] : Fin 2 → Nat) a ≤ S384x1024.size a) :
    Slc (F := F) 1 l n ((Memref.whole cc0_scratch5).slice (Rect.unit (s := S384x1024) off ![n, 1024] inb) (fun _ => rfl)) where
  C c g := rc g
  pts c g := rows_pts (isRows1 h) inb c g
  read c g := (isRows1 h).read inb g
  write c f w g hw := rows_write (isRows1 h) inb c f w g hw
def slc2 {off : Fin 2 → Nat} {l n : Nat} (h : off = ![l, 0]) (inb : ∀ a, off a + (![n, 1024] : Fin 2 → Nat) a ≤ S256x1024.size a) :
    Slc (F := F) 2 l n ((Memref.whole cc0_scratch6).slice (Rect.unit (s := S256x1024) off ![n, 1024] inb) (fun _ => rfl)) where
  C c g := rc g
  pts c g := rows_pts (isRows2 h) inb c g
  read c g := (isRows2 h).read inb g
  write c f w g hw := rows_write (isRows2 h) inb c f w g hw

theorem whole_any (b : Ref sig .tc) (c : Dev nD) : anyPts (F := F) b c
    ⊢ iprop(∃ fd : Buf (Elt F) ((Memref.whole b).view.loc (c : Thread nD τ)), ((Memref.whole b).view.loc (c : Thread nD τ) ↦[(Memref.whole b).view.set]{fullShare} fd)) := by
  rw [View.set_whole]
theorem whole_land (b : Ref sig .tc) (c : Dev nD) (fd : Buf (Elt F) ((Memref.whole b).view.loc (c : Thread nD τ))) (w : b.ty.Contents (Elt F)) :
    ((Memref.whole b).view.loc (c : Thread nD τ) ↦[(Memref.whole b).view.set]{fullShare} ((Memref.whole b).view.write (Elt F) fd w Finset.univ) : sProp 𝕄)
      ⊢ allPts b c w := by
  rw [View.set_whole, View.write_whole_univ]

theorem stg00 : Stg (F := F) 0 0 (Memref.whole cc0_scratch7) := ⟨whole_any cc0_scratch7, fun c fd w g hw => by subst hw; exact whole_land cc0_scratch7 c fd _⟩
theorem stg01 : Stg (F := F) 0 1 (Memref.whole cc0_scratch8) := ⟨whole_any cc0_scratch8, fun c fd w g hw => by subst hw; exact whole_land cc0_scratch8 c fd _⟩
theorem stg02 : Stg (F := F) 0 2 (Memref.whole cc0_scratch9) := ⟨whole_any cc0_scratch9, fun c fd w g hw => by subst hw; exact whole_land cc0_scratch9 c fd _⟩
theorem stg10 : Stg (F := F) 1 0 (Memref.whole cc0_scratch10) := ⟨whole_any cc0_scratch10, fun c fd w g hw => by subst hw; exact whole_land cc0_scratch10 c fd _⟩
theorem stg11 : Stg (F := F) 1 1 (Memref.whole cc0_scratch11) := ⟨whole_any cc0_scratch11, fun c fd w g hw => by subst hw; exact whole_land cc0_scratch11 c fd _⟩
theorem stg12 : Stg (F := F) 1 2 (Memref.whole cc0_scratch12) := ⟨whole_any cc0_scratch12, fun c fd w g hw => by subst hw; exact whole_land cc0_scratch12 c fd _⟩
theorem stg20 : Stg (F := F) 2 0 (Memref.whole cc0_scratch13) := ⟨whole_any cc0_scratch13, fun c fd w g hw => by subst hw; exact whole_land cc0_scratch13 c fd _⟩
theorem stg21 : Stg (F := F) 2 1 (Memref.whole cc0_scratch14) := ⟨whole_any cc0_scratch14, fun c fd w g hw => by subst hw; exact whole_land cc0_scratch14 c fd _⟩
theorem stg22 : Stg (F := F) 2 2 (Memref.whole cc0_scratch15) := ⟨whole_any cc0_scratch15, fun c fd w g hw => by subst hw; exact whole_land cc0_scratch15 c fd _⟩

/-! ## The points of a part's exchange -/

/-- Rows of the partner of step `r` that came with its landing, to be written back by the gathering. -/
def lent (t : Fin 3) (r : Nat) (c : Dev nD) : sProp 𝕄 := iprop(∃ g, own (F := F) t (pr t r c) (lo t (r + 1) c) (nn t (r + 1)) g)
def lents (t : Fin 3) (c : Dev nD) : Nat → sProp 𝕄
  | 0 => iprop(emp)
  | r + 1 => iprop(lent (F := F) t r c ∗ lents t c r)
/-- The device's own landing buffers of the first steps, used, -/
def mine (t : Fin 3) (c : Dev nD) : Nat → sProp 𝕄
  | 0 => iprop(emp)
  | r + 1 => iprop(stAny (F := F) t (Fin.ofNat 3 r) c ∗ mine t c r)
/-- the partners' landing buffers of the last `k` steps. -/
def theirs (t : Fin 3) (c : Dev nD) : Nat → sProp 𝕄
  | 0 => iprop(emp)
  | k + 1 => iprop(stAny (F := F) t (Fin.ofNat 3 (2 - k)) (pr t (2 - k) c) ∗ theirs t c k)

variable (m : (ℓ : Loc nD τ sig) → Buf (Elt F) ℓ) (K : Dev nD × Cl → ℕ)

/-- Before summation step `r`: the partial sums of the device's range. -/
def rdy (t : Fin 3) (r : Nat) (c : Dev nD) : sProp 𝕄 :=
  iprop(own t c (lo t r c) (nn t r) (W m t r c) ∗ lents (F := F) t c r ∗ mine (F := F) t c r ∗ theirs (F := F) t c (3 - r))
/-- The other half sent and its sending cell waited for, -/
def sent (t r : Fin 3) (c : Dev nD) : sProp 𝕄 :=
  iprop(own t c (lo t (r + 1) c) (nn t (r + 1)) (W m t r c) ∗ lents (F := F) t c r ∗ mine (F := F) t c r ∗ theirs (F := F) t c (3 - (r + 1)))
/-- not yet waited for, -/
def fly (t r : Fin 3) (c : Dev nD) : sProp 𝕄 := iprop(fl (F := F) c (.rsS t r) ∗ sent m t r c)
/-- the partner's half landed. -/
def got (t r : Fin 3) (c : Dev nD) : sProp 𝕄 :=
  iprop((own t c (lo t (r + 1) c) (nn t (r + 1)) (W m t r c) ∗ stg t r c (fun i j => W m t r (pr t r c) (lo t (r + 1) c + i) j))
    ∗ lents (F := F) t c (r + 1) ∗ mine (F := F) t c r ∗ theirs (F := F) t c (3 - (r + 1)))
/-- Before gathering step `r`: the sums of the device's range. -/
def gat (t : Fin 3) (r : Nat) (c : Dev nD) : sProp 𝕄 :=
  iprop(own t c (lo t (3 - r) c) (nn t (3 - r)) (A m t) ∗ lents (F := F) t c (3 - r) ∗ mine (F := F) t c 3)
/-- The range sent to the partner, -/
def gfly (t r : Fin 3) (c : Dev nD) : sProp 𝕄 := iprop(fl (F := F) c (.agS t r) ∗ lents (F := F) t c (3 - (r + 1)) ∗ mine (F := F) t c 3)
/-- and its sending cell waited for. -/
def gsent (t r : Fin 3) (c : Dev nD) : sProp 𝕄 :=
  iprop(own t c (lo t (3 - r) c) (nn t (3 - r)) (A m t) ∗ lents (F := F) t c (3 - (r + 1)) ∗ mine (F := F) t c 3)

theorem theirs_next (t r : Fin 3) (c : Dev nD) :
    theirs (F := F) t c (3 - r) = iprop(stAny (F := F) t r (pr t r c) ∗ theirs (F := F) t c (3 - (r + 1))) := by
  match r with
  | 0 => rfl
  | 1 => rfl
  | 2 => rfl
theorem lents_next (t r : Fin 3) (c : Dev nD) :
    lents (F := F) t c (3 - r) = iprop((∃ g, own (F := F) t (pr t (2 - r) c) (lo t (3 - r) c) (nn t (3 - r)) g) ∗ lents (F := F) t c (3 - (r + 1))) := by
  match r with
  | 0 => rfl
  | 1 => rfl
  | 2 => rfl
theorem lents_add (t : Fin 3) (r : Nat) (c : Dev nD) :
    iprop((∃ g, own (F := F) t (pr t r c) (lo t (r + 1) c) (nn t (r + 1)) g) ∗ lents (F := F) t c r) ⊢ lents (F := F) t c (r + 1) := .rfl
theorem mine_next (t r : Fin 3) (c : Dev nD) : mine (F := F) t c (r + 1) = iprop(stAny (F := F) t r c ∗ mine (F := F) t c r) := by
  match r with
  | 0 => rfl
  | 1 => rfl
  | 2 => rfl

theorem own_halves (t r : Fin 3) (c : Dev nD) (g) : (own (F := F) t c (lo t r c) (nn t r) g)
    ⊣⊢ iprop(own t c (lo t (r + 1) c) (nn t (r + 1)) g ∗ own t c (lo t (r + 1) (pr t r c)) (nn t (r + 1)) g) := by
  rw [nn_double]
  rcases lo_halves t r c with ⟨h1, h2⟩ | ⟨h1, h2⟩
  · rw [h1, h2]; exact own_split _ _ _ _ _ _
  · rw [h1, h2]
    constructor
    · refine (own_split _ _ _ _ _ _).1.trans ?_
      iintro ⟨H1, H2⟩
      isplitl [H2]; · iexact H2
      iexact H1
    · refine BIBase.Entails.trans ?_ (own_split _ _ _ _ _ _).2
      iintro ⟨H1, H2⟩
      isplitl [H2]; · iexact H2
      iexact H1

section
variable {α : Type} {Q : α → sProp (MT nD τ sig Unit (Elt F) ℕ UU ℕ)} {k : PUnit → Prog (TpuEff nD τ sig (Elt F) Λ₀ .tc) α}

/-- Summation step `r` sends the half the partner keeps. -/
theorem ph_send (t r : Fin 3) (c : Dev nD) (r' : Nat) (hr : r' = r) {i : Nat} (hx : payL[i]? = some (.inr (.rsS t r))) (hy : payL[i + 1]? = some (.inr (.rsR t r)))
    (n : Dev nD) (hn : n = pr t r c) {s : Shape} {src dst : Memref sig .tc .vmem s .bf16}
    (S : Slc (F := F) t (lo t (r + 1) (pr t r c)) (nn t (r + 1)) src) (D : Stg (F := F) t r dst) {semS semR : DmaSem sig}
    (hS : semS = semOf (.rsS t r)) (hR : semR = semOf (.rsR t r)) (hN : dst.view.amount (.dma (semOf (.rsR t r))) = amt (.rsR t r))
    {hsc : (dst : Memref sig (Dev.tc n : Thread nD τ).2.kind .vmem s .bf16).view.ref.isScScratch = false}
    {hsrc : src.view.WordExact} {hdst : dst.view.WordExact} {hsem : DmaTarget.Typed .vmem (.dma semR) (.remote (Dev.tc n : Thread nD τ) dst (.dma semS) hsc)} :
    env m K ⊢ iprop(pays (F := F) c i -∗ rdy m t r' c
      -∗ ((pays (F := F) c (i + 2) ∗ fly m t r c) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) dst (.dma semS) hsc) (.dma semR) hsrc hdst hsem) k) Q) := by
  subst hr
  unfold rdy fly sent
  rw [theirs_next]
  iintro #HE Hp ⟨Ho, Hl, Hm, Hst, Hth⟩ Hk
  ihave Ho := (own_halves t r c (W m t r c)).1 $$ Ho
  icases Ho with ⟨Hkeep, Hsend⟩
  ihave Hsend := (Entails.of_eq (S.pts c (W m t r c))) $$ Hsend
  ihave Hst := (D.any (pr t r c)) $$ Hst
  icases Hst with ⟨%fd, Hst⟩
  iapply (step_send_landing m K c (.rsS t r) (.rsR t r) (dir t r) hx hy rfl rfl rfl n hn hS hR hN rfl (by
      show _ ⊢ iprop(stg t r (pr t r c) (fun i j => W m t r (pr t r (pr t r c)) (lo t (r + 1) (pr t r c) + i) j)
        ∗ own t (pr t r (pr t r c)) (lo t (r + 1) (pr t r c)) (nn t (r + 1)) (W m t r (pr t r (pr t r c))))
      rw [show pr t r (pr t r c) = c from pd_pd _ _]
      rw [S.pts c (W m t r c)]
      exact sep_mono_left (D.land (pr t r c) fd _ _ (S.read c _)))) $$ HE Hp Hsend Hst
  iintro ⟨Hp, Hc⟩
  iapply Hk
  isplitl [Hp]; · iexact Hp
  isplitl [Hc]; · iexact Hc
  isplitl [Hkeep]; · iexact Hkeep
  isplitl [Hl]; · iexact Hl
  isplitl [Hm]; · iexact Hm
  iexact Hth

/-- The wait on the sending cell. -/
theorem ph_sent (t r : Fin 3) (c : Dev nD) {i j : Nat} (hj : waitL[j]? = some (some (.rsS t r)))
    (ha : (payL.drop i).all (above (clev (some (.rsS t r)))) = true)
    {sp sp' : Space} {s s' : Shape} {e e' : EltTy} {src : Memref sig .tc sp s e} {dst : Memref sig .tc sp' s' e'} {sem : DmaSem sig} (hq : sem = semOf (.rsS t r))
    {hsrc : src.view.WordExact} {hdst : dst.view.WordExact} (hN : dst.view.dmaCredit = amt (.rsS t r)) :
    env m K ⊢ iprop(pays (F := F) c i -∗ waits (F := F) c j -∗ fly m t r c
      -∗ ((pays (F := F) c i ∗ waits (F := F) c (j + 1) ∗ sent m t r c)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  unfold fly
  iintro #HE Hp Hw ⟨Hc, Hs⟩ Hk
  iapply (step_wait m K c (.rsS t r) hj ha hq hN) $$ HE Hp Hw Hc
  iintro ⟨Hp, Hw, -⟩
  iapply Hk
  isplitl [Hp]; · iexact Hp
  isplitl [Hw]; · iexact Hw
  iexact Hs

/-- The wait on the receiving cell. -/
theorem ph_recv (t r : Fin 3) (c : Dev nD) {i j : Nat} (hj : waitL[j]? = some (some (.rsR t r)))
    (ha : (payL.drop i).all (above (clev (some (.rsR t r)))) = true)
    {sp sp' : Space} {s s' : Shape} {e e' : EltTy} {src : Memref sig .tc sp s e} {dst : Memref sig .tc sp' s' e'} {sem : DmaSem sig} (hq : sem = semOf (.rsR t r))
    {hsrc : src.view.WordExact} {hdst : dst.view.WordExact} (hN : dst.view.dmaCredit = amt (.rsR t r)) :
    env m K ⊢ iprop(pays (F := F) c i -∗ waits (F := F) c j -∗ sent m t r c
      -∗ ((pays (F := F) c i ∗ waits (F := F) c (j + 1) ∗ got m t r c)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  unfold sent got
  iintro #HE Hp Hw ⟨Ho, Hl, Hm, Hth⟩ Hk
  iapply (step_recv m K c (.rsR t r) rfl hj ha hq hN) $$ HE Hp Hw
  iintro ⟨Hp, Hw, Hpay⟩
  ihave Hpay := (Entails.of_eq (show dPay m c (.rsR t r) = iprop(stg t r c (fun i j => W m t r (pr t r c) (lo t (r + 1) c + i) j)
      ∗ own t (pr t r c) (lo t (r + 1) c) (nn t (r + 1)) (W m t r (pr t r c))) from rfl)) $$ Hpay
  icases Hpay with ⟨Hst, Hlent⟩
  iapply Hk
  isplitl [Hp]; · iexact Hp
  isplitl [Hw]; · iexact Hw
  isplitl [Ho Hst]
  · isplitl [Ho]; · iexact Ho
    iexact Hst
  isplitl [Hlent Hl]
  · iapply (lents_add (F := F) t r c)
    isplitl [Hlent]; · iexists _; iexact Hlent
    iexact Hl
  isplitl [Hm]; · iexact Hm
  iexact Hth

/-- After the three summation steps the range holds the sums. -/
theorem ph_turn (t : Fin 3) (c : Dev nD) : rdy m t 3 c ⊢ gat m t 0 c := by
  unfold rdy gat
  show iprop(own t c (lo t 3 c) (nn t 3) (W m t 3 c) ∗ lents (F := F) t c 3 ∗ mine (F := F) t c 3 ∗ theirs (F := F) t c 0)
    ⊢ iprop(own t c (lo t 3 c) (nn t 3) (A m t) ∗ lents (F := F) t c 3 ∗ mine (F := F) t c 3)
  rw [own_congr t c (lo t 3 c) (nn t 3) (g := W m t 3 c) (g' := A m t) (fun i j h h' => by
    unfold A; rw [ownDev_row t c i h h'])]
  iintro ⟨Ho, Hl, Hm, -⟩
  isplitl [Ho]; · iexact Ho
  isplitl [Hl]; · iexact Hl
  iexact Hm

/-- Gathering step `r` sends the range. -/
theorem ph_gsend (t r : Fin 3) (c : Dev nD) (r' : Nat) (hr : r' = r) {i : Nat} (hx : payL[i]? = some (.inr (.agS t r))) (hy : payL[i + 1]? = some (.inr (.agR t r)))
    (n : Dev nD) (hn : n = pr t (2 - r) c) {s : Shape} {src : Memref sig .tc .vmem s .bf16}
    (S : Slc (F := F) t (lo t (3 - r) c) (nn t (3 - r)) src) {semS semR : DmaSem sig}
    (hS : semS = semOf (.agS t r)) (hR : semR = semOf (.agR t r)) (hN : src.view.amount (.dma (semOf (.agR t r))) = amt (.agR t r))
    {hsc : (src : Memref sig (Dev.tc n : Thread nD τ).2.kind .vmem s .bf16).view.ref.isScScratch = false}
    {hsrc : src.view.WordExact} {hdst : src.view.WordExact} {hsem : DmaTarget.Typed .vmem (.dma semR) (.remote (Dev.tc n : Thread nD τ) src (.dma semS) hsc)} :
    env m K ⊢ iprop(pays (F := F) c i -∗ gat m t r' c
      -∗ ((pays (F := F) c (i + 2) ∗ gfly (F := F) t r c) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma src (.remote (Dev.tc n : Thread nD τ) src (.dma semS) hsc) (.dma semR) hsrc hdst hsem) k) Q) := by
  subst hr
  unfold gat gfly
  rw [lents_next]
  iintro #HE Hp ⟨Ho, ⟨⟨%g, Hd⟩, Hl⟩, Hm⟩ Hk
  ihave Ho := (Entails.of_eq (S.pts c (A m t))) $$ Ho
  ihave Hd := (Entails.of_eq (S.pts (pr t (2 - r) c) g)) $$ Hd
  iapply (step_send m K c (.agS t r) (.agR t r) (dir t (2 - r)) hx hy rfl rfl rfl n hn hS hR hN (by
      show _ ⊢ own t c (lo t (3 - r) c) (nn t (3 - r)) (A m t)
      rw [S.pts c (A m t)]) (by
      show _ ⊢ own t (pr t (2 - r) c) (lo t (3 - r) (pr t (2 - r) (pr t (2 - r) c))) (nn t (3 - r)) (A m t)
      rw [show pr t (2 - r) (pr t (2 - r) c) = c from pd_pd _ _]
      exact Entails.of_eq (S.write (pr t (2 - r) c) _ _ _ (S.read c _)))) $$ HE Hp Ho Hd
  iintro ⟨Hp, Hc⟩
  iapply Hk
  isplitl [Hp]; · iexact Hp
  isplitl [Hc]; · iexact Hc
  isplitl [Hl]; · iexact Hl
  iexact Hm

/-- The wait on the sending cell. -/
theorem ph_gsent (t r : Fin 3) (c : Dev nD) {i j : Nat} (hj : waitL[j]? = some (some (.agS t r)))
    (ha : (payL.drop i).all (above (clev (some (.agS t r)))) = true)
    {sp sp' : Space} {s s' : Shape} {e e' : EltTy} {src : Memref sig .tc sp s e} {dst : Memref sig .tc sp' s' e'} {sem : DmaSem sig} (hq : sem = semOf (.agS t r))
    {hsrc : src.view.WordExact} {hdst : dst.view.WordExact} (hN : dst.view.dmaCredit = amt (.agS t r)) :
    env m K ⊢ iprop(pays (F := F) c i -∗ waits (F := F) c j -∗ gfly (F := F) t r c
      -∗ ((pays (F := F) c i ∗ waits (F := F) c (j + 1) ∗ gsent m t r c)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  unfold gfly gsent
  iintro #HE Hp Hw ⟨Hc, Hs⟩ Hk
  iapply (step_wait m K c (.agS t r) hj ha hq hN) $$ HE Hp Hw Hc
  iintro ⟨Hp, Hw, Ho⟩
  ihave Ho := (Entails.of_eq (show dPay m c (.agS t r) = own t c (lo t (3 - r) c) (nn t (3 - r)) (A m t) from rfl)) $$ Ho
  iapply Hk
  isplitl [Hp]; · iexact Hp
  isplitl [Hw]; · iexact Hw
  isplitl [Ho]; · iexact Ho
  iexact Hs

/-- The wait on the receiving cell: the range doubles. -/
theorem ph_grecv (t r : Fin 3) (c : Dev nD) (r' : Nat) (hr : r' = r + 1) {i j : Nat} (hj : waitL[j]? = some (some (.agR t r)))
    (ha : (payL.drop i).all (above (clev (some (.agR t r)))) = true)
    {sp sp' : Space} {s s' : Shape} {e e' : EltTy} {src : Memref sig .tc sp s e} {dst : Memref sig .tc sp' s' e'} {sem : DmaSem sig} (hq : sem = semOf (.agR t r))
    {hsrc : src.view.WordExact} {hdst : dst.view.WordExact} (hN : dst.view.dmaCredit = amt (.agR t r)) :
    env m K ⊢ iprop(pays (F := F) c i -∗ waits (F := F) c j -∗ gsent m t r c
      -∗ ((pays (F := F) c i ∗ waits (F := F) c (j + 1) ∗ gat m t r' c)
          -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sem src dst hsrc hdst) k) Q) := by
  subst hr
  unfold gsent gat
  iintro #HE Hp Hw ⟨Ho, Hl, Hm⟩ Hk
  iapply (step_recv m K c (.agR t r) rfl hj ha hq hN) $$ HE Hp Hw
  iintro ⟨Hp, Hw, Hpay⟩
  ihave Hpay := (Entails.of_eq (show dPay m c (.agR t r) = own t c (lo t (3 - r) (pr t (2 - r) c)) (nn t (3 - r)) (A m t) from rfl)) $$ Hpay
  iapply Hk
  isplitl [Hp]; · iexact Hp
  isplitl [Hw]; · iexact Hw
  isplitl [Ho Hpay]
  · have h : iprop(own (F := F) t c (lo t (3 - r) c) (nn t (3 - r)) (A m t) ∗ own t c (lo t (3 - r) (pr t (2 - r) c)) (nn t (3 - r)) (A m t))
        ⊢ own t c (lo t (3 - (r + 1)) c) (nn t (3 - (r + 1))) (A m t) := by
      match r with
      | 0 => exact (own_halves t 2 c (A m t)).2
      | 1 => exact (own_halves t 1 c (A m t)).2
      | 2 => exact (own_halves t 0 c (A m t)).2
    iapply h
    isplitl [Ho]; · iexact Ho
    iexact Hpay
  isplitl [Hl]; · iexact Hl
  iexact Hm

end

/-! ## The summation -/

/-- `M`, read at `q`, is the landing buffer of part `t`'s step `r`. -/
structure StL (t r : Fin 3) {s : Shape} (M : Memref sig .tc .vmem s .bf16) (q : LoadRect s) where
  C : (c : Dev nD) → (Nat → Nat → F .bf16) → Buf (Elt F) (M.view.loc (c : Thread nD τ))
  pts : ∀ (c : Dev nD) (g : Nat → Nat → F .bf16), stg (F := F) t r c g = (M.view.loc (c : Thread nD τ) ↦{fullShare} C c g)
  read : ∀ (c : Dev nD) (g : Nat → Nat → F .bf16), M.view.readAt (Elt F) q (C c g) = rc g

section
variable {α : Type} {Q : α → sProp (MT nD τ sig Unit (Elt F) ℕ UU ℕ)}

/-- A load of a part's rows. -/
theorem load_slc {t : Fin 3} {l n : Nat} {s : Shape} {M : Memref sig .tc .vmem s .bf16} {R : Rect s} {hR : ∀ a, R.stride a = 1}
    (S : Slc (F := F) t l n (M.slice R hR)) (c : Dev nD) (g : Nat → Nat → F .bf16) {hl : M.view.LoadsAt R.toLoadRect}
    {k : (R.shape.Idx → Elt F .bf16) → Prog (TpuEff nD τ sig (Elt F) Λ₀ .tc) α} :
    own t c l n g ⊢ iprop((own t c l n g -∗ wp frame (wpE (defs₀ (F := F)) 𝒱₀ (c : Thread nD τ) none) Set.univ (k (rc fun i j => g (l + i) j)) Q)
      -∗ wp frame (wpE (defs₀ (F := F)) 𝒱₀ (c : Thread nD τ) none) Set.univ (.op (.load M R.toLoadRect hl) k) Q) := by
  rw [S.pts c g, ← S.read c g]
  exact wp_load_rect 𝒱₀ (c : Thread nD τ) none Set.univ (m := M) (r := R) (S := (M.access R).set) subset_rfl

/-- The summation of step `r`: the range kept and the landing buffer are read, and their sum stored. -/
theorem ph_acc (t r : Fin 3) (c : Dev nD) (r' : Nat) (hr : r' = r + 1) {s s' : Shape} {M : Memref sig .tc .vmem s .bf16} {R : Rect s} {hR : ∀ a, R.stride a = 1}
    (S : Slc (F := F) t (lo t (r + 1) c) (nn t (r + 1)) (M.slice R hR))
    {M' : Memref sig .tc .vmem s' .bf16} {q : LoadRect s'} (D : StL (F := F) t r M' q)
    {pay : (R.shape.Idx → Elt F .bf16) → (q.shape.Idx → Elt F .bf16) → (R.shape.Idx → Elt F .bf16)}
    (hpay : pay (rc fun i j => W m t r c (lo t (r + 1) c + i) j) (rc fun i j => W m t r (pr t r c) (lo t (r + 1) c + i) j)
      = rc fun i j => W m t (r + 1) c (lo t (r + 1) c + i) j)
    {h1 : M.view.LoadsAt R.toLoadRect} {h2 : M'.view.LoadsAt q} {h3 : M.view.LoadsAt R.toLoadRect}
    {hx : (M.access R).Stores Finset.univ} {hm : (Finset.univ : Finset R.shape.Idx) = Finset.univ ∨ ∀ a, R.stride a = 1}
    {k : PUnit → Prog (TpuEff nD τ sig (Elt F) Λ₀ .tc) α} :
    got m t r c ⊢ iprop((rdy m t r' c -∗ wp frame (wpE (defs₀ (F := F)) 𝒱₀ (c : Thread nD τ) none) Set.univ (k ⟨⟩) Q)
      -∗ wp frame (wpE (defs₀ (F := F)) 𝒱₀ (c : Thread nD τ) none) Set.univ
        (.op (.load M R.toLoadRect h1) fun (v : R.shape.Idx → Elt F .bf16) => .op (.load M' q h2) fun (v' : q.shape.Idx → Elt F .bf16) =>
          .op (.load M R.toLoadRect h3) fun _ =>
          .op (.store M R (pay v v') Finset.univ hx hm) k) Q) := by
  subst hr
  unfold got rdy
  iintro ⟨⟨Ho, Hst⟩, Hl, Hm, Hth⟩ Hk
  iapply (load_slc S c _) $$ Ho
  iintro Ho
  ihave Hst := (Entails.of_eq (D.pts c _)) $$ Hst
  iapply (wp_load 𝒱₀ (c : Thread nD τ) none Set.univ (m := M') (r := q) (S := Finset.univ) (Finset.subset_univ _)) $$ Hst
  iintro Hst
  iapply (load_slc S c _) $$ Ho
  iintro Ho
  ihave Ho := (Entails.of_eq (S.pts c _)) $$ Ho
  iapply (wp_store 𝒱₀ (c : Thread nD τ) none Set.univ (m := M) (r := R) (Mk := Finset.univ) (S := (M.access R).set) subset_rfl) $$ Ho
  iintro Ho
  ihave Ho := (Entails.of_eq (S.write c _ _ (W m t (r + 1) c) (by rw [D.read]; exact hpay))) $$ Ho
  ihave Hst := (Entails.of_eq (D.pts c _).symm) $$ Hst
  iapply Hk
  isplitl [Ho]; · iexact Ho
  isplitl [Hl]; · iexact Hl
  isplitl [Hst Hm]
  · rw [mine_next]
    isplitl [Hst]; · iapply (stg_any (F := F) t r c _); iexact Hst
    iexact Hm
  iexact Hth

end

theorem z2 : (![0, 0] : Fin 2 → Nat) = 0 := by funext a; match a with | 0 => rfl | 1 => rfl

def stl00 {inb} : StL (F := F) 0 0 (Memref.whole cc0_scratch7) (Rect.unit (s := S192x1024) ![0, 0] S192x1024.size inb).toLoadRect :=
  ⟨fun _ g => rc g, fun _ _ => rfl, fun _ g => Memref.readAt_unit_zero (Elt F) cc0_scratch7 z2 _ _⟩
def stl01 {inb} : StL (F := F) 0 1 (Memref.whole cc0_scratch8) (Rect.unit (s := S96x1024) ![0, 0] S96x1024.size inb).toLoadRect :=
  ⟨fun _ g => rc g, fun _ _ => rfl, fun _ g => Memref.readAt_unit_zero (Elt F) cc0_scratch8 z2 _ _⟩
def stl02 {inb} : StL (F := F) 0 2 (Memref.whole cc0_scratch9) (Rect.unit (s := S48x1024) ![0, 0] S48x1024.size inb).toLoadRect :=
  ⟨fun _ g => rc g, fun _ _ => rfl, fun _ g => Memref.readAt_unit_zero (Elt F) cc0_scratch9 z2 _ _⟩
def stl10 {inb} : StL (F := F) 1 0 (Memref.whole cc0_scratch10) (Rect.unit (s := S192x1024) ![0, 0] S192x1024.size inb).toLoadRect :=
  ⟨fun _ g => rc g, fun _ _ => rfl, fun _ g => Memref.readAt_unit_zero (Elt F) cc0_scratch10 z2 _ _⟩
def stl11 {inb} : StL (F := F) 1 1 (Memref.whole cc0_scratch11) (Rect.unit (s := S96x1024) ![0, 0] S96x1024.size inb).toLoadRect :=
  ⟨fun _ g => rc g, fun _ _ => rfl, fun _ g => Memref.readAt_unit_zero (Elt F) cc0_scratch11 z2 _ _⟩
def stl12 {inb} : StL (F := F) 1 2 (Memref.whole cc0_scratch12) (Rect.unit (s := S48x1024) ![0, 0] S48x1024.size inb).toLoadRect :=
  ⟨fun _ g => rc g, fun _ _ => rfl, fun _ g => Memref.readAt_unit_zero (Elt F) cc0_scratch12 z2 _ _⟩
def stl20 {inb} : StL (F := F) 2 0 (Memref.whole cc0_scratch13) (Rect.unit (s := S128x1024) ![0, 0] S128x1024.size inb).toLoadRect :=
  ⟨fun _ g => rc g, fun _ _ => rfl, fun _ g => Memref.readAt_unit_zero (Elt F) cc0_scratch13 z2 _ _⟩
def stl21 {inb} : StL (F := F) 2 1 (Memref.whole cc0_scratch14) (Rect.unit (s := S64x1024) ![0, 0] S64x1024.size inb).toLoadRect :=
  ⟨fun _ g => rc g, fun _ _ => rfl, fun _ g => Memref.readAt_unit_zero (Elt F) cc0_scratch14 z2 _ _⟩
def stl22 {inb} : StL (F := F) 2 2 (Memref.whole cc0_scratch15) (Rect.unit (s := S32x1024) ![0, 0] S32x1024.size inb).toLoadRect :=
  ⟨fun _ g => rc g, fun _ _ => rfl, fun _ g => Memref.readAt_unit_zero (Elt F) cc0_scratch15 z2 _ _⟩

end Cert.Exchange

end
-- ==== Proof.Output.lean ====
/-
What the proofs of the body's sections share: a section as a function of the call's buffers, the loads of whole buffers, and the
output buffer, of which more and more rows hold the sums.
-/
module

public import proofs.«01_k».proof.Proof.Exch
public import proofs.«01_k».proof.Proof.Gen.KernelIdeal.Skeleton
public import Idealize.ShloMosaic.Lib.Pipeline.Value

@[expose] public section
set_option maxRecDepth 65536
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

/-- What a section of the body is a function of: its buffers and its semaphores, -/
abbrev Ctx (β : Type 1) : Type 1 :=
    (arg0 : Memref sig .tc .vmem S1024x1024 .f32) → (harg0 : arg0.IsWhole) → (arg1 : Memref sig .tc .vmem S1024x8x128 .f32) → (harg1 :
    arg1.IsWhole) → (arg2 : Memref sig .tc .vmem S1024x8x128 .f32) → (harg2 : arg2.IsWhole) → (arg3 : Memref sig .tc .hbm S1024x8192
    .f32) → (harg3 : arg3.IsWhole) → (arg4 : Memref sig .tc .hbm S8192x1024 .f32) → (harg4 : arg4.IsWhole) → (arg5 : Memref sig .tc
    .vmem S1x1024x1024 .f32) → (harg5 : arg5.IsWhole) → (arg6 : Memref sig .tc .vmem S1024x1024 .f32) → (harg6 : arg6.IsWhole) → (arg7
    : Memref sig .tc .vmem S1024x1024 .f32) → (harg7 : arg7.IsWhole) → (arg8 : Memref sig .tc .vmem S8x1024x128 .f32) → (harg8 :
    arg8.IsWhole) → (arg9 : Memref sig .tc .vmem S8x1024x128 .f32) → (harg9 : arg9.IsWhole) → (arg10 : Memref sig .tc .vmem S384x1024
    .bf16) → (harg10 : arg10.IsWhole) → (arg11 : Memref sig .tc .vmem S384x1024 .bf16) → (harg11 : arg11.IsWhole) → (arg12 : Memref
    sig .tc .vmem S256x1024 .bf16) → (harg12 : arg12.IsWhole) → (arg13 : Memref sig .tc .vmem S192x1024 .bf16) → (harg13 :
    arg13.IsWhole) → (arg14 : Memref sig .tc .vmem S96x1024 .bf16) → (harg14 : arg14.IsWhole) → (arg15 : Memref sig .tc .vmem S48x1024
    .bf16) → (harg15 : arg15.IsWhole) → (arg16 : Memref sig .tc .vmem S192x1024 .bf16) → (harg16 : arg16.IsWhole) → (arg17 : Memref
    sig .tc .vmem S96x1024 .bf16) → (harg17 : arg17.IsWhole) → (arg18 : Memref sig .tc .vmem S48x1024 .bf16) → (harg18 :
    arg18.IsWhole) → (arg19 : Memref sig .tc .vmem S128x1024 .bf16) → (harg19 : arg19.IsWhole) → (arg20 : Memref sig .tc .vmem
    S64x1024 .bf16) → (harg20 : arg20.IsWhole) → (arg21 : Memref sig .tc .vmem S32x1024 .bf16) → (harg21 : arg21.IsWhole) → (arg22 :
    DmaSems sig S2) → (arg23 : DmaSems sig S2x8) → (arg24 : DmaSems sig S3x3) → (arg25 : DmaSems sig S3x3) → (arg26 : DmaSems sig
    S3x3) → (arg27 : DmaSems sig S3x3) → β
/-- and the section at the call's own. -/
abbrev at_ {β : Type 1} (f : Ctx β) : β :=
    f (Memref.whole cc0_stg0_0) (Memref.isWhole_whole _) (Memref.whole cc0_stg1_0) (Memref.isWhole_whole _) (Memref.whole cc0_stg2_0)
    (Memref.isWhole_whole _) (Memref.whole main_arg1) (Memref.isWhole_whole _) (Memref.whole main_arg4) (Memref.isWhole_whole _)
    (Memref.whole cc0_stg3_0) (Memref.isWhole_whole _) (Memref.whole cc0_scratch0) (Memref.isWhole_whole _) (Memref.whole
    cc0_scratch1) (Memref.isWhole_whole _) (Memref.whole cc0_scratch2) (Memref.isWhole_whole _) (Memref.whole cc0_scratch3)
    (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole
    cc0_scratch8) (Memref.isWhole_whole _) (Memref.whole cc0_scratch9) (Memref.isWhole_whole _) (Memref.whole cc0_scratch10)
    (Memref.isWhole_whole _) (Memref.whole cc0_scratch11) (Memref.isWhole_whole _) (Memref.whole cc0_scratch12) (Memref.isWhole_whole
    _) (Memref.whole cc0_scratch13) (Memref.isWhole_whole _) (Memref.whole cc0_scratch14) (Memref.isWhole_whole _) (Memref.whole
    cc0_scratch15) (Memref.isWhole_whole _) cc0_scratch16 cc0_scratch17 cc0_scratch18 cc0_scratch19 cc0_scratch20 cc0_scratch21

variable (m : (ℓ : Loc nD τ sig) → Buf (Elt F) ℓ) (K : Dev nD × Cl → ℕ)
variable {α : Type} {Q : α → sProp (MT nD τ sig Unit (Elt F) ℕ UU ℕ)}

/-- A run of the program from a section on. -/
abbrev run (c : Dev nD) (p : Prog (TpuEff nD τ sig (Elt F) Λ₀ .tc) α) (Q : α → sProp (MT nD τ sig Unit (Elt F) ℕ UU ℕ)) : sProp 𝕄 :=
  wp frame (wpE (defs₀ (F := F)) 𝒱₀ (c : Thread nD τ) none) Set.univ p Q

/-- The units of a copy of whole rows. -/
theorem crs0 {off : Fin 2 → Nat} {n : Nat} {x : DCell} {inb : ∀ a, off a + (![n, 1024] : Fin 2 → Nat) a ≤ S384x1024.size a}
    (h : cc0_scratch4.dmaCredit ⟨2, ![n, 1024]⟩ .bf16 = amt x) :
    ((Memref.whole cc0_scratch4).slice (Rect.unit (s := S384x1024) off ![n, 1024] inb) (fun _ => rfl)).view.dmaCredit = amt x := h
theorem crs1 {off : Fin 2 → Nat} {n : Nat} {x : DCell} {inb : ∀ a, off a + (![n, 1024] : Fin 2 → Nat) a ≤ S384x1024.size a}
    (h : cc0_scratch5.dmaCredit ⟨2, ![n, 1024]⟩ .bf16 = amt x) :
    ((Memref.whole cc0_scratch5).slice (Rect.unit (s := S384x1024) off ![n, 1024] inb) (fun _ => rfl)).view.dmaCredit = amt x := h
theorem crs2 {off : Fin 2 → Nat} {n : Nat} {x : DCell} {inb : ∀ a, off a + (![n, 1024] : Fin 2 → Nat) a ≤ S256x1024.size a}
    (h : cc0_scratch6.dmaCredit ⟨2, ![n, 1024]⟩ .bf16 = amt x) :
    ((Memref.whole cc0_scratch6).slice (Rect.unit (s := S256x1024) off ![n, 1024] inb) (fun _ => rfl)).view.dmaCredit = amt x := h

/-- A section's return. -/
theorem ret_intro (c : Dev nD) (a : α) : Q a ⊢ run (F := F) c (.ret a) Q := by
  unfold run; rw [wp_ret]; iintro H; imodintro; iexact H

/-- A load from a buffer held whole. -/
theorem load_all {sh : Shape} {e : EltTy} (M : Memref sig .tc .vmem sh e) (c : Dev nD) (f : Buf (Elt F) (M.view.loc (c : Thread nD τ))) {q : LoadRect sh}
    {hl : M.view.LoadsAt q} {k : (q.shape.Idx → Elt F e) → Prog (TpuEff nD τ sig (Elt F) Λ₀ .tc) α} :
    (M.view.loc (c : Thread nD τ) ↦{fullShare} f) ⊢ iprop(((M.view.loc (c : Thread nD τ) ↦{fullShare} f) -∗ run c (k (M.view.readAt (Elt F) q f)) Q)
      -∗ run c (.op (.load M q hl) k) Q) :=
  wp_load 𝒱₀ (c : Thread nD τ) none Set.univ (m := M) (r := q) (S := Finset.univ) (Finset.subset_univ _)

/-! ## The output -/

/-- The output by row and column: the three parts one after another. -/
def outRow (i j : Nat) : F .bf16 := if i < 384 then A m 0 i j else if i < 768 then A m 1 (i - 384) j else A m 2 (i - 768) j
/-- The output of every device. -/
def outAt : Vec F S1x1024x1024 .f32 := fun i => FloatOps.extf .f32 bitsLt_bf16_f32 (outRow m (i 1).val (i 2).val)

/-- The output buffer, whose first `n` rows are stored. -/
def outP (c : Dev nD) (n : Nat) : sProp 𝕄 :=
  iprop(∃ f : cc0_stg3_0.ty.Contents (Elt F), ⌜∀ i : S1x1024x1024.Idx, (i 1).val < n → f i = outAt m i⌝ ∗ allPts cc0_stg3_0 c f)

theorem out_mem {l n : Nat} {inb : ∀ a, (![0, l, 0] : Fin 3 → Nat) a + (![1, n, 1024] : Fin 3 → Nat) a ≤ S1x1024x1024.size a} (i : S1x1024x1024.Idx) :
    i ∈ (Rect.unit (s := S1x1024x1024) ![0, l, 0] ![1, n, 1024] inb).set ↔ l ≤ (i 1).val ∧ (i 1).val < l + n := by
  rw [Rect.mem_set_unit]
  have h0 : (i 0).val < 1 := (i 0).isLt
  have h2 : (i 2).val < 1024 := (i 2).isLt
  constructor
  · exact fun h => h 1
  · intro h a
    match a with
    | 0 => exact ⟨Nat.zero_le _, by show _ < 0 + 1; omega⟩
    | 1 => exact h
    | 2 => exact ⟨Nat.zero_le _, by show _ < 0 + 1024; omega⟩

/-- A block of rows stored. -/
theorem out_write {l n : Nat} {inb : ∀ a, (![0, l, 0] : Fin 3 → Nat) a + (![1, n, 1024] : Fin 3 → Nat) a ≤ S1x1024x1024.size a}
    (f : cc0_stg3_0.ty.Contents (Elt F)) (hf : ∀ i : S1x1024x1024.Idx, (i 1).val < l → f i = outAt m i)
    (g : Nat → Nat → F .bf16) (hg : ∀ i j, i < n → g i j = outRow m (l + i) j)
    (hc : (⟨2, ![n, 1024]⟩ : Shape).ShapeCasts ⟨3, ![1, n, 1024]⟩) (i : S1x1024x1024.Idx) (hi : (i 1).val < l + n) :
    (((Memref.whole cc0_stg3_0 : Memref sig .tc .vmem S1x1024x1024 .f32).access (Rect.unit (s := S1x1024x1024) ![0, l, 0] ![1, n, 1024] inb)).write (Elt F) f
      (shapeCast ⟨3, ![1, n, 1024]⟩ (extf .f32 (rc g : FVec F ⟨2, ![n, 1024]⟩ .bf16) bitsLt_bf16_f32) hc) Finset.univ) i = outAt m i := by
  by_cases h : l ≤ (i 1).val
  · have hmem : i ∈ (Rect.unit (s := S1x1024x1024) ![0, l, 0] ![1, n, 1024] inb).set := (out_mem i).mpr ⟨h, hi⟩
    rw [← Rect.map_emb_univ, Finset.mem_map] at hmem
    obtain ⟨x, -, rfl⟩ := hmem
    refine (View.write_emb_of_mem (v := (Memref.whole cc0_stg3_0 : Memref sig .tc .vmem S1x1024x1024 .f32).access (Rect.unit (s := S1x1024x1024) ![0, l, 0] ![1, n, 1024] inb))
      f _ (x := x) (Finset.mem_univ x)).trans ?_
    have h1 : ((Rect.unit (s := S1x1024x1024) ![0, l, 0] ![1, n, 1024] inb).emb x 1).val = l + (x 1).val := by
      show l + 1 * (x 1).val = _; omega
    have h2 : ((Rect.unit (s := S1x1024x1024) ![0, l, 0] ![1, n, 1024] inb).emb x 2).val = (x 2).val := by
      show 0 + 1 * (x 2).val = _; omega
    show shapeCast (⟨3, Matrix.vecCons 1 ![n, 1024]⟩ : Shape) (extf .f32 (rc g : FVec F ⟨2, ![n, 1024]⟩ .bf16) bitsLt_bf16_f32) hc x = outAt m _
    unfold outAt
    rw [h1, h2, shapeCast_addUnit_apply]
    show FloatOps.extf .f32 bitsLt_bf16_f32 (g (x 1).val (x 2).val) = _
    rw [hg _ _ (x 1).isLt]
  · refine (View.write_of_not_mem (v := (Memref.whole cc0_stg3_0 : Memref sig .tc .vmem S1x1024x1024 .f32).access (Rect.unit (s := S1x1024x1024) ![0, l, 0] ![1, n, 1024] inb))
      f _ Finset.univ (i := i) ?_).trans (hf i (by omega))
    intro hm
    have hm' : i ∈ ((View.whole cc0_stg3_0).slice (Rect.unit (s := S1x1024x1024) ![0, l, 0] ![1, n, 1024] inb)).set := hm
    rw [View.set_slice_whole] at hm'
    exact h ((out_mem i).mp hm').1

/-- The store of a block of rows. -/
theorem out_step (c : Dev nD) {l n : Nat} {inb : ∀ a, (![0, l, 0] : Fin 3 → Nat) a + (![1, n, 1024] : Fin 3 → Nat) a ≤ S1x1024x1024.size a}
    (l' : Nat) (hl' : l' = l + n) (g : Nat → Nat → F .bf16) (hg : ∀ i j, i < n → g i j = outRow m (l + i) j)
    (hc : (⟨2, ![n, 1024]⟩ : Shape).ShapeCasts ⟨3, ![1, n, 1024]⟩)
    {w : (Rect.unit (s := S1x1024x1024) ![0, l, 0] ![1, n, 1024] inb).shape.Idx → Elt F .f32}
    (hw : w = shapeCast ⟨3, ![1, n, 1024]⟩ (extf .f32 (rc g : FVec F ⟨2, ![n, 1024]⟩ .bf16) bitsLt_bf16_f32) hc)
    {h1 : (Memref.whole cc0_stg3_0 : Memref sig .tc .vmem S1x1024x1024 .f32).view.LoadsAt (Rect.unit (s := S1x1024x1024) ![0, l, 0] ![1, n, 1024] inb).toLoadRect}
    {hx : ((Memref.whole cc0_stg3_0 : Memref sig .tc .vmem S1x1024x1024 .f32).access (Rect.unit (s := S1x1024x1024) ![0, l, 0] ![1, n, 1024] inb)).Stores Finset.univ}
    {hm : (Finset.univ : Finset (Rect.unit (s := S1x1024x1024) ![0, l, 0] ![1, n, 1024] inb).shape.Idx) = Finset.univ
      ∨ ∀ a, (Rect.unit (s := S1x1024x1024) ![0, l, 0] ![1, n, 1024] inb).stride a = 1}
    {k : PUnit → Prog (TpuEff nD τ sig (Elt F) Λ₀ .tc) α} :
    outP m c l ⊢ iprop((outP m c l' -∗ run c (k ⟨⟩) Q)
      -∗ run c (.op (.load (Memref.whole cc0_stg3_0 : Memref sig .tc .vmem S1x1024x1024 .f32) (Rect.unit (s := S1x1024x1024) ![0, l, 0] ![1, n, 1024] inb).toLoadRect h1) fun _ =>
          .op (.store (Memref.whole cc0_stg3_0 : Memref sig .tc .vmem S1x1024x1024 .f32) (Rect.unit (s := S1x1024x1024) ![0, l, 0] ![1, n, 1024] inb) w Finset.univ hx hm) k) Q) := by
  subst hl' hw
  unfold outP
  iintro ⟨%f, %hf, Ho⟩ Hk
  iapply (load_all (Memref.whole cc0_stg3_0) c f) $$ Ho
  iintro Ho
  iapply (wp_store 𝒱₀ (c : Thread nD τ) none Set.univ (m := (Memref.whole cc0_stg3_0 : Memref sig .tc .vmem S1x1024x1024 .f32))
    (r := Rect.unit (s := S1x1024x1024) ![0, l, 0] ![1, n, 1024] inb) (Mk := Finset.univ) (S := Finset.univ) (Finset.subset_univ _)) $$ Ho
  iintro Ho
  iapply Hk
  iexists (((Memref.whole cc0_stg3_0 : Memref sig .tc .vmem S1x1024x1024 .f32).access (Rect.unit (s := S1x1024x1024) ![0, l, 0] ![1, n, 1024] inb)).write (Elt F) f
    (shapeCast ⟨3, ![1, n, 1024]⟩ (extf .f32 (rc g : FVec F ⟨2, ![n, 1024]⟩ .bf16) bitsLt_bf16_f32) hc) Finset.univ)
  isplitr
  · ipureintro; exact fun i hi => out_write m f hf g hg hc i hi
  iexact Ho

end Cert.Exchange
end
-- ==== Proof.Compute.lean ====
/-
The sections of the body that compute the parts from the device's heads, and their first exchange steps between them.
-/
module

public import proofs.«01_k».proof.Proof.Output

@[expose] public section
set_option maxRecDepth 65536
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

variable (m : (ℓ : Loc nD τ sig) → Buf (Elt F) ℓ) (K : Dev nD × Cl → ℕ)
variable {α : Type} {Q : α → sProp (MT nD τ sig Unit (Elt F) ℕ UU ℕ)}

/-- The device's keys and values, laid out by head. -/
def kvs (c : Dev nD) : sProp 𝕄 := iprop(allPts cc0_scratch2 c (kT m c) ∗ allPts cc0_scratch3 c (vT m c))
/-- `x` as the launch staged it. -/
def xin (c : Dev nD) : sProp 𝕄 := allPts cc0_stg0_0 c (xT m c)

theorem load_k (c : Dev nD) {q : LoadRect S8x1024x128} {hl : (Memref.whole cc0_scratch2 : Memref sig .tc .vmem S8x1024x128 .f32).view.LoadsAt q}
    {k : (q.shape.Idx → Elt F .f32) → Prog (TpuEff nD τ sig (Elt F) Λ₀ .tc) α} :
    kvs m c ⊢ iprop((kvs m c -∗ run c (k ((Memref.whole cc0_scratch2 : Memref sig .tc .vmem S8x1024x128 .f32).view.readAt (Elt F) q (kT m c))) Q)
      -∗ run c (.op (.load (Memref.whole cc0_scratch2 : Memref sig .tc .vmem S8x1024x128 .f32) q hl) k) Q) := by
  unfold kvs
  iintro ⟨Hk, Hv⟩ H
  iapply (load_all (Memref.whole cc0_scratch2 : Memref sig .tc .vmem S8x1024x128 .f32) c (kT m c)) $$ Hk
  iintro Hk
  iapply H
  iframe Hk Hv
theorem load_v (c : Dev nD) {q : LoadRect S8x1024x128} {hl : (Memref.whole cc0_scratch3 : Memref sig .tc .vmem S8x1024x128 .f32).view.LoadsAt q}
    {k : (q.shape.Idx → Elt F .f32) → Prog (TpuEff nD τ sig (Elt F) Λ₀ .tc) α} :
    kvs m c ⊢ iprop((kvs m c -∗ run c (k ((Memref.whole cc0_scratch3 : Memref sig .tc .vmem S8x1024x128 .f32).view.readAt (Elt F) q (vT m c))) Q)
      -∗ run c (.op (.load (Memref.whole cc0_scratch3 : Memref sig .tc .vmem S8x1024x128 .f32) q hl) k) Q) := by
  unfold kvs
  iintro ⟨Hk, Hv⟩ H
  iapply (load_all (Memref.whole cc0_scratch3 : Memref sig .tc .vmem S8x1024x128 .f32) c (vT m c)) $$ Hv
  iintro Hv
  iapply H
  iframe Hk Hv
theorem load_x (c : Dev nD) {q : LoadRect S1024x1024} {hl : (Memref.whole cc0_stg0_0 : Memref sig .tc .vmem S1024x1024 .f32).view.LoadsAt q}
    {k : (q.shape.Idx → Elt F .f32) → Prog (TpuEff nD τ sig (Elt F) Λ₀ .tc) α} :
    xin m c ⊢ iprop((xin m c -∗ run c (k ((Memref.whole cc0_stg0_0 : Memref sig .tc .vmem S1024x1024 .f32).view.readAt (Elt F) q (xT m c))) Q)
      -∗ run c (.op (.load (Memref.whole cc0_stg0_0 : Memref sig .tc .vmem S1024x1024 .f32) q hl) k) Q) :=
  load_all (Memref.whole cc0_stg0_0 : Memref sig .tc .vmem S1024x1024 .f32) c (xT m c)

/-- A store into a buffer held whole. -/
theorem store_all {sh : Shape} {e : EltTy} (M : Memref sig .tc .vmem sh e) (R : Rect sh) (c : Dev nD) (f : Buf (Elt F) (M.view.loc (c : Thread nD τ)))
    {w : R.shape.Idx → Elt F e} {hx : (M.access R).Stores Finset.univ} {hm : (Finset.univ : Finset R.shape.Idx) = Finset.univ ∨ ∀ a, R.stride a = 1}
    {k : PUnit → Prog (TpuEff nD τ sig (Elt F) Λ₀ .tc) α} :
    (M.view.loc (c : Thread nD τ) ↦{fullShare} f) ⊢ iprop(((M.view.loc (c : Thread nD τ) ↦{fullShare} ((M.access R).write (Elt F) f w Finset.univ)) -∗ run c (k ⟨⟩) Q)
      -∗ run c (.op (.store M R w Finset.univ hx hm) k) Q) :=
  wp_store 𝒱₀ (c : Thread nD τ) none Set.univ (m := M) (r := R) (Mk := Finset.univ) (S := Finset.univ) (Finset.subset_univ _)

/-- A buffer of two dimensions held whole is its rows from the first. -/
theorem rows_whole (b : Ref sig .tc) (c : Dev nD) {n : Nat} (h : 0 < b.ty.shape.rank) (hn : b.ty.shape.size ⟨0, h⟩ = n) (g : Nat → Nat → Elt F b.ty.elt) :
    rowPts (F := F) b c 0 n g = allPts b c (rc g) := by
  unfold rowPts
  rw [rows_univ h hn]

theorem store_part0 (c : Dev nD) {inb : ∀ a, (![0, 0] : Fin 2 → Nat) a + S384x1024.size a ≤ S384x1024.size a}
    {w : Vec F S384x1024 .bf16} (hw : w = part0 (wqV m c) (woV m c) (xT m c) (kT m c) (vT m c))
    {hl : (Memref.whole cc0_scratch4 : Memref sig .tc .vmem S384x1024 .bf16).view.LoadsAt (Rect.unit (s := S384x1024) ![0, 0] S384x1024.size inb).toLoadRect}
    {hx : ((Memref.whole cc0_scratch4 : Memref sig .tc .vmem S384x1024 .bf16).access (Rect.unit (s := S384x1024) ![0, 0] S384x1024.size inb)).Stores Finset.univ}
    {hm : (Finset.univ : Finset (Rect.unit (s := S384x1024) ![0, 0] S384x1024.size inb).shape.Idx) = Finset.univ ∨ ∀ a, (Rect.unit (s := S384x1024) ![0, 0] S384x1024.size inb).stride a = 1}
    {k : PUnit → Prog (TpuEff nD τ sig (Elt F) Λ₀ .tc) α} :
    anyPts (F := F) cc0_scratch4 c ⊢ iprop(theirs (F := F) 0 c 3 -∗ (rdy m 0 0 c -∗ run c (k ⟨⟩) Q)
      -∗ run c (.op (.load (Memref.whole cc0_scratch4 : Memref sig .tc .vmem S384x1024 .bf16) (Rect.unit (s := S384x1024) ![0, 0] S384x1024.size inb).toLoadRect hl) fun _ =>
        .op (.store (Memref.whole cc0_scratch4 : Memref sig .tc .vmem S384x1024 .bf16) (Rect.unit (s := S384x1024) ![0, 0] S384x1024.size inb) w Finset.univ hx hm) k) Q) := by
  iintro ⟨%f, H⟩ Ht Hk
  iapply (load_all (Memref.whole cc0_scratch4 : Memref sig .tc .vmem S384x1024 .bf16) c f) $$ H
  iintro H
  iapply (store_all (Memref.whole cc0_scratch4 : Memref sig .tc .vmem S384x1024 .bf16) (Rect.unit (s := S384x1024) ![0, 0] S384x1024.size inb) c f) $$ H
  rw [show ((Memref.whole cc0_scratch4 : Memref sig .tc .vmem S384x1024 .bf16).access (Rect.unit (s := S384x1024) ![0, 0] S384x1024.size inb)).write (Elt F) f w Finset.univ = w from
    Memref.write_access_unit_zero_univ (Elt F) cc0_scratch4 z2 inb f w, hw]
  iintro H
  iapply Hk
  unfold rdy lents mine
  isplitl [H]
  · show _ ⊢ rowPts cc0_scratch4 c 0 384 (P m c 0)
    rw [rows_whole cc0_scratch4 c (n := 384) (by decide) rfl]
    unfold P
    rw [rc_toRC]
  isplitr; · iempintro
  isplitr; · iempintro
  iexact Ht

theorem store_part1 (c : Dev nD) {inb : ∀ a, (![0, 0] : Fin 2 → Nat) a + S384x1024.size a ≤ S384x1024.size a}
    {w : Vec F S384x1024 .bf16} (hw : w = part1 (wqV m c) (woV m c) (xT m c) (kT m c) (vT m c))
    {hl : (Memref.whole cc0_scratch5 : Memref sig .tc .vmem S384x1024 .bf16).view.LoadsAt (Rect.unit (s := S384x1024) ![0, 0] S384x1024.size inb).toLoadRect}
    {hx : ((Memref.whole cc0_scratch5 : Memref sig .tc .vmem S384x1024 .bf16).access (Rect.unit (s := S384x1024) ![0, 0] S384x1024.size inb)).Stores Finset.univ}
    {hm : (Finset.univ : Finset (Rect.unit (s := S384x1024) ![0, 0] S384x1024.size inb).shape.Idx) = Finset.univ ∨ ∀ a, (Rect.unit (s := S384x1024) ![0, 0] S384x1024.size inb).stride a = 1}
    {k : PUnit → Prog (TpuEff nD τ sig (Elt F) Λ₀ .tc) α} :
    anyPts (F := F) cc0_scratch5 c ⊢ iprop(theirs (F := F) 1 c 3 -∗ (rdy m 1 0 c -∗ run c (k ⟨⟩) Q)
      -∗ run c (.op (.load (Memref.whole cc0_scratch5 : Memref sig .tc .vmem S384x1024 .bf16) (Rect.unit (s := S384x1024) ![0, 0] S384x1024.size inb).toLoadRect hl) fun _ =>
        .op (.store (Memref.whole cc0_scratch5 : Memref sig .tc .vmem S384x1024 .bf16) (Rect.unit (s := S384x1024) ![0, 0] S384x1024.size inb) w Finset.univ hx hm) k) Q) := by
  iintro ⟨%f, H⟩ Ht Hk
  iapply (load_all (Memref.whole cc0_scratch5 : Memref sig .tc .vmem S384x1024 .bf16) c f) $$ H
  iintro H
  iapply (store_all (Memref.whole cc0_scratch5 : Memref sig .tc .vmem S384x1024 .bf16) (Rect.unit (s := S384x1024) ![0, 0] S384x1024.size inb) c f) $$ H
  rw [show ((Memref.whole cc0_scratch5 : Memref sig .tc .vmem S384x1024 .bf16).access (Rect.unit (s := S384x1024) ![0, 0] S384x1024.size inb)).write (Elt F) f w Finset.univ = w from
    Memref.write_access_unit_zero_univ (Elt F) cc0_scratch5 z2 inb f w, hw]
  iintro H
  iapply Hk
  unfold rdy lents mine
  isplitl [H]
  · show _ ⊢ rowPts cc0_scratch5 c 0 384 (P m c 1)
    rw [rows_whole cc0_scratch5 c (n := 384) (by decide) rfl]
    unfold P
    rw [rc_toRC]
  isplitr; · iempintro
  isplitr; · iempintro
  iexact Ht

theorem store_part2 (c : Dev nD) {inb : ∀ a, (![0, 0] : Fin 2 → Nat) a + S256x1024.size a ≤ S256x1024.size a}
    {w : Vec F S256x1024 .bf16} (hw : w = part2 (wqV m c) (woV m c) (xT m c) (kT m c) (vT m c))
    {hl : (Memref.whole cc0_scratch6 : Memref sig .tc .vmem S256x1024 .bf16).view.LoadsAt (Rect.unit (s := S256x1024) ![0, 0] S256x1024.size inb).toLoadRect}
    {hx : ((Memref.whole cc0_scratch6 : Memref sig .tc .vmem S256x1024 .bf16).access (Rect.unit (s := S256x1024) ![0, 0] S256x1024.size inb)).Stores Finset.univ}
    {hm : (Finset.univ : Finset (Rect.unit (s := S256x1024) ![0, 0] S256x1024.size inb).shape.Idx) = Finset.univ ∨ ∀ a, (Rect.unit (s := S256x1024) ![0, 0] S256x1024.size inb).stride a = 1}
    {k : PUnit → Prog (TpuEff nD τ sig (Elt F) Λ₀ .tc) α} :
    anyPts (F := F) cc0_scratch6 c ⊢ iprop(theirs (F := F) 2 c 3 -∗ (rdy m 2 0 c -∗ run c (k ⟨⟩) Q)
      -∗ run c (.op (.load (Memref.whole cc0_scratch6 : Memref sig .tc .vmem S256x1024 .bf16) (Rect.unit (s := S256x1024) ![0, 0] S256x1024.size inb).toLoadRect hl) fun _ =>
        .op (.store (Memref.whole cc0_scratch6 : Memref sig .tc .vmem S256x1024 .bf16) (Rect.unit (s := S256x1024) ![0, 0] S256x1024.size inb) w Finset.univ hx hm) k) Q) := by
  iintro ⟨%f, H⟩ Ht Hk
  iapply (load_all (Memref.whole cc0_scratch6 : Memref sig .tc .vmem S256x1024 .bf16) c f) $$ H
  iintro H
  iapply (store_all (Memref.whole cc0_scratch6 : Memref sig .tc .vmem S256x1024 .bf16) (Rect.unit (s := S256x1024) ![0, 0] S256x1024.size inb) c f) $$ H
  rw [show ((Memref.whole cc0_scratch6 : Memref sig .tc .vmem S256x1024 .bf16).access (Rect.unit (s := S256x1024) ![0, 0] S256x1024.size inb)).write (Elt F) f w Finset.univ = w from
    Memref.write_access_unit_zero_univ (Elt F) cc0_scratch6 z2 inb f w, hw]
  iintro H
  iapply Hk
  unfold rdy lents mine
  isplitl [H]
  · show _ ⊢ rowPts cc0_scratch6 c 0 256 (P m c 2)
    rw [rows_whole cc0_scratch6 c (n := 256) (by decide) rfl]
    unfold P
    rw [rc_toRC]
  isplitr; · iempintro
  isplitr; · iempintro
  iexact Ht

theorem part11 (c : Dev nD) (v239 : FVec F S384x1024 .bf16) (v242 : IVec S384x384 32) (w : BitVec 32) (v244 v251 : IVec S384x384 32) (v253 : BitVec 32) (v254 : BitVec 1)
    {Q : (Σ' (_ : IVec S384x384 1), FVec F S384x384 .f32) → sProp (MT nD τ sig Unit (Elt F) ℕ UU ℕ)} :
    kvs m c ⊢ iprop((kvs m c -∗ Q ⟨k0_pay8 v242 w v244 v251 v253 v254, k0_pay9 v239 v242 w v244 v251 v253 v254 (kh0 0 (by decide) (kT m c))⟩)
      -∗ run c (at_ (k0_part11 (F := F)) v239 v242 w v244 v251 v253 v254) Q) := by
  rw [k0_part11_eq_skeleton]
  unfold at_ k0_part11_skel
  simp only [Prog.bind_lift, Prog.pure_eq_ret]
  iintro H Hk
  iapply (load_k m c) $$ H; iintro H
  iapply (ret_intro c)
  iapply Hk $$ H

theorem part12 (c : Dev nD) (v239 : FVec F S384x1024 .bf16) (v292 : IVec S384x384 1) (v300 : FVec F S384x384 .f32)
    {Q : (Σ' (_ : FVec F S384x128 .bf16) (_ : FVec F S384x128 .bf16) (_ : FVec F S384x384 .f32), FVec F S384x384 .f32) → sProp (MT nD τ sig Unit (Elt F) ℕ UU ℕ)} :
    kvs m c ⊢ iprop((kvs m c -∗ Q ⟨k0_pay10 v300 (vh0 0 (by decide) (vT m c)), k0_pay11 v239 v292 (kh0 1 (by decide) (kT m c)) (vh0 1 (by decide) (vT m c)),
        k0_pay12 v239 v292 (kh0 2 (by decide) (kT m c)), k0_pay13 v239 v292 (kh0 2 (by decide) (kT m c))⟩)
      -∗ run c (at_ (k0_part12 (F := F)) v239 v292 v300) Q) := by
  rw [k0_part12_eq_skeleton]
  unfold at_ k0_part12_skel
  simp only [Prog.bind_lift, Prog.pure_eq_ret]
  iintro H Hk
  iapply (load_v m c) $$ H; iintro H
  iapply (load_k m c) $$ H; iintro H
  iapply (load_v m c) $$ H; iintro H
  iapply (load_k m c) $$ H; iintro H
  iapply (ret_intro c)
  iapply Hk $$ H

theorem part13 (c : Dev nD) (v239 : FVec F S384x1024 .bf16) (v292 : IVec S384x384 1) (v336 v339 : FVec F S384x384 .f32)
    {Q : (Σ' (_ : FVec F S384x128 .bf16) (_ : FVec F S384x128 .bf16), FVec F S384x384 .bf16) → sProp (MT nD τ sig Unit (Elt F) ℕ UU ℕ)} :
    kvs m c ⊢ iprop((kvs m c -∗ Q ⟨k0_pay14 v336 v339 (vh0 2 (by decide) (vT m c)), k0_pay15 v239 v292 (kh0 3 (by decide) (kT m c)) (vh0 3 (by decide) (vT m c)),
        k0_pay16 v239 v292 (kh0 4 (by decide) (kT m c))⟩)
      -∗ run c (at_ (k0_part13 (F := F)) v239 v292 v336 v339) Q) := by
  rw [k0_part13_eq_skeleton]
  unfold at_ k0_part13_skel
  simp only [Prog.bind_lift, Prog.pure_eq_ret]
  iintro H Hk
  iapply (load_v m c) $$ H; iintro H
  iapply (load_k m c) $$ H; iintro H
  iapply (load_v m c) $$ H; iintro H
  iapply (load_k m c) $$ H; iintro H
  iapply (ret_intro c)
  iapply Hk $$ H

theorem part14 (c : Dev nD) (v239 : FVec F S384x1024 .bf16) (v292 : IVec S384x384 1) (v377 : FVec F S384x384 .bf16)
    {Q : (Σ' (_ : FVec F S384x128 .bf16) (_ : FVec F S384x128 .bf16) (_ : FVec F S384x384 .bf16), FVec F S384x128 .bf16) → sProp (MT nD τ sig Unit (Elt F) ℕ UU ℕ)} :
    kvs m c ⊢ iprop((kvs m c -∗ Q ⟨k0_pay17 v377 (vh0 4 (by decide) (vT m c)), k0_pay18 v239 v292 (kh0 5 (by decide) (kT m c)) (vh0 5 (by decide) (vT m c)),
        k0_pay19 v239 v292 (kh0 6 (by decide) (kT m c)), k0_pay20 (vh0 6 (by decide) (vT m c))⟩)
      -∗ run c (at_ (k0_part14 (F := F)) v239 v292 v377) Q) := by
  rw [k0_part14_eq_skeleton]
  unfold at_ k0_part14_skel
  simp only [Prog.bind_lift, Prog.pure_eq_ret]
  iintro H Hk
  iapply (load_v m c) $$ H; iintro H
  iapply (load_k m c) $$ H; iintro H
  iapply (load_v m c) $$ H; iintro H
  iapply (load_k m c) $$ H; iintro H
  iapply (load_v m c) $$ H; iintro H
  iapply (ret_intro c)
  iapply Hk $$ H

/-- The last head of the first part, and the part stored. -/
theorem part15 (c : Dev nD) (w1 w2 : BitVec 32) (v234 : FVec F S1024x1024 .bf16) (v239 : FVec F S384x1024 .bf16) (v292 : IVec S384x384 1)
    (v310 v328 v346 v364 v382 v400 : FVec F S384x128 .bf16) (v413 : FVec F S384x384 .bf16) (v416 : FVec F S384x128 .bf16)
    (hw : k0_pay21 v234 v239 v292 v310 v328 v346 v364 v382 v400 v413 v416 (kh0 7 (by decide) (kT m c)) (vh0 7 (by decide) (vT m c))
      = part0 (wqV m c) (woV m c) (xT m c) (kT m c) (vT m c))
    {Q : BitVec 32 → sProp (MT nD τ sig Unit (Elt F) ℕ UU ℕ)} :
    kvs m c ⊢ iprop(anyPts (F := F) cc0_scratch4 c -∗ theirs (F := F) 0 c 3 -∗ (∀ w, kvs m c -∗ rdy m 0 0 c -∗ Q w)
      -∗ run c (at_ (k0_part15 (F := F)) w1 w2 v234 v239 v292 v310 v328 v346 v364 v382 v400 v413 v416) Q) := by
  rw [k0_part15_eq_skeleton]
  unfold at_ k0_part15_skel
  simp only [Prog.bind_lift, Prog.pure_eq_ret]
  iintro H Ha Ht Hk
  iapply (load_k m c) $$ H; iintro H
  iapply (load_v m c) $$ H; iintro H
  iapply (store_part0 m c hw) $$ Ha Ht
  iintro H0
  iapply (ret_intro c)
  iapply Hk $$ H H0

theorem part16 (c : Dev nD) (v232 : FVec F S1024x1024 .bf16)
    {Q : (Σ' (_ : FVec F S384x1024 .bf16) (_ : IVec S384x768 32) (_ : IVec S384x768 32) (_ : BitVec 32) (_ : IVec S384x768 32) (_ : IVec S384x768 32), IVec S384x768 1)
      → sProp (MT nD τ sig Unit (Elt F) ℕ UU ℕ)} :
    env m K ⊢ iprop(pays (F := F) c 21 -∗ xin m c -∗ rdy m 0 0 c
      -∗ (pays (F := F) c 23 -∗ xin m c -∗ fly m 0 0 c
        -∗ Q ⟨k0_pay22 v232 (x1 (xT m c)), k0_pay23, iota .tc S384x768 32 [1] iota_S384x768_d1_w32, 64#32, k0_pay24, k0_pay25, k0_pay26⟩)
      -∗ run c (at_ (k0_part16 (F := F)) c v232) Q) := by
  rw [k0_part16_eq_skeleton]
  unfold at_ k0_part16_skel
  simp only [Prog.bind_lift, Prog.pure_eq_ret]
  iintro #HE Hp Hx H0 Hk
  iapply (ph_send m K 0 0 c 0 rfl rfl rfl _ (dev4_eq c) (slc0 (off3_rs c) _) stg00 rfl rfl (show cc0_scratch7.dmaCredit ⟨2, ![192, 1024]⟩ .bf16 = amt (.rsR 0 0) by decide +kernel)) $$ HE Hp H0
  iintro ⟨Hp, H0⟩
  iapply (load_x m c) $$ Hx; iintro Hx
  iapply (ret_intro c)
  iapply Hk $$ Hp Hx H0

theorem part17 (c : Dev nD) (v459 : FVec F S384x1024 .bf16) (v486 v487 : IVec S384x768 32) (w : BitVec 32) (v489 v492 : IVec S384x768 32) (v494 : IVec S384x768 1)
    {Q : (Σ' (_ : IVec S384x768 1) (_ : FVec F S384x128 .bf16), FVec F S384x768 .f32) → sProp (MT nD τ sig Unit (Elt F) ℕ UU ℕ)} :
    kvs m c ⊢ iprop((kvs m c -∗ Q ⟨k0_pay27 v486 v487 w v489 v492 v494,
        k0_pay28 v459 v486 v487 w v489 v492 v494 (kh1 0 (by decide) (kT m c)) (vh1 0 (by decide) (vT m c)), k0_pay29 v459 (kh1 1 (by decide) (kT m c))⟩)
      -∗ run c (at_ (k0_part17 (F := F)) v459 v486 v487 w v489 v492 v494) Q) := by
  rw [k0_part17_eq_skeleton]
  unfold at_ k0_part17_skel
  simp only [Prog.bind_lift, Prog.pure_eq_ret]
  iintro H Hk
  iapply (load_k m c) $$ H; iintro H
  iapply (load_v m c) $$ H; iintro H
  iapply (load_k m c) $$ H; iintro H
  iapply (ret_intro c)
  iapply Hk $$ H

theorem part18 (c : Dev nD) (v459 : FVec F S384x1024 .bf16) (v512 : IVec S384x768 1) (v536 : FVec F S384x768 .f32)
    {Q : (Σ' (_ : FVec F S384x128 .bf16) (_ : FVec F S384x128 .bf16), FVec F S384x768 .f32) → sProp (MT nD τ sig Unit (Elt F) ℕ UU ℕ)} :
    kvs m c ⊢ iprop((kvs m c -∗ Q ⟨k0_pay30 v512 v536 (vh1 1 (by decide) (vT m c)),
        k0_pay31 v459 v512 (kh1 2 (by decide) (kT m c)) (vh1 2 (by decide) (vT m c)), k0_pay32 v459 v512 (kh1 3 (by decide) (kT m c))⟩)
      -∗ run c (at_ (k0_part18 (F := F)) v459 v512 v536) Q) := by
  rw [k0_part18_eq_skeleton]
  unfold at_ k0_part18_skel
  simp only [Prog.bind_lift, Prog.pure_eq_ret]
  iintro H Hk
  iapply (load_v m c) $$ H; iintro H
  iapply (load_k m c) $$ H; iintro H
  iapply (load_v m c) $$ H; iintro H
  iapply (load_k m c) $$ H; iintro H
  iapply (ret_intro c)
  iapply Hk $$ H

theorem part19 (c : Dev nD) (v459 : FVec F S384x1024 .bf16) (v512 : IVec S384x768 1) (v574 : FVec F S384x768 .f32)
    {Q : (Σ' (_ : FVec F S384x128 .bf16) (_ : FVec F S384x128 .bf16), FVec F S384x768 .f32) → sProp (MT nD τ sig Unit (Elt F) ℕ UU ℕ)} :
    kvs m c ⊢ iprop((kvs m c -∗ Q ⟨k0_pay33 v574 (vh1 3 (by decide) (vT m c)),
        k0_pay34 v459 v512 (kh1 4 (by decide) (kT m c)) (vh1 4 (by decide) (vT m c)), k0_pay35 v459 v512 (kh1 5 (by decide) (kT m c))⟩)
      -∗ run c (at_ (k0_part19 (F := F)) v459 v512 v574) Q) := by
  rw [k0_part19_eq_skeleton]
  unfold at_ k0_part19_skel
  simp only [Prog.bind_lift, Prog.pure_eq_ret]
  iintro H Hk
  iapply (load_v m c) $$ H; iintro H
  iapply (load_k m c) $$ H; iintro H
  iapply (load_v m c) $$ H; iintro H
  iapply (load_k m c) $$ H; iintro H
  iapply (ret_intro c)
  iapply Hk $$ H

theorem part20 (c : Dev nD) (v459 : FVec F S384x1024 .bf16) (v512 : IVec S384x768 1) (v614 : FVec F S384x768 .f32)
    {Q : (Σ' (_ : FVec F S384x128 .bf16) (_ : FVec F S384x128 .bf16), FVec F S384x768 .bf16) → sProp (MT nD τ sig Unit (Elt F) ℕ UU ℕ)} :
    kvs m c ⊢ iprop((kvs m c -∗ Q ⟨k0_pay36 v614 (vh1 5 (by decide) (vT m c)),
        k0_pay37 v459 v512 (kh1 6 (by decide) (kT m c)) (vh1 6 (by decide) (vT m c)), k0_pay38 v459 v512 (kh1 7 (by decide) (kT m c))⟩)
      -∗ run c (at_ (k0_part20 (F := F)) v459 v512 v614) Q) := by
  rw [k0_part20_eq_skeleton]
  unfold at_ k0_part20_skel
  simp only [Prog.bind_lift, Prog.pure_eq_ret]
  iintro H Hk
  iapply (load_v m c) $$ H; iintro H
  iapply (load_k m c) $$ H; iintro H
  iapply (load_v m c) $$ H; iintro H
  iapply (load_k m c) $$ H; iintro H
  iapply (ret_intro c)
  iapply Hk $$ H

/-- The last head of the second part, the part stored and half of it sent; the first part's half has left. -/
theorem part21 (c : Dev nD) (w1 w2 w3 : BitVec 32) (v234 : FVec F S1024x1024 .bf16) (v530 v548 v566 v584 v602 v620 v638 : FVec F S384x128 .bf16) (v651 : FVec F S384x768 .bf16)
    (hw : k0_pay39 v234 v530 v548 v566 v584 v602 v620 v638 v651 (vh1 7 (by decide) (vT m c)) = part1 (wqV m c) (woV m c) (xT m c) (kT m c) (vT m c))
    {Q : BitVec 32 → sProp (MT nD τ sig Unit (Elt F) ℕ UU ℕ)} :
    env m K ⊢ iprop(pays (F := F) c 23 -∗ waits (F := F) c 19 -∗ kvs m c -∗ anyPts (F := F) cc0_scratch5 c -∗ theirs (F := F) 1 c 3 -∗ fly m 0 0 c
      -∗ (∀ w, pays (F := F) c 25 -∗ waits (F := F) c 20 -∗ kvs m c -∗ fly m 1 0 c -∗ sent m 0 0 c -∗ Q w)
      -∗ run c (at_ (k0_part21 (F := F)) c w1 w2 w3 v234 v530 v548 v566 v584 v602 v620 v638 v651) Q) := by
  rw [k0_part21_eq_skeleton]
  unfold at_ k0_part21_skel
  simp only [Prog.bind_lift, Prog.pure_eq_ret]
  iintro #HE Hp Hw H Ha Ht H0 Hk
  iapply (load_v m c) $$ H; iintro H
  iapply (store_part1 m c hw) $$ Ha Ht
  iintro H1
  iapply (ph_send m K 1 0 c 0 rfl rfl rfl _ (dev5_eq c) (slc1 (off4_rs c) _) stg10 rfl rfl (show cc0_scratch10.dmaCredit ⟨2, ![192, 1024]⟩ .bf16 = amt (.rsR 1 0) by decide +kernel)) $$ HE Hp H1
  iintro ⟨Hp, H1⟩
  iapply (ph_sent m K 0 0 c rfl (by decide +kernel) rfl (crs0 (by decide +kernel))) $$ HE Hp Hw H0
  iintro ⟨Hp, Hw, H0⟩
  iapply (ret_intro c)
  iapply Hk $$ Hp Hw H H1 H0

theorem part22 (c : Dev nD) (w1 w2 w3 : BitVec 32) (v232 : FVec F S1024x1024 .bf16)
    {Q : (Σ' (_ : BitVec 32) (_ : FVec F S256x1024 .bf16) (_ : IVec S256x1024 32) (_ : BitVec 32) (_ : IVec S256x1024 32) (_ : IVec S256x1024 32), BitVec 32)
      → sProp (MT nD τ sig Unit (Elt F) ℕ UU ℕ)} :
    env m K ⊢ iprop(pays (F := F) c 25 -∗ waits (F := F) c 20 -∗ xin m c -∗ sent m 0 0 c
      -∗ (∀ w, pays (F := F) c 27 -∗ waits (F := F) c 21 -∗ xin m c -∗ fly m 0 1 c
        -∗ Q ⟨w, k0_pay41 v232 (x2 (xT m c)), k0_pay42, 64#32, k0_pay43, k0_pay44, 0#32⟩)
      -∗ run c (at_ (k0_part22 (F := F)) c w1 w2 v232 w3) Q) := by
  rw [k0_part22_eq_skeleton]
  unfold at_ k0_part22_skel
  simp only [Prog.bind_lift, Prog.pure_eq_ret]
  iintro #HE Hp Hw Hx H0 Hk
  iapply (ph_recv m K 0 0 c rfl (by decide +kernel) rfl (by decide +kernel)) $$ HE Hp Hw H0
  iintro ⟨Hp, Hw, H0⟩
  iapply (ph_acc m 0 0 c 1 rfl (slc0 (off5_keep c) _) stl00 (pay := k0_pay40) ((shapeCast_self _ _).trans rfl)) $$ H0
  iintro H0
  iapply (ph_send m K 0 1 c 1 rfl rfl rfl _ (dev6_eq c) (slc0 (off6_rs c) _) stg01 rfl rfl (show cc0_scratch8.dmaCredit ⟨2, ![96, 1024]⟩ .bf16 = amt (.rsR 0 1) by decide +kernel)) $$ HE Hp H0
  iintro ⟨Hp, H0⟩
  iapply (load_x m c) $$ Hx; iintro Hx
  iapply (ret_intro c)
  iapply Hk $$ Hp Hw Hx H0

theorem part23 (c : Dev nD) (v710 : IVec S256x1024 32) (w : BitVec 32) (v712 v715 : IVec S256x1024 32) (w' : BitVec 32)
    {Q : (Σ' (_ : IVec S256x1024 1), Vec F S1x1024x128 .f32) → sProp (MT nD τ sig Unit (Elt F) ℕ UU ℕ)} :
    kvs m c ⊢ iprop((kvs m c -∗ Q ⟨k0_pay45 v710 w v712 v715 w', kh2 0 (by decide) (kT m c)⟩)
      -∗ run c (at_ (k0_part23 (F := F)) v710 w v712 v715 w') Q) := by
  rw [k0_part23_eq_skeleton]
  unfold at_ k0_part23_skel
  simp only [Prog.bind_lift, Prog.pure_eq_ret]
  iintro H Hk
  iapply (load_k m c) $$ H; iintro H
  iapply (ret_intro c)
  iapply Hk $$ H

theorem part24 (c : Dev nD) (v707 : FVec F S256x1024 .bf16) (v760 : IVec S256x1024 1) (v761 : Vec F S1x1024x128 .f32)
    {Q : (Σ' (_ : FVec F S256x128 .bf16) (_ : FVec F S256x128 .bf16) (_ : FVec F S1024x128 .bf16) (_ : FVec F S256x128 .bf16), FVec F S256x1024 .f32) → sProp (MT nD τ sig Unit (Elt F) ℕ UU ℕ)} :
    kvs m c ⊢ iprop((kvs m c -∗ Q ⟨k0_pay46 v707 v760 v761 (vh2 0 (by decide) (vT m c)),
        k0_pay47 v707 v760 (kh2 1 (by decide) (kT m c)) (vh2 1 (by decide) (vT m c)), k0_pay48 (kh2 2 (by decide) (kT m c)), k0_pay49 v707,
        constant S256x1024 .f32 0x00000000#32⟩)
      -∗ run c (at_ (k0_part24 (F := F)) v707 v760 v761) Q) := by
  rw [k0_part24_eq_skeleton]
  unfold at_ k0_part24_skel
  simp only [Prog.bind_lift, Prog.pure_eq_ret]
  iintro H Hk
  iapply (load_v m c) $$ H; iintro H
  iapply (load_k m c) $$ H; iintro H
  iapply (load_v m c) $$ H; iintro H
  iapply (load_k m c) $$ H; iintro H
  iapply (ret_intro c)
  iapply Hk $$ H

theorem part25 (c : Dev nD) (v707 : FVec F S256x1024 .bf16) (v760 : IVec S256x1024 1) (v799 : FVec F S1024x128 .bf16) (v800 : FVec F S256x128 .bf16) (z : FVec F S256x1024 .f32)
    {Q : (Σ' (_ : FVec F S256x128 .bf16) (_ : FVec F S256x128 .bf16) (_ : FVec F S256x1024 .f32), FVec F S256x1024 .f32) → sProp (MT nD τ sig Unit (Elt F) ℕ UU ℕ)} :
    kvs m c ⊢ iprop((kvs m c -∗ Q ⟨k0_pay50 v760 v799 v800 z (vh2 2 (by decide) (vT m c)),
        k0_pay51 v707 v760 (kh2 3 (by decide) (kT m c)) (vh2 3 (by decide) (vT m c)), k0_pay52 v707 (kh2 4 (by decide) (kT m c)), k0_pay53 (F := F)⟩)
      -∗ run c (at_ (k0_part25 (F := F)) v707 v760 v799 v800 z) Q) := by
  rw [k0_part25_eq_skeleton]
  unfold at_ k0_part25_skel
  simp only [Prog.bind_lift, Prog.pure_eq_ret]
  iintro H Hk
  iapply (load_v m c) $$ H; iintro H
  iapply (load_k m c) $$ H; iintro H
  iapply (load_v m c) $$ H; iintro H
  iapply (load_k m c) $$ H; iintro H
  iapply (ret_intro c)
  iapply Hk $$ H

theorem part26 (c : Dev nD) (v707 : FVec F S256x1024 .bf16) (v760 : IVec S256x1024 1) (v838 v839 : FVec F S256x1024 .f32)
    {Q : (Σ' (_ : FVec F S256x128 .bf16) (_ : FVec F S256x128 .bf16) (_ : FVec F S256x1024 .f32), FVec F S256x1 .f32) → sProp (MT nD τ sig Unit (Elt F) ℕ UU ℕ)} :
    kvs m c ⊢ iprop((kvs m c -∗ Q ⟨k0_pay54 v760 v838 v839 (vh2 4 (by decide) (vT m c)),
        k0_pay55 v707 v760 (kh2 5 (by decide) (kT m c)) (vh2 5 (by decide) (vT m c)), k0_pay56 v707 v760 (kh2 6 (by decide) (kT m c)),
        k0_pay57 v707 v760 (kh2 6 (by decide) (kT m c))⟩)
      -∗ run c (at_ (k0_part26 (F := F)) v707 v760 v838 v839) Q) := by
  rw [k0_part26_eq_skeleton]
  unfold at_ k0_part26_skel
  simp only [Prog.bind_lift, Prog.pure_eq_ret]
  iintro H Hk
  iapply (load_v m c) $$ H; iintro H
  iapply (load_k m c) $$ H; iintro H
  iapply (load_v m c) $$ H; iintro H
  iapply (load_k m c) $$ H; iintro H
  iapply (ret_intro c)
  iapply Hk $$ H

/-- The last two heads of the third part, and the part stored. -/
theorem part27 (c : Dev nD) (w1 : BitVec 32) (v234 : FVec F S1024x1024 .bf16) (v707 : FVec F S256x1024 .bf16) (v760 : IVec S256x1024 1)
    (v778 v796 v814 v832 v850 v868 : FVec F S256x128 .bf16) (v876 : FVec F S256x1024 .f32) (v878 : FVec F S256x1 .f32)
    (hw : k0_pay58 v234 v707 v760 v778 v796 v814 v832 v850 v868 v876 v878 (vh2 6 (by decide) (vT m c)) (kh2 7 (by decide) (kT m c)) (vh2 7 (by decide) (vT m c))
      = part2 (wqV m c) (woV m c) (xT m c) (kT m c) (vT m c))
    {Q : BitVec 32 → sProp (MT nD τ sig Unit (Elt F) ℕ UU ℕ)} :
    kvs m c ⊢ iprop(anyPts (F := F) cc0_scratch6 c -∗ theirs (F := F) 2 c 3 -∗ (∀ w, kvs m c -∗ rdy m 2 0 c -∗ Q w)
      -∗ run c (at_ (k0_part27 (F := F)) w1 v234 v707 v760 v778 v796 v814 v832 v850 v868 v876 v878) Q) := by
  rw [k0_part27_eq_skeleton]
  unfold at_ k0_part27_skel
  simp only [Prog.bind_lift, Prog.pure_eq_ret]
  iintro H Ha Ht Hk
  iapply (load_v m c) $$ H; iintro H
  iapply (load_k m c) $$ H; iintro H
  iapply (load_v m c) $$ H; iintro H
  iapply (store_part2 m c hw) $$ Ha Ht
  iintro H2
  iapply (ret_intro c)
  iapply Hk $$ H H2

end Cert.Exchange
end
-- ==== Proof.Early.lean ====
/-
The sections of the body before the computation: the copies of the weights and of the heads, the barrier, and the waits for
the copies.
-/
module

public import proofs.«01_k».proof.Proof.Compute

@[expose] public section
set_option maxRecDepth 65536
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

variable (m : (ℓ : Loc nD τ sig) → Buf (Elt F) ℓ) (K : Dev nD × Cl → ℕ)
variable {α : Type} {Q : α → sProp (MT nD τ sig Unit (Elt F) ℕ UU ℕ)}

/-! ## A head's two copies -/

/-- What the copies of head `h` take: the staged head and the place it goes to, of the keys and of the values. -/
def hdRes (c : Dev nD) (h : Nat) : sProp 𝕄 :=
  iprop(((((c : Thread nD τ).loc cc0_stg1_0) ↦[hgS h]{fullShare} kg m c) ∗ (∃ f, (((c : Thread nD τ).loc cc0_scratch2) ↦[hdS h]{fullShare} f)))
    ∗ (((c : Thread nD τ).loc cc0_stg2_0) ↦[hgS h]{fullShare} vg m c) ∗ (∃ f, (((c : Thread nD τ).loc cc0_scratch3) ↦[hdS h]{fullShare} f)))
/-- The two copies under way; -/
def hdFl (c : Dev nD) (h : Fin 8) : sProp 𝕄 := iprop(fl (F := F) c (.kv 0 h) ∗ fl (F := F) c (.kv 1 h))
/-- what they leave. -/
def hdGot (c : Dev nD) (h : Fin 8) : sProp 𝕄 := iprop(dPay m c (.kv 0 h) ∗ dPay m c (.kv 1 h))

/-- The heads by number. -/
def hds : List (Fin 8) := [0, 1, 2, 3, 4, 5, 6, 7]
theorem hds_at (h : Nat) (hh : h < 8) : hds[h]? = some ⟨h, hh⟩ := by
  match h, hh with
  | 0, _ => rfl | 1, _ => rfl | 2, _ => rfl | 3, _ => rfl | 4, _ => rfl | 5, _ => rfl | 6, _ => rfl | 7, _ => rfl

/-- The heads from the `h`-th, -/
def fromH (Φ : Fin 8 → sProp (MT nD τ sig Unit (Elt F) ℕ UU ℕ)) (h : Nat) : sProp 𝕄 := bigSepL (hds.drop h) Φ
/-- those before it. -/
def uptoH (Φ : Fin 8 → sProp (MT nD τ sig Unit (Elt F) ℕ UU ℕ)) (h : Nat) : sProp 𝕄 := bigSepL (hds.take h) Φ

theorem fromH_next (Φ : Fin 8 → sProp (MT nD τ sig Unit (Elt F) ℕ UU ℕ)) (h : Nat) (hh : h < 8) : fromH Φ h = iprop(Φ ⟨h, hh⟩ ∗ fromH Φ (h + 1)) := by
  unfold fromH
  rw [drop_cons (hds_at h hh), bigSepL_cons']
theorem uptoH_next (Φ : Fin 8 → sProp (MT nD τ sig Unit (Elt F) ℕ UU ℕ)) (h : Nat) (hh : h < 8) : iprop(uptoH Φ h ∗ Φ ⟨h, hh⟩) = uptoH Φ (h + 1) := by
  unfold uptoH
  rw [take_snoc (hds_at h hh), bigSepL_append]
  rfl
theorem fromH_all (Φ : Fin 8 → sProp (MT nD τ sig Unit (Elt F) ℕ UU ℕ)) : fromH Φ 0 = bigSep Finset.univ Φ :=
  (bigSep_eq_bigSepL_of_eq hds (by decide) (by decide) Φ).symm
theorem uptoH_all (Φ : Fin 8 → sProp (MT nD τ sig Unit (Elt F) ℕ UU ℕ)) : uptoH Φ 8 = bigSep Finset.univ Φ := fromH_all Φ
theorem uptoH_none (Φ : Fin 8 → sProp (MT nD τ sig Unit (Elt F) ℕ UU ℕ)) : uptoH Φ 0 = iprop(emp) := rfl

section
variable {k : PUnit → Prog (TpuEff nD τ sig (Elt F) Λ₀ .tc) α}

/-- The keys' head `h` on its way; -/
theorem copy_k (c : Dev nD) (h : Nat) (hh : h < 8) {i : Nat} (hx : payL[i]? = some (.inr (.kv 0 ⟨h, hh⟩))) {sem : DmaSem sig} (hq : sem = semOf (.kv 0 ⟨h, hh⟩))
    {ia : ∀ a, (![0, h, 0] : Fin 3 → Nat) a + S1024x1x128.size a ≤ S1024x8x128.size a} {ib : ∀ a, (![h, 0, 0] : Fin 3 → Nat) a + S1x1024x128.size a ≤ S8x1024x128.size a}
    {sa : S1024x1x128.Squeezes S1024x128} {sb : S1x1024x128.Squeezes S1024x128} {hsrc} {hdst} {hsem} :
    env m K ⊢ iprop(pays (F := F) c i -∗ (((c : Thread nD τ).loc cc0_stg1_0) ↦[hgS h]{fullShare} kg m c) -∗ (∃ f, (((c : Thread nD τ).loc cc0_scratch2) ↦[hdS h]{fullShare} f))
      -∗ ((pays (F := F) c (i + 1) ∗ fl (F := F) c (.kv 0 ⟨h, hh⟩)) -∗ run c (k ⟨⟩) Q)
      -∗ run c (.op (.enqueueDma (((Memref.whole cc0_stg1_0 : Memref sig .tc .vmem S1024x8x128 .f32).slice (Rect.unit (s := S1024x8x128) ![0, h, 0] S1024x1x128.size ia) (fun _ => rfl)).squeeze S1024x128 sa)
          (.here (((Memref.whole cc0_scratch2 : Memref sig .tc .vmem S8x1024x128 .f32).slice (Rect.unit (s := S8x1024x128) ![h, 0, 0] S1x1024x128.size ib) (fun _ => rfl)).squeeze S1024x128 sb))
          (.dma sem) hsrc hdst hsem) k) Q) := by
  iintro #HE Hp Hs ⟨%f, Hd⟩ Hk
  iapply (step_copy m K c (.kv 0 ⟨h, hh⟩) hx rfl hq (fs := kg m c) (fd := f) (show cc0_scratch2.dmaCredit S1024x128 .f32 = 16384 by decide +kernel) (by
    show iprop((((c : Thread nD τ).loc cc0_scratch2) ↦[(hdV (View.whole cc0_scratch2) h hh).set]{fullShare}
        ((hdV (View.whole cc0_scratch2) h hh).write (Elt F) f ((hdG (View.whole cc0_stg1_0) h hh).read (Elt F) (kg m c)) Finset.univ))
      ∗ (((c : Thread nD τ).loc cc0_stg1_0) ↦[(hdG (View.whole cc0_stg1_0) h hh).set]{fullShare} kg m c)) ⊢ _
    rw [set_k, set_kg, pointsTo_congr (write_k h hh f (kg m c))]
    exact .rfl)) $$ HE Hp [Hs] [Hd]
  · show _ ⊢ (((c : Thread nD τ).loc cc0_stg1_0) ↦[(hdG (View.whole cc0_stg1_0) h hh).set]{fullShare} kg m c)
    rw [set_kg]
    iintro ⟨-, H⟩
    iexact H
  · show _ ⊢ (((c : Thread nD τ).loc cc0_scratch2) ↦[(hdV (View.whole cc0_scratch2) h hh).set]{fullShare} f)
    rw [set_k]
    iintro ⟨-, H⟩
    iexact H
  iexact Hk

/-- the values'. -/
theorem copy_v (c : Dev nD) (h : Nat) (hh : h < 8) {i : Nat} (hx : payL[i]? = some (.inr (.kv 1 ⟨h, hh⟩))) {sem : DmaSem sig} (hq : sem = semOf (.kv 1 ⟨h, hh⟩))
    {ia : ∀ a, (![0, h, 0] : Fin 3 → Nat) a + S1024x1x128.size a ≤ S1024x8x128.size a} {ib : ∀ a, (![h, 0, 0] : Fin 3 → Nat) a + S1x1024x128.size a ≤ S8x1024x128.size a}
    {sa : S1024x1x128.Squeezes S1024x128} {sb : S1x1024x128.Squeezes S1024x128} {hsrc} {hdst} {hsem} :
    env m K ⊢ iprop(pays (F := F) c i -∗ (((c : Thread nD τ).loc cc0_stg2_0) ↦[hgS h]{fullShare} vg m c) -∗ (∃ f, (((c : Thread nD τ).loc cc0_scratch3) ↦[hdS h]{fullShare} f))
      -∗ ((pays (F := F) c (i + 1) ∗ fl (F := F) c (.kv 1 ⟨h, hh⟩)) -∗ run c (k ⟨⟩) Q)
      -∗ run c (.op (.enqueueDma (((Memref.whole cc0_stg2_0 : Memref sig .tc .vmem S1024x8x128 .f32).slice (Rect.unit (s := S1024x8x128) ![0, h, 0] S1024x1x128.size ia) (fun _ => rfl)).squeeze S1024x128 sa)
          (.here (((Memref.whole cc0_scratch3 : Memref sig .tc .vmem S8x1024x128 .f32).slice (Rect.unit (s := S8x1024x128) ![h, 0, 0] S1x1024x128.size ib) (fun _ => rfl)).squeeze S1024x128 sb))
          (.dma sem) hsrc hdst hsem) k) Q) := by
  iintro #HE Hp Hs ⟨%f, Hd⟩ Hk
  iapply (step_copy m K c (.kv 1 ⟨h, hh⟩) hx rfl hq (fs := vg m c) (fd := f) (show cc0_scratch3.dmaCredit S1024x128 .f32 = 16384 by decide +kernel) (by
    show iprop((((c : Thread nD τ).loc cc0_scratch3) ↦[(hdV (View.whole cc0_scratch3) h hh).set]{fullShare}
        ((hdV (View.whole cc0_scratch3) h hh).write (Elt F) f ((hdG (View.whole cc0_stg2_0) h hh).read (Elt F) (vg m c)) Finset.univ))
      ∗ (((c : Thread nD τ).loc cc0_stg2_0) ↦[(hdG (View.whole cc0_stg2_0) h hh).set]{fullShare} vg m c)) ⊢ _
    rw [set_v, set_vg, pointsTo_congr (write_v h hh f (vg m c))]
    exact .rfl)) $$ HE Hp [Hs] [Hd]
  · show _ ⊢ (((c : Thread nD τ).loc cc0_stg2_0) ↦[(hdG (View.whole cc0_stg2_0) h hh).set]{fullShare} vg m c)
    rw [set_vg]
    iintro ⟨-, H⟩
    iexact H
  · show _ ⊢ (((c : Thread nD τ).loc cc0_scratch3) ↦[(hdV (View.whole cc0_scratch3) h hh).set]{fullShare} f)
    rw [set_v]
    iintro ⟨-, H⟩
    iexact H
  iexact Hk

/-- Both copies of head `h`. -/
theorem ph_head (c : Dev nD) (h : Nat) (hh : h < 8) {i : Nat} (hx : payL[i]? = some (.inr (.kv 0 ⟨h, hh⟩))) (hy : payL[i + 1]? = some (.inr (.kv 1 ⟨h, hh⟩)))
    {sem sem' : DmaSem sig} (hq : sem = semOf (.kv 0 ⟨h, hh⟩)) (hq' : sem' = semOf (.kv 1 ⟨h, hh⟩))
    {ia : ∀ a, (![0, h, 0] : Fin 3 → Nat) a + S1024x1x128.size a ≤ S1024x8x128.size a} {ib : ∀ a, (![h, 0, 0] : Fin 3 → Nat) a + S1x1024x128.size a ≤ S8x1024x128.size a}
    {sa : S1024x1x128.Squeezes S1024x128} {sb : S1x1024x128.Squeezes S1024x128} {a1} {a2} {a3} {b1} {b2} {b3} :
    env m K ⊢ iprop(pays (F := F) c i -∗ fromH (fun h => hdRes m c h.val) h -∗ uptoH (hdFl (F := F) c) h
      -∗ ((pays (F := F) c (i + 2) ∗ fromH (fun h => hdRes m c h.val) (h + 1) ∗ uptoH (hdFl (F := F) c) (h + 1)) -∗ run c (k ⟨⟩) Q)
      -∗ run c (.op (.enqueueDma (((Memref.whole cc0_stg1_0 : Memref sig .tc .vmem S1024x8x128 .f32).slice (Rect.unit (s := S1024x8x128) ![0, h, 0] S1024x1x128.size ia) (fun _ => rfl)).squeeze S1024x128 sa)
          (.here (((Memref.whole cc0_scratch2 : Memref sig .tc .vmem S8x1024x128 .f32).slice (Rect.unit (s := S8x1024x128) ![h, 0, 0] S1x1024x128.size ib) (fun _ => rfl)).squeeze S1024x128 sb))
          (.dma sem) a1 a2 a3) fun _ =>
        .op (.enqueueDma (((Memref.whole cc0_stg2_0 : Memref sig .tc .vmem S1024x8x128 .f32).slice (Rect.unit (s := S1024x8x128) ![0, h, 0] S1024x1x128.size ia) (fun _ => rfl)).squeeze S1024x128 sa)
          (.here (((Memref.whole cc0_scratch3 : Memref sig .tc .vmem S8x1024x128 .f32).slice (Rect.unit (s := S8x1024x128) ![h, 0, 0] S1x1024x128.size ib) (fun _ => rfl)).squeeze S1024x128 sb))
          (.dma sem') b1 b2 b3) k) Q) := by
  rw [fromH_next _ h hh, ← uptoH_next _ h hh]
  iintro #HE Hp ⟨Hr, Hrs⟩ Hf Hk
  unfold hdRes
  icases Hr with ⟨⟨Ha, Hb⟩, Hc, Hd⟩
  iapply (copy_k m K c h hh hx hq) $$ HE Hp Ha Hb
  iintro ⟨Hp, Hfa⟩
  iapply (copy_v m K c h hh hy hq') $$ HE Hp Hc Hd
  iintro ⟨Hp, Hfb⟩
  iapply Hk
  unfold hdFl
  iframe Hp Hrs Hf Hfa Hfb

/-- Both copies of head `h` waited for. -/
theorem ph_headed (c : Dev nD) (h : Nat) (hh : h < 8) {i j : Nat} (hj : waitL[j]? = some (some (.kv 0 ⟨h, hh⟩))) (hj' : waitL[j + 1]? = some (some (.kv 1 ⟨h, hh⟩)))
    (ha : (payL.drop i).all (above (clev (some (.kv 0 ⟨h, hh⟩)))) = true) (ha' : (payL.drop i).all (above (clev (some (.kv 1 ⟨h, hh⟩)))) = true)
    {sem sem' : DmaSem sig} (hq : sem = semOf (.kv 0 ⟨h, hh⟩)) (hq' : sem' = semOf (.kv 1 ⟨h, hh⟩))
    {ia : ∀ a, (![0, h, 0] : Fin 3 → Nat) a + S1024x1x128.size a ≤ S1024x8x128.size a} {ib : ∀ a, (![h, 0, 0] : Fin 3 → Nat) a + S1x1024x128.size a ≤ S8x1024x128.size a}
    {sa : S1024x1x128.Squeezes S1024x128} {sb : S1x1024x128.Squeezes S1024x128} {a1} {a2} {b1} {b2} :
    env m K ⊢ iprop(pays (F := F) c i -∗ waits (F := F) c j -∗ fromH (hdFl (F := F) c) h -∗ uptoH (hdGot m c) h
      -∗ ((pays (F := F) c i ∗ waits (F := F) c (j + 2) ∗ fromH (hdFl (F := F) c) (h + 1) ∗ uptoH (hdGot m c) (h + 1)) -∗ run c (k ⟨⟩) Q)
      -∗ run c (.op (.waitDma2 sem (((Memref.whole cc0_stg1_0 : Memref sig .tc .vmem S1024x8x128 .f32).slice (Rect.unit (s := S1024x8x128) ![0, h, 0] S1024x1x128.size ia) (fun _ => rfl)).squeeze S1024x128 sa)
          (((Memref.whole cc0_scratch2 : Memref sig .tc .vmem S8x1024x128 .f32).slice (Rect.unit (s := S8x1024x128) ![h, 0, 0] S1x1024x128.size ib) (fun _ => rfl)).squeeze S1024x128 sb)
          a1 a2) fun _ =>
        .op (.waitDma2 sem' (((Memref.whole cc0_stg2_0 : Memref sig .tc .vmem S1024x8x128 .f32).slice (Rect.unit (s := S1024x8x128) ![0, h, 0] S1024x1x128.size ia) (fun _ => rfl)).squeeze S1024x128 sa)
          (((Memref.whole cc0_scratch3 : Memref sig .tc .vmem S8x1024x128 .f32).slice (Rect.unit (s := S8x1024x128) ![h, 0, 0] S1x1024x128.size ib) (fun _ => rfl)).squeeze S1024x128 sb)
          b1 b2) k) Q) := by
  rw [fromH_next _ h hh, ← uptoH_next _ h hh]
  iintro #HE Hp Hw ⟨Hf, Hfs⟩ Hg Hk
  unfold hdFl
  icases Hf with ⟨Ha, Hb⟩
  iapply (step_wait m K c (.kv 0 ⟨h, hh⟩) hj ha hq (show cc0_scratch2.dmaCredit S1024x128 .f32 = 16384 by decide +kernel)) $$ HE Hp Hw Ha
  iintro ⟨Hp, Hw, Ha⟩
  iapply (step_wait m K c (.kv 1 ⟨h, hh⟩) hj' ha' hq' (show cc0_scratch3.dmaCredit S1024x128 .f32 = 16384 by decide +kernel)) $$ HE Hp Hw Hb
  iintro ⟨Hp, Hw, Hb⟩
  iapply Hk
  unfold hdGot
  iframe Hp Hw Hfs Hg Ha Hb

end

/-! ## The weights and the barrier -/

/-- The device's columns of `Wq`, its rows of `Wo`, in the buffers the launch was given. -/
def wqSrc (c : Dev nD) : sProp 𝕄 := iprop(((wqM c).view.loc (c : Thread nD τ)) ↦[(wqM c).view.set]{fullShare} m ((c : Thread nD τ).loc main_arg1))
def woSrc (c : Dev nD) : sProp 𝕄 := iprop(((woM c).view.loc (c : Thread nD τ)) ↦[(woM c).view.set]{fullShare} m ((c : Thread nD τ).loc main_arg4))

section
variable {k : PUnit → Prog (TpuEff nD τ sig (Elt F) Λ₀ .tc) α}

theorem copy_wq (c : Dev nD) {sem : DmaSem sig} (hq : sem = semOf (.w 0)) {hsrc} {hdst} {hsem} :
    env m K ⊢ iprop(pays (F := F) c 0 -∗ wqSrc m c -∗ anyPts (F := F) cc0_scratch0 c
      -∗ ((pays (F := F) c 1 ∗ fl (F := F) c (.w 0)) -∗ run c (k ⟨⟩) Q)
      -∗ run c (.op (.enqueueDma ((Memref.whole main_arg1 : Memref sig .tc .hbm S1024x8192 .f32).slice (Rect.unit (s := S1024x8192) (k0_off1 c) S1024x1024.size (k0_off1_inb c)) (fun _ => rfl))
        (.here (Memref.whole cc0_scratch0 : Memref sig .tc .vmem S1024x1024 .f32)) (.dma sem) hsrc hdst hsem) k) Q) := by
  iintro #HE Hp Hs ⟨%f, Hd⟩ Hk
  iapply (step_copy m K c (.w 0) rfl rfl hq (fs := m ((c : Thread nD τ).loc main_arg1)) (fd := f) (show cc0_scratch0.dmaCredit S1024x1024 .f32 = 131072 by decide +kernel) (by
    show iprop((((c : Thread nD τ).loc cc0_scratch0) ↦[(View.whole cc0_scratch0).set]{fullShare} ((View.whole cc0_scratch0).write (Elt F) f (wqV m c) Finset.univ))
      ∗ (((wqM c).view.loc (c : Thread nD τ)) ↦[(wqM c).view.set]{fullShare} m ((c : Thread nD τ).loc main_arg1))) ⊢ _
    rw [View.write_whole_univ, View.set_whole]
    exact .rfl)) $$ HE Hp [Hs] [Hd]
  · unfold wqSrc wqM; iexact Hs
  · show _ ⊢ (((c : Thread nD τ).loc cc0_scratch0) ↦[(View.whole cc0_scratch0).set]{fullShare} f)
    rw [View.set_whole]
    iintro ⟨-, H⟩
    iexact H
  iexact Hk

theorem copy_wo (c : Dev nD) {sem : DmaSem sig} (hq : sem = semOf (.w 1)) {hsrc} {hdst} {hsem} :
    env m K ⊢ iprop(pays (F := F) c 1 -∗ woSrc m c -∗ anyPts (F := F) cc0_scratch1 c
      -∗ ((pays (F := F) c 2 ∗ fl (F := F) c (.w 1)) -∗ run c (k ⟨⟩) Q)
      -∗ run c (.op (.enqueueDma ((Memref.whole main_arg4 : Memref sig .tc .hbm S8192x1024 .f32).slice (Rect.unit (s := S8192x1024) (k0_off2 c) S1024x1024.size (k0_off2_inb c)) (fun _ => rfl))
        (.here (Memref.whole cc0_scratch1 : Memref sig .tc .vmem S1024x1024 .f32)) (.dma sem) hsrc hdst hsem) k) Q) := by
  iintro #HE Hp Hs ⟨%f, Hd⟩ Hk
  iapply (step_copy m K c (.w 1) rfl rfl hq (fs := m ((c : Thread nD τ).loc main_arg4)) (fd := f) (show cc0_scratch1.dmaCredit S1024x1024 .f32 = 131072 by decide +kernel) (by
    show iprop((((c : Thread nD τ).loc cc0_scratch1) ↦[(View.whole cc0_scratch1).set]{fullShare} ((View.whole cc0_scratch1).write (Elt F) f (woV m c) Finset.univ))
      ∗ (((woM c).view.loc (c : Thread nD τ)) ↦[(woM c).view.set]{fullShare} m ((c : Thread nD τ).loc main_arg4))) ⊢ _
    rw [View.write_whole_univ, View.set_whole]
    exact .rfl)) $$ HE Hp [Hs] [Hd]
  · unfold woSrc woM; iexact Hs
  · show _ ⊢ (((c : Thread nD τ).loc cc0_scratch1) ↦[(View.whole cc0_scratch1).set]{fullShare} f)
    rw [View.set_whole]
    iintro ⟨-, H⟩
    iexact H
  iexact Hk
end

theorem dev_intro (c : Dev nD) {k : Dev nD → Prog (TpuEff nD τ sig (Elt F) Λ₀ .tc) α} : run c (k c) Q ⊢ run c (.op .deviceId k) Q := by
  show run c (k c) Q ⊢ wp frame (wpE (defs₀ (F := F)) 𝒱₀ (c : Thread nD τ) none) Set.univ (.op .deviceId k) Q
  rw [wp_deviceId]

/-! ## The sections -/

theorem sec1 (c : Dev nD) {Q : (Σ' (d0 : Dev nD), BitVec 32) → sProp (MT nD τ sig Unit (Elt F) ℕ UU ℕ)} :
    env m K ⊢ iprop(pays (F := F) c 0 -∗ wqSrc m c -∗ woSrc m c -∗ anyPts (F := F) cc0_scratch0 c -∗ anyPts (F := F) cc0_scratch1 c -∗ fromH (fun h => hdRes m c h.val) 0
      -∗ (∀ w, pays (F := F) c 4 -∗ fl (F := F) c (.w 0) -∗ fl (F := F) c (.w 1) -∗ fromH (fun h => hdRes m c h.val) 1 -∗ uptoH (hdFl (F := F) c) 1 -∗ Q ⟨c, w⟩)
      -∗ run c (at_ (k0_part1 (F := F))) Q) := by
  rw [k0_part1_eq_skeleton]
  unfold at_ k0_part1_skel
  simp only [Prog.bind_lift, Prog.pure_eq_ret]
  iintro #HE Hp Hq Ho Ha Hb Hr Hk
  iapply (dev_intro c)
  iapply (copy_wq m K c rfl) $$ HE Hp Hq Ha
  iintro ⟨Hp, Hq⟩
  iapply (copy_wo m K c rfl) $$ HE Hp Ho Hb
  iintro ⟨Hp, Ho⟩
  iapply (ph_head m K c 0 (by decide) rfl rfl rfl rfl) $$ HE Hp Hr []
  · rw [uptoH_none]; iempintro
  iintro ⟨Hp, Hr, Hf⟩
  iapply (ret_intro c)
  iapply Hk $$ Hp Hq Ho Hr Hf

theorem sec2 (c : Dev nD) {Q : PUnit → sProp (MT nD τ sig Unit (Elt F) ℕ UU ℕ)} :
    env m K ⊢ iprop(pays (F := F) c 4 -∗ fromH (fun h => hdRes m c h.val) 1 -∗ uptoH (hdFl (F := F) c) 1
      -∗ (pays (F := F) c 8 -∗ fromH (fun h => hdRes m c h.val) 3 -∗ uptoH (hdFl (F := F) c) 3 -∗ Q ⟨⟩)
      -∗ run c (at_ (k0_part2 (F := F))) Q) := by
  rw [k0_part2_eq_skeleton]
  unfold at_ k0_part2_skel
  simp only [Prog.bind_lift, Prog.pure_eq_ret]
  iintro #HE Hp Hr Hf Hk
  iapply (ph_head m K c 1 (by decide) rfl rfl rfl rfl) $$ HE Hp Hr Hf
  iintro ⟨Hp, Hr, Hf⟩
  iapply (ph_head m K c 2 (by decide) rfl rfl rfl rfl) $$ HE Hp Hr Hf
  iintro ⟨Hp, Hr, Hf⟩
  iapply (ret_intro c)
  iapply Hk $$ Hp Hr Hf

theorem sec3 (c : Dev nD) {Q : PUnit → sProp (MT nD τ sig Unit (Elt F) ℕ UU ℕ)} :
    env m K ⊢ iprop(pays (F := F) c 8 -∗ fromH (fun h => hdRes m c h.val) 3 -∗ uptoH (hdFl (F := F) c) 3
      -∗ (pays (F := F) c 12 -∗ fromH (fun h => hdRes m c h.val) 5 -∗ uptoH (hdFl (F := F) c) 5 -∗ Q ⟨⟩)
      -∗ run c (at_ (k0_part3 (F := F))) Q) := by
  rw [k0_part3_eq_skeleton]
  unfold at_ k0_part3_skel
  simp only [Prog.bind_lift, Prog.pure_eq_ret]
  iintro #HE Hp Hr Hf Hk
  iapply (ph_head m K c 3 (by decide) rfl rfl rfl rfl) $$ HE Hp Hr Hf
  iintro ⟨Hp, Hr, Hf⟩
  iapply (ph_head m K c 4 (by decide) rfl rfl rfl rfl) $$ HE Hp Hr Hf
  iintro ⟨Hp, Hr, Hf⟩
  iapply (ret_intro c)
  iapply Hk $$ Hp Hr Hf

theorem sec4 (c : Dev nD) {Q : PUnit → sProp (MT nD τ sig Unit (Elt F) ℕ UU ℕ)} :
    env m K ⊢ iprop(pays (F := F) c 12 -∗ fromH (fun h => hdRes m c h.val) 5 -∗ uptoH (hdFl (F := F) c) 5
      -∗ (pays (F := F) c 16 -∗ fromH (fun h => hdRes m c h.val) 7 -∗ uptoH (hdFl (F := F) c) 7 -∗ Q ⟨⟩)
      -∗ run c (at_ (k0_part4 (F := F))) Q) := by
  rw [k0_part4_eq_skeleton]
  unfold at_ k0_part4_skel
  simp only [Prog.bind_lift, Prog.pure_eq_ret]
  iintro #HE Hp Hr Hf Hk
  iapply (ph_head m K c 5 (by decide) rfl rfl rfl rfl) $$ HE Hp Hr Hf
  iintro ⟨Hp, Hr, Hf⟩
  iapply (ph_head m K c 6 (by decide) rfl rfl rfl rfl) $$ HE Hp Hr Hf
  iintro ⟨Hp, Hr, Hf⟩
  iapply (ret_intro c)
  iapply Hk $$ Hp Hr Hf

theorem sec5 (c : Dev nD) (v2 : BitVec 32)
    {Q : (Σ' (v107 : BitVec 32) (v111 : BitVec 32) (v112 : BitVec 32) (v115 : BitVec 32) (v117 : BitVec 32) (v119 : BitVec 32), Sems sig S_) → sProp (MT nD τ sig Unit (Elt F) ℕ UU ℕ)} :
    env m K ⊢ iprop(pays (F := F) c 16 -∗ fromH (fun h => hdRes m c h.val) 7 -∗ uptoH (hdFl (F := F) c) 7 -∗ barPay (F := F) (pd 0 c) 0 -∗ barPay (F := F) (pd 1 c) 1
      -∗ (∀ w1 w2 w3 w4 w5 w6, pays (F := F) c 20 -∗ fromH (fun h => hdRes m c h.val) 8 -∗ uptoH (hdFl (F := F) c) 8 -∗ Q ⟨w1, w2, w3, w4, w5, w6, SemArray.scalar (sig.barrier 0 rfl)⟩)
      -∗ run c (at_ (k0_part5 (F := F)) c v2) Q) := by
  rw [k0_part5_eq_skeleton]
  unfold at_ k0_part5_skel
  simp only [semSignalWord, Prog.bind_op, Prog.bind_ret, Prog.bind_lift, Prog.pure_eq_ret]
  iintro #HE Hp Hr Hf Ha Hb Hk
  iapply (ph_head m K c 7 (by decide) rfl rfl rfl rfl) $$ HE Hp Hr Hf
  iintro ⟨Hp, Hr, Hf⟩
  iapply (step_signal m K c 0 rfl _ (dev1_eq c)) $$ HE Hp Ha
  iintro Hp
  iapply (step_signal m K c 1 rfl _ (dev2_eq c)) $$ HE Hp Hb
  iintro Hp
  iapply (ret_intro c)
  iapply Hk $$ Hp Hr Hf

theorem sec6 (c : Dev nD) (v112 : BitVec 32) {Q : PUnit → sProp (MT nD τ sig Unit (Elt F) ℕ UU ℕ)} :
    env m K ⊢ iprop(pays (F := F) c 20 -∗ waits (F := F) c 0 -∗ barPay (F := F) (pd 2 c) 2 -∗ fl (F := F) c (.w 0) -∗ fl (F := F) c (.w 1) -∗ fromH (hdFl (F := F) c) 0
      -∗ (pays (F := F) c 21 -∗ waits (F := F) c 5 -∗ barPay (F := F) c 0 -∗ barPay (F := F) c 1 -∗ barPay (F := F) c 2
          -∗ allPts cc0_scratch0 c (wqV m c) -∗ wqSrc m c -∗ allPts cc0_scratch1 c (woV m c) -∗ woSrc m c
          -∗ fromH (hdFl (F := F) c) 1 -∗ uptoH (hdGot m c) 1 -∗ Q ⟨⟩)
      -∗ run c (at_ (k0_part6 (F := F)) c v112 (SemArray.scalar (sig.barrier 0 rfl))) Q) := by
  rw [k0_part6_eq_skeleton]
  unfold at_ k0_part6_skel
  simp only [semSignalWord, semWaitWord, Prog.bind_op, Prog.bind_ret, Prog.bind_lift, Prog.pure_eq_ret]
  iintro #HE Hp Hw Hc Hq Ho Hf Hk
  iapply (step_signal m K c 2 rfl _ (dev3_eq c)) $$ HE Hp Hc
  iintro Hp
  iapply (step_barrier m K c rfl (by decide +kernel)) $$ HE Hp Hw
  iintro ⟨Hp, Hw, Ha, Hb, Hc⟩
  iapply (step_wait m K c (.w 0) rfl (by decide +kernel) rfl (show cc0_scratch0.dmaCredit S1024x1024 .f32 = 131072 by decide +kernel)) $$ HE Hp Hw Hq
  iintro ⟨Hp, Hw, Hq⟩
  iapply (step_wait m K c (.w 1) rfl (by decide +kernel) rfl (show cc0_scratch1.dmaCredit S1024x1024 .f32 = 131072 by decide +kernel)) $$ HE Hp Hw Ho
  iintro ⟨Hp, Hw, Ho⟩
  iapply (ph_headed m K c 0 (by decide) rfl rfl (by decide +kernel) (by decide +kernel) rfl rfl) $$ HE Hp Hw Hf []
  · rw [uptoH_none]; iempintro
  iintro ⟨Hp, Hw, Hf, Hg⟩
  iapply (ret_intro c)
  unfold dPay wqSrc woSrc
  icases Hq with ⟨Hq, Hqs⟩
  icases Ho with ⟨Ho, Hos⟩
  iapply Hk $$ Hp Hw Ha Hb Hc Hq Hqs Ho Hos Hf Hg

theorem sec7 (c : Dev nD) {Q : PUnit → sProp (MT nD τ sig Unit (Elt F) ℕ UU ℕ)} :
    env m K ⊢ iprop(pays (F := F) c 21 -∗ waits (F := F) c 5 -∗ fromH (hdFl (F := F) c) 1 -∗ uptoH (hdGot m c) 1
      -∗ (pays (F := F) c 21 -∗ waits (F := F) c 9 -∗ fromH (hdFl (F := F) c) 3 -∗ uptoH (hdGot m c) 3 -∗ Q ⟨⟩)
      -∗ run c (at_ (k0_part7 (F := F))) Q) := by
  rw [k0_part7_eq_skeleton]
  unfold at_ k0_part7_skel
  simp only [Prog.bind_lift, Prog.pure_eq_ret]
  iintro #HE Hp Hw Hf Hg Hk
  iapply (ph_headed m K c 1 (by decide) rfl rfl (by decide +kernel) (by decide +kernel) rfl rfl) $$ HE Hp Hw Hf Hg
  iintro ⟨Hp, Hw, Hf, Hg⟩
  iapply (ph_headed m K c 2 (by decide) rfl rfl (by decide +kernel) (by decide +kernel) rfl rfl) $$ HE Hp Hw Hf Hg
  iintro ⟨Hp, Hw, Hf, Hg⟩
  iapply (ret_intro c)
  iapply Hk $$ Hp Hw Hf Hg

theorem sec8 (c : Dev nD) {Q : PUnit → sProp (MT nD τ sig Unit (Elt F) ℕ UU ℕ)} :
    env m K ⊢ iprop(pays (F := F) c 21 -∗ waits (F := F) c 9 -∗ fromH (hdFl (F := F) c) 3 -∗ uptoH (hdGot m c) 3
      -∗ (pays (F := F) c 21 -∗ waits (F := F) c 13 -∗ fromH (hdFl (F := F) c) 5 -∗ uptoH (hdGot m c) 5 -∗ Q ⟨⟩)
      -∗ run c (at_ (k0_part8 (F := F))) Q) := by
  rw [k0_part8_eq_skeleton]
  unfold at_ k0_part8_skel
  simp only [Prog.bind_lift, Prog.pure_eq_ret]
  iintro #HE Hp Hw Hf Hg Hk
  iapply (ph_headed m K c 3 (by decide) rfl rfl (by decide +kernel) (by decide +kernel) rfl rfl) $$ HE Hp Hw Hf Hg
  iintro ⟨Hp, Hw, Hf, Hg⟩
  iapply (ph_headed m K c 4 (by decide) rfl rfl (by decide +kernel) (by decide +kernel) rfl rfl) $$ HE Hp Hw Hf Hg
  iintro ⟨Hp, Hw, Hf, Hg⟩
  iapply (ret_intro c)
  iapply Hk $$ Hp Hw Hf Hg

theorem sec9 (c : Dev nD) {Q : PUnit → sProp (MT nD τ sig Unit (Elt F) ℕ UU ℕ)} :
    env m K ⊢ iprop(pays (F := F) c 21 -∗ waits (F := F) c 13 -∗ fromH (hdFl (F := F) c) 5 -∗ uptoH (hdGot m c) 5
      -∗ (pays (F := F) c 21 -∗ waits (F := F) c 17 -∗ fromH (hdFl (F := F) c) 7 -∗ uptoH (hdGot m c) 7 -∗ Q ⟨⟩)
      -∗ run c (at_ (k0_part9 (F := F))) Q) := by
  rw [k0_part9_eq_skeleton]
  unfold at_ k0_part9_skel
  simp only [Prog.bind_lift, Prog.pure_eq_ret]
  iintro #HE Hp Hw Hf Hg Hk
  iapply (ph_headed m K c 5 (by decide) rfl rfl (by decide +kernel) (by decide +kernel) rfl rfl) $$ HE Hp Hw Hf Hg
  iintro ⟨Hp, Hw, Hf, Hg⟩
  iapply (ph_headed m K c 6 (by decide) rfl rfl (by decide +kernel) (by decide +kernel) rfl rfl) $$ HE Hp Hw Hf Hg
  iintro ⟨Hp, Hw, Hf, Hg⟩
  iapply (ret_intro c)
  iapply Hk $$ Hp Hw Hf Hg

theorem sec10 (c : Dev nD) {Q : (Σ' (v232 : FVec F S1024x1024 .bf16) (v234 : FVec F S1024x1024 .bf16) (v239 : FVec F S384x1024 .bf16) (v242 : IVec S384x384 32) (c64_i32 : BitVec 32) (v244 : IVec S384x384 32) (v251 : IVec S384x384 32) (v253 : BitVec 32), BitVec 1) → sProp (MT nD τ sig Unit (Elt F) ℕ UU ℕ)} :
    env m K ⊢ iprop(pays (F := F) c 21 -∗ waits (F := F) c 17 -∗ fromH (hdFl (F := F) c) 7 -∗ uptoH (hdGot m c) 7
      -∗ allPts cc0_scratch0 c (wqV m c) -∗ allPts cc0_scratch1 c (woV m c) -∗ xin m c
      -∗ (pays (F := F) c 21 -∗ waits (F := F) c 19 -∗ fromH (hdFl (F := F) c) 8 -∗ uptoH (hdGot m c) 8
          -∗ allPts cc0_scratch0 c (wqV m c) -∗ allPts cc0_scratch1 c (woV m c) -∗ xin m c
          -∗ Q ⟨k0_pay2 (wqV m c), k0_pay3 (woV m c), k0_pay4 (wqV m c) (x0 (xT m c)), k0_pay5, 64#32, k0_pay6, k0_pay7, w253, w254⟩)
      -∗ run c (at_ (k0_part10 (F := F))) Q) := by
  rw [k0_part10_eq_skeleton]
  unfold at_ k0_part10_skel
  simp only [Prog.bind_lift, Prog.pure_eq_ret]
  iintro #HE Hp Hw Hf Hg Hq Ho Hx Hk
  iapply (ph_headed m K c 7 (by decide) rfl rfl (by decide +kernel) (by decide +kernel) rfl rfl) $$ HE Hp Hw Hf Hg
  iintro ⟨Hp, Hw, Hf, Hg⟩
  iapply (load_all (Memref.whole cc0_scratch0 : Memref sig .tc .vmem S1024x1024 .f32) c (wqV m c)) $$ Hq
  iintro Hq
  iapply (load_all (Memref.whole cc0_scratch1 : Memref sig .tc .vmem S1024x1024 .f32) c (woV m c)) $$ Ho
  iintro Ho
  iapply (load_x m c) $$ Hx
  iintro Hx
  iapply (ret_intro c)
  rw [show (Memref.whole cc0_scratch0 : Memref sig .tc .vmem S1024x1024 .f32).view.readAt (Elt F) (Rect.unit (s := S1024x1024) ![0, 0] S1024x1024.size _).toLoadRect (wqV m c) = wqV m c from
      Memref.readAt_unit_zero (Elt F) cc0_scratch0 z2 _ (wqV m c),
    show (Memref.whole cc0_scratch1 : Memref sig .tc .vmem S1024x1024 .f32).view.readAt (Elt F) (Rect.unit (s := S1024x1024) ![0, 0] S1024x1024.size _).toLoadRect (woV m c) = woV m c from
      Memref.readAt_unit_zero (Elt F) cc0_scratch1 z2 _ (woV m c)]
  iapply Hk $$ Hp Hw Hf Hg Hq Ho Hx

end Cert.Exchange
end
-- ==== Proof.Parts.lean ====
/-
The sections of the body that exchange the parts. Each theorem here runs one section: it says which duties are paid, which
waits are made, and how far the exchange of each part gets.
-/
module

public import proofs.«01_k».proof.Proof.Output

@[expose] public section
set_option maxRecDepth 65536
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

variable (m : (ℓ : Loc nD τ sig) → Buf (Elt F) ℓ) (K : Dev nD × Cl → ℕ)

theorem part28 (c : Dev nD) (w1 w2 w3 w4 : BitVec 32) {Q : BitVec 32 → sProp (MT nD τ sig Unit (Elt F) ℕ UU ℕ)} :
    env m K ⊢ iprop(pays (F := F) c 27 -∗ waits (F := F) c 21 -∗ rdy m 2 0 c -∗ fly m 1 0 c
      -∗ (∀ w, pays (F := F) c 29 -∗ waits (F := F) c 23 -∗ fly m 2 0 c -∗ rdy m 1 1 c -∗ Q w)
      -∗ run c (at_ (k0_part28 (F := F)) c w1 w2 w3 w4) Q) := by
  rw [k0_part28_eq_skeleton]
  unfold at_ k0_part28_skel
  simp only [Prog.bind_lift, Prog.pure_eq_ret]
  iintro #HE Hp Hw H2 H1 Hk
  iapply (ph_send m K 2 0 c 0 rfl rfl rfl _ (dev7_eq c) (slc2 (off7_rs c) _) stg20 rfl rfl (show cc0_scratch13.dmaCredit ⟨2, ![128, 1024]⟩ .bf16 = amt (.rsR 2 0) by decide +kernel)) $$ HE Hp H2
  iintro ⟨Hp, H2⟩
  iapply (ph_sent m K 1 0 c rfl (by decide +kernel) rfl (crs1 (by decide +kernel))) $$ HE Hp Hw H1
  iintro ⟨Hp, Hw, H1⟩
  iapply (ph_recv m K 1 0 c rfl (by decide +kernel) rfl (by decide +kernel)) $$ HE Hp Hw H1
  iintro ⟨Hp, Hw, H1⟩
  iapply (ph_acc m 1 0 c 1 rfl (slc1 (off8_keep c) _) stl10 (pay := k0_pay59) ((shapeCast_self _ _).trans rfl)) $$ H1
  iintro H1
  iapply (ret_intro c)
  iapply Hk $$ Hp Hw H2 H1

theorem part29 (c : Dev nD) (w1 w2 w3 w4 : BitVec 32) {Q : BitVec 32 → sProp (MT nD τ sig Unit (Elt F) ℕ UU ℕ)} :
    env m K ⊢ iprop(pays (F := F) c 29 -∗ waits (F := F) c 23 -∗ rdy m 1 1 c -∗ fly m 0 1 c
      -∗ (∀ w, pays (F := F) c 31 -∗ waits (F := F) c 25 -∗ fly m 1 1 c -∗ rdy m 0 2 c -∗ Q w)
      -∗ run c (at_ (k0_part29 (F := F)) c w1 w2 w3 w4) Q) := by
  rw [k0_part29_eq_skeleton]
  unfold at_ k0_part29_skel
  simp only [Prog.bind_lift, Prog.pure_eq_ret]
  iintro #HE Hp Hw H1 H0 Hk
  iapply (ph_send m K 1 1 c 1 rfl rfl rfl _ (dev8_eq c) (slc1 (off9_rs c) _) stg11 rfl rfl (show cc0_scratch11.dmaCredit ⟨2, ![96, 1024]⟩ .bf16 = amt (.rsR 1 1) by decide +kernel)) $$ HE Hp H1
  iintro ⟨Hp, H1⟩
  iapply (ph_sent m K 0 1 c rfl (by decide +kernel) rfl (crs0 (by decide +kernel))) $$ HE Hp Hw H0
  iintro ⟨Hp, Hw, H0⟩
  iapply (ph_recv m K 0 1 c rfl (by decide +kernel) rfl (by decide +kernel)) $$ HE Hp Hw H0
  iintro ⟨Hp, Hw, H0⟩
  iapply (ph_acc m 0 1 c 2 rfl (slc0 (off10_keep c) _) stl01 (pay := k0_pay60) ((shapeCast_self _ _).trans rfl)) $$ H0
  iintro H0
  iapply (ret_intro c)
  iapply Hk $$ Hp Hw H1 H0

theorem part30 (c : Dev nD) (w1 w2 w3 : BitVec 32) {Q : BitVec 32 → sProp (MT nD τ sig Unit (Elt F) ℕ UU ℕ)} :
    env m K ⊢ iprop(pays (F := F) c 31 -∗ waits (F := F) c 25 -∗ rdy m 0 2 c -∗ fly m 2 0 c
      -∗ (∀ w, pays (F := F) c 33 -∗ waits (F := F) c 27 -∗ fly m 0 2 c -∗ rdy m 2 1 c -∗ Q w)
      -∗ run c (at_ (k0_part30 (F := F)) c w1 w2 w3) Q) := by
  rw [k0_part30_eq_skeleton]
  unfold at_ k0_part30_skel
  simp only [Prog.bind_lift, Prog.pure_eq_ret]
  iintro #HE Hp Hw H0 H2 Hk
  iapply (ph_send m K 0 2 c 2 rfl rfl rfl _ (dev9_eq c) (slc0 (off11_rs c) _) stg02 rfl rfl (show cc0_scratch9.dmaCredit ⟨2, ![48, 1024]⟩ .bf16 = amt (.rsR 0 2) by decide +kernel)) $$ HE Hp H0
  iintro ⟨Hp, H0⟩
  iapply (ph_sent m K 2 0 c rfl (by decide +kernel) rfl (crs2 (by decide +kernel))) $$ HE Hp Hw H2
  iintro ⟨Hp, Hw, H2⟩
  iapply (ph_recv m K 2 0 c rfl (by decide +kernel) rfl (by decide +kernel)) $$ HE Hp Hw H2
  iintro ⟨Hp, Hw, H2⟩
  iapply (ph_acc m 2 0 c 1 rfl (slc2 (off12_keep c) _) stl20 (pay := k0_pay61) ((shapeCast_self _ _).trans rfl)) $$ H2
  iintro H2
  iapply (ret_intro c)
  iapply Hk $$ Hp Hw H0 H2

theorem part31 (c : Dev nD) (w1 w2 w3 w4 : BitVec 32) {Q : BitVec 32 → sProp (MT nD τ sig Unit (Elt F) ℕ UU ℕ)} :
    env m K ⊢ iprop(pays (F := F) c 33 -∗ waits (F := F) c 27 -∗ rdy m 2 1 c -∗ fly m 1 1 c
      -∗ (∀ w, pays (F := F) c 35 -∗ waits (F := F) c 29 -∗ fly m 2 1 c -∗ rdy m 1 2 c -∗ Q w)
      -∗ run c (at_ (k0_part31 (F := F)) c w1 w2 w3 w4) Q) := by
  rw [k0_part31_eq_skeleton]
  unfold at_ k0_part31_skel
  simp only [Prog.bind_lift, Prog.pure_eq_ret]
  iintro #HE Hp Hw H2 H1 Hk
  iapply (ph_send m K 2 1 c 1 rfl rfl rfl _ (dev10_eq c) (slc2 (off13_rs c) _) stg21 rfl rfl (show cc0_scratch14.dmaCredit ⟨2, ![64, 1024]⟩ .bf16 = amt (.rsR 2 1) by decide +kernel)) $$ HE Hp H2
  iintro ⟨Hp, H2⟩
  iapply (ph_sent m K 1 1 c rfl (by decide +kernel) rfl (crs1 (by decide +kernel))) $$ HE Hp Hw H1
  iintro ⟨Hp, Hw, H1⟩
  iapply (ph_recv m K 1 1 c rfl (by decide +kernel) rfl (by decide +kernel)) $$ HE Hp Hw H1
  iintro ⟨Hp, Hw, H1⟩
  iapply (ph_acc m 1 1 c 2 rfl (slc1 (off14_keep c) _) stl11 (pay := k0_pay62) ((shapeCast_self _ _).trans rfl)) $$ H1
  iintro H1
  iapply (ret_intro c)
  iapply Hk $$ Hp Hw H2 H1

theorem part32 (c : Dev nD) (w1 w2 w3 : BitVec 32) {Q : PUnit → sProp (MT nD τ sig Unit (Elt F) ℕ UU ℕ)} :
    env m K ⊢ iprop(pays (F := F) c 35 -∗ waits (F := F) c 29 -∗ rdy m 1 2 c -∗ fly m 0 2 c
      -∗ (pays (F := F) c 37 -∗ waits (F := F) c 31 -∗ fly m 1 2 c -∗ rdy m 0 3 c -∗ Q ⟨⟩)
      -∗ run c (at_ (k0_part32 (F := F)) c w1 w2 w3) Q) := by
  rw [k0_part32_eq_skeleton]
  unfold at_ k0_part32_skel
  simp only [Prog.bind_lift, Prog.pure_eq_ret]
  iintro #HE Hp Hw H1 H0 Hk
  iapply (ph_send m K 1 2 c 2 rfl rfl rfl _ (dev11_eq c) (slc1 (off15_rs c) _) stg12 rfl rfl (show cc0_scratch12.dmaCredit ⟨2, ![48, 1024]⟩ .bf16 = amt (.rsR 1 2) by decide +kernel)) $$ HE Hp H1
  iintro ⟨Hp, H1⟩
  iapply (ph_sent m K 0 2 c rfl (by decide +kernel) rfl (crs0 (by decide +kernel))) $$ HE Hp Hw H0
  iintro ⟨Hp, Hw, H0⟩
  iapply (ph_recv m K 0 2 c rfl (by decide +kernel) rfl (by decide +kernel)) $$ HE Hp Hw H0
  iintro ⟨Hp, Hw, H0⟩
  iapply (ph_acc m 0 2 c 3 rfl (slc0 (off16_keep c) _) stl02 (pay := k0_pay63) ((shapeCast_self _ _).trans rfl)) $$ H0
  iintro H0
  iapply (ret_intro c)
  iapply Hk $$ Hp Hw H1 H0

theorem part33 (c : Dev nD) (w1 w2 w3 w4 w5 w6 : BitVec 32) {Q : (Σ' (_ : BitVec 32), BitVec 32) → sProp (MT nD τ sig Unit (Elt F) ℕ UU ℕ)} :
    env m K ⊢ iprop(pays (F := F) c 37 -∗ waits (F := F) c 31 -∗ rdy m 0 3 c -∗ fly m 2 1 c
      -∗ (∀ w, pays (F := F) c 39 -∗ waits (F := F) c 33 -∗ gfly (F := F) 0 0 c -∗ rdy m 2 2 c -∗ Q w)
      -∗ run c (at_ (k0_part33 (F := F)) c w1 w2 w3 w4 w5 w6) Q) := by
  rw [k0_part33_eq_skeleton]
  unfold at_ k0_part33_skel
  simp only [Prog.bind_lift, Prog.pure_eq_ret]
  iintro #HE Hp Hw H0 H2 Hk
  ihave H0 := (ph_turn m 0 c) $$ H0
  iapply (ph_gsend m K 0 0 c 0 rfl rfl rfl _ (dev12_eq c) (slc0 (off17_ag c) _) rfl rfl (crs0 (by decide +kernel))) $$ HE Hp H0
  iintro ⟨Hp, H0⟩
  iapply (ph_sent m K 2 1 c rfl (by decide +kernel) rfl (crs2 (by decide +kernel))) $$ HE Hp Hw H2
  iintro ⟨Hp, Hw, H2⟩
  iapply (ph_recv m K 2 1 c rfl (by decide +kernel) rfl (by decide +kernel)) $$ HE Hp Hw H2
  iintro ⟨Hp, Hw, H2⟩
  iapply (ph_acc m 2 1 c 2 rfl (slc2 (off18_keep c) _) stl21 (pay := k0_pay64) ((shapeCast_self _ _).trans rfl)) $$ H2
  iintro H2
  iapply (ret_intro c)
  iapply Hk $$ Hp Hw H0 H2

theorem part34 (c : Dev nD) (w1 w2 : BitVec 32) {Q : BitVec 32 → sProp (MT nD τ sig Unit (Elt F) ℕ UU ℕ)} :
    env m K ⊢ iprop(pays (F := F) c 39 -∗ waits (F := F) c 33 -∗ rdy m 2 2 c -∗ fly m 1 2 c
      -∗ (∀ w, pays (F := F) c 43 -∗ waits (F := F) c 35 -∗ fly m 2 2 c -∗ gfly (F := F) 1 0 c -∗ Q w)
      -∗ run c (at_ (k0_part34 (F := F)) c w1 w2) Q) := by
  rw [k0_part34_eq_skeleton]
  unfold at_ k0_part34_skel
  simp only [Prog.bind_lift, Prog.pure_eq_ret]
  iintro #HE Hp Hw H2 H1 Hk
  iapply (ph_send m K 2 2 c 2 rfl rfl rfl _ (dev13_eq c) (slc2 (off19_rs c) _) stg22 rfl rfl (show cc0_scratch15.dmaCredit ⟨2, ![32, 1024]⟩ .bf16 = amt (.rsR 2 2) by decide +kernel)) $$ HE Hp H2
  iintro ⟨Hp, H2⟩
  iapply (ph_sent m K 1 2 c rfl (by decide +kernel) rfl (crs1 (by decide +kernel))) $$ HE Hp Hw H1
  iintro ⟨Hp, Hw, H1⟩
  iapply (ph_recv m K 1 2 c rfl (by decide +kernel) rfl (by decide +kernel)) $$ HE Hp Hw H1
  iintro ⟨Hp, Hw, H1⟩
  iapply (ph_acc m 1 2 c 3 rfl (slc1 (off20_keep c) _) stl12 (pay := k0_pay65) ((shapeCast_self _ _).trans rfl)) $$ H1
  iintro H1
  ihave H1 := (ph_turn m 1 c) $$ H1
  iapply (ph_gsend m K 1 0 c 0 rfl rfl rfl _ (dev14_eq c) (slc1 (off21_ag c) _) rfl rfl (crs1 (by decide +kernel))) $$ HE Hp H1
  iintro ⟨Hp, H1⟩
  iapply (ret_intro c)
  iapply Hk $$ Hp Hw H2 H1

theorem part35 (c : Dev nD) (w1 w2 w3 w4 w5 w6 w7 : BitVec 32) {Q : BitVec 32 → sProp (MT nD τ sig Unit (Elt F) ℕ UU ℕ)} :
    env m K ⊢ iprop(pays (F := F) c 43 -∗ waits (F := F) c 35 -∗ gfly (F := F) 0 0 c -∗ fly m 2 2 c
      -∗ (∀ w, pays (F := F) c 45 -∗ waits (F := F) c 38 -∗ gfly (F := F) 0 1 c -∗ sent m 2 2 c -∗ Q w)
      -∗ run c (at_ (k0_part35 (F := F)) c w1 w2 w3 w4 w5 w6 w7) Q) := by
  rw [k0_part35_eq_skeleton]
  unfold at_ k0_part35_skel
  simp only [Prog.bind_lift, Prog.pure_eq_ret]
  iintro #HE Hp Hw H0 H2 Hk
  iapply (ph_gsent m K 0 0 c rfl (by decide +kernel) rfl (crs0 (by decide +kernel))) $$ HE Hp Hw H0
  iintro ⟨Hp, Hw, H0⟩
  iapply (ph_grecv m K 0 0 c 1 rfl rfl (by decide +kernel) rfl (crs0 (by decide +kernel))) $$ HE Hp Hw H0
  iintro ⟨Hp, Hw, H0⟩
  iapply (ph_gsend m K 0 1 c 1 rfl rfl rfl _ (dev15_eq c) (slc0 (off22_ag c) _) rfl rfl (crs0 (by decide +kernel))) $$ HE Hp H0
  iintro ⟨Hp, H0⟩
  iapply (ph_sent m K 2 2 c rfl (by decide +kernel) rfl (crs2 (by decide +kernel))) $$ HE Hp Hw H2
  iintro ⟨Hp, Hw, H2⟩
  iapply (ret_intro c)
  iapply Hk $$ Hp Hw H0 H2

theorem part36 (c : Dev nD) (w1 w2 w3 : BitVec 32) {Q : BitVec 32 → sProp (MT nD τ sig Unit (Elt F) ℕ UU ℕ)} :
    env m K ⊢ iprop(pays (F := F) c 45 -∗ waits (F := F) c 38 -∗ sent m 2 2 c -∗ gfly (F := F) 1 0 c
      -∗ (∀ w, pays (F := F) c 47 -∗ waits (F := F) c 40 -∗ gfly (F := F) 2 0 c -∗ gsent m 1 0 c -∗ Q w)
      -∗ run c (at_ (k0_part36 (F := F)) c w1 w2 w3) Q) := by
  rw [k0_part36_eq_skeleton]
  unfold at_ k0_part36_skel
  simp only [Prog.bind_lift, Prog.pure_eq_ret]
  iintro #HE Hp Hw H2 H1 Hk
  iapply (ph_recv m K 2 2 c rfl (by decide +kernel) rfl (by decide +kernel)) $$ HE Hp Hw H2
  iintro ⟨Hp, Hw, H2⟩
  iapply (ph_acc m 2 2 c 3 rfl (slc2 (off23_keep c) _) stl22 (pay := k0_pay66) ((shapeCast_self _ _).trans rfl)) $$ H2
  iintro H2
  ihave H2 := (ph_turn m 2 c) $$ H2
  iapply (ph_gsend m K 2 0 c 0 rfl rfl rfl _ (dev16_eq c) (slc2 (off24_ag c) _) rfl rfl (crs2 (by decide +kernel))) $$ HE Hp H2
  iintro ⟨Hp, H2⟩
  iapply (ph_gsent m K 1 0 c rfl (by decide +kernel) rfl (crs1 (by decide +kernel))) $$ HE Hp Hw H1
  iintro ⟨Hp, Hw, H1⟩
  iapply (ret_intro c)
  iapply Hk $$ Hp Hw H2 H1

theorem part37 (c : Dev nD) (w1 w2 w3 w4 w5 : BitVec 32) {Q : PUnit → sProp (MT nD τ sig Unit (Elt F) ℕ UU ℕ)} :
    env m K ⊢ iprop(pays (F := F) c 47 -∗ waits (F := F) c 40 -∗ gsent m 1 0 c -∗ gfly (F := F) 0 1 c
      -∗ (pays (F := F) c 49 -∗ waits (F := F) c 43 -∗ gfly (F := F) 1 1 c -∗ gat m 0 2 c -∗ Q ⟨⟩)
      -∗ run c (at_ (k0_part37 (F := F)) c w1 w2 w3 w4 w5) Q) := by
  rw [k0_part37_eq_skeleton]
  unfold at_ k0_part37_skel
  simp only [Prog.bind_lift, Prog.pure_eq_ret]
  iintro #HE Hp Hw H1 H0 Hk
  iapply (ph_grecv m K 1 0 c 1 rfl rfl (by decide +kernel) rfl (crs1 (by decide +kernel))) $$ HE Hp Hw H1
  iintro ⟨Hp, Hw, H1⟩
  iapply (ph_gsend m K 1 1 c 1 rfl rfl rfl _ (dev17_eq c) (slc1 (off25_ag c) _) rfl rfl (crs1 (by decide +kernel))) $$ HE Hp H1
  iintro ⟨Hp, H1⟩
  iapply (ph_gsent m K 0 1 c rfl (by decide +kernel) rfl (crs0 (by decide +kernel))) $$ HE Hp Hw H0
  iintro ⟨Hp, Hw, H0⟩
  iapply (ph_grecv m K 0 1 c 2 rfl rfl (by decide +kernel) rfl (crs0 (by decide +kernel))) $$ HE Hp Hw H0
  iintro ⟨Hp, Hw, H0⟩
  iapply (ret_intro c)
  iapply Hk $$ Hp Hw H1 H0

theorem part38 (c : Dev nD) (w1 w2 : BitVec 32) {Q : PUnit → sProp (MT nD τ sig Unit (Elt F) ℕ UU ℕ)} :
    env m K ⊢ iprop(pays (F := F) c 49 -∗ waits (F := F) c 43 -∗ gat m 0 2 c -∗ gfly (F := F) 2 0 c
      -∗ (pays (F := F) c 53 -∗ waits (F := F) c 45 -∗ gfly (F := F) 0 2 c -∗ gfly (F := F) 2 1 c -∗ Q ⟨⟩)
      -∗ run c (at_ (k0_part38 (F := F)) c w1 w2) Q) := by
  rw [k0_part38_eq_skeleton]
  unfold at_ k0_part38_skel
  simp only [Prog.bind_lift, Prog.pure_eq_ret]
  iintro #HE Hp Hw H0 H2 Hk
  iapply (ph_gsend m K 0 2 c 2 rfl rfl rfl _ (dev18_eq c) (slc0 (off26_ag c) _) rfl rfl (crs0 (by decide +kernel))) $$ HE Hp H0
  iintro ⟨Hp, H0⟩
  iapply (ph_gsent m K 2 0 c rfl (by decide +kernel) rfl (crs2 (by decide +kernel))) $$ HE Hp Hw H2
  iintro ⟨Hp, Hw, H2⟩
  iapply (ph_grecv m K 2 0 c 1 rfl rfl (by decide +kernel) rfl (crs2 (by decide +kernel))) $$ HE Hp Hw H2
  iintro ⟨Hp, Hw, H2⟩
  iapply (ph_gsend m K 2 1 c 1 rfl rfl rfl _ (dev19_eq c) (slc2 (off27_ag c) _) rfl rfl (crs2 (by decide +kernel))) $$ HE Hp H2
  iintro ⟨Hp, H2⟩
  iapply (ret_intro c)
  iapply Hk $$ Hp Hw H0 H2

theorem part39 (c : Dev nD) (w1 w2 w3 w4 : BitVec 32) {Q : PUnit → sProp (MT nD τ sig Unit (Elt F) ℕ UU ℕ)} :
    env m K ⊢ iprop(pays (F := F) c 53 -∗ waits (F := F) c 45 -∗ gfly (F := F) 1 1 c -∗ gfly (F := F) 0 2 c
      -∗ (pays (F := F) c 55 -∗ waits (F := F) c 48 -∗ gfly (F := F) 1 2 c -∗ gsent m 0 2 c -∗ Q ⟨⟩)
      -∗ run c (at_ (k0_part39 (F := F)) c w1 w2 w3 w4) Q) := by
  rw [k0_part39_eq_skeleton]
  unfold at_ k0_part39_skel
  simp only [Prog.bind_lift, Prog.pure_eq_ret]
  iintro #HE Hp Hw H1 H0 Hk
  iapply (ph_gsent m K 1 1 c rfl (by decide +kernel) rfl (crs1 (by decide +kernel))) $$ HE Hp Hw H1
  iintro ⟨Hp, Hw, H1⟩
  iapply (ph_grecv m K 1 1 c 2 rfl rfl (by decide +kernel) rfl (crs1 (by decide +kernel))) $$ HE Hp Hw H1
  iintro ⟨Hp, Hw, H1⟩
  iapply (ph_gsend m K 1 2 c 2 rfl rfl rfl _ (dev20_eq c) (slc1 (off28_ag c) _) rfl rfl (crs1 (by decide +kernel))) $$ HE Hp H1
  iintro ⟨Hp, H1⟩
  iapply (ph_gsent m K 0 2 c rfl (by decide +kernel) rfl (crs0 (by decide +kernel))) $$ HE Hp Hw H0
  iintro ⟨Hp, Hw, H0⟩
  iapply (ret_intro c)
  iapply Hk $$ Hp Hw H1 H0

/-- A gathered part is loaded whole. -/
theorem gat_load {t : Fin 3} {s : Shape} {M : Memref sig .tc .vmem s .bf16} {R : Rect s} {hR : ∀ a, R.stride a = 1} (c : Dev nD)
    (S : Slc (F := F) t (lo t (3 - 3) c) (nn t (3 - 3)) (M.slice R hR)) {hl : M.view.LoadsAt R.toLoadRect} {α : Type} {Q : α → sProp (MT nD τ sig Unit (Elt F) ℕ UU ℕ)}
    {k : (R.shape.Idx → Elt F .bf16) → Prog (TpuEff nD τ sig (Elt F) Λ₀ .tc) α} :
    gat m t 3 c ⊢ iprop((gat m t 3 c -∗ run c (k (rc fun i j => A m t (lo t (3 - 3) c + i) j)) Q) -∗ run c (.op (.load M R.toLoadRect hl) k) Q) := by
  unfold gat
  iintro ⟨Ho, Hr⟩ Hk
  iapply (load_slc S c (A m t)) $$ Ho
  iintro Ho
  iapply Hk
  iframe Ho Hr

theorem out_row0 (c : Dev nD) (i j : Nat) (h : i < 384) : A m 0 (lo 0 (3 - 3) c + i) j = outRow m (0 + i) j := by
  show A m 0 (0 + i) j = _
  unfold outRow
  rw [Nat.zero_add, if_pos h]
theorem out_row1 (c : Dev nD) (i j : Nat) (h : i < 384) : A m 1 (lo 1 (3 - 3) c + i) j = outRow m (384 + i) j := by
  show A m 1 (0 + i) j = _
  unfold outRow
  rw [Nat.zero_add, if_neg (by omega), if_pos (by omega), Nat.add_sub_cancel_left]
theorem out_row2 (c : Dev nD) (i j : Nat) (h : i < 256) : A m 2 (lo 2 (3 - 3) c + i) j = outRow m (768 + i) j := by
  show A m 2 (0 + i) j = _
  unfold outRow
  rw [Nat.zero_add, if_neg (by omega), if_neg (by omega), Nat.add_sub_cancel_left]

theorem part40 (c : Dev nD) (w1 w2 : BitVec 32) {Q : PUnit → sProp (MT nD τ sig Unit (Elt F) ℕ UU ℕ)} :
    env m K ⊢ iprop(pays (F := F) c 55 -∗ waits (F := F) c 48 -∗ gsent m 0 2 c -∗ gfly (F := F) 2 1 c -∗ outP m c 0
      -∗ (pays (F := F) c 55 -∗ waits (F := F) c 51 -∗ gat m 0 3 c -∗ gat m 2 2 c -∗ outP m c 384 -∗ Q ⟨⟩)
      -∗ run c (at_ (k0_part40 (F := F)) c w1 w2) Q) := by
  rw [k0_part40_eq_skeleton]
  unfold at_ k0_part40_skel
  simp only [Prog.bind_lift, Prog.pure_eq_ret]
  iintro #HE Hp Hw H0 H2 Hu Hk
  iapply (ph_grecv m K 0 2 c 3 rfl rfl (by decide +kernel) rfl (crs0 (by decide +kernel))) $$ HE Hp Hw H0
  iintro ⟨Hp, Hw, H0⟩
  iapply (gat_load m c (slc0 rfl _)) $$ H0
  iintro H0
  iapply (out_step m c 384 rfl (fun i j => A m 0 (lo 0 (3 - 3) c + i) j) (out_row0 m c) _ rfl) $$ Hu
  iintro Hu
  iapply (ph_gsent m K 2 1 c rfl (by decide +kernel) rfl (crs2 (by decide +kernel))) $$ HE Hp Hw H2
  iintro ⟨Hp, Hw, H2⟩
  iapply (ph_grecv m K 2 1 c 2 rfl rfl (by decide +kernel) rfl (crs2 (by decide +kernel))) $$ HE Hp Hw H2
  iintro ⟨Hp, Hw, H2⟩
  iapply (ret_intro c)
  iapply Hk $$ Hp Hw H0 H2 Hu

theorem part41 (c : Dev nD) (w1 : BitVec 32) {Q : PUnit → sProp (MT nD τ sig Unit (Elt F) ℕ UU ℕ)} :
    env m K ⊢ iprop(pays (F := F) c 55 -∗ waits (F := F) c 51 -∗ gfly (F := F) 1 2 c -∗ gat m 2 2 c -∗ outP m c 384
      -∗ (pays (F := F) c 57 -∗ waits (F := F) c 54 -∗ gat m 1 3 c -∗ gsent m 2 2 c -∗ outP m c 768 -∗ Q ⟨⟩)
      -∗ run c (at_ (k0_part41 (F := F)) c w1) Q) := by
  rw [k0_part41_eq_skeleton]
  unfold at_ k0_part41_skel
  simp only [Prog.bind_lift, Prog.pure_eq_ret]
  iintro #HE Hp Hw H1 H2 Hu Hk
  iapply (ph_gsend m K 2 2 c 2 rfl rfl rfl _ (dev21_eq c) (slc2 (off29_ag c) _) rfl rfl (crs2 (by decide +kernel))) $$ HE Hp H2
  iintro ⟨Hp, H2⟩
  iapply (ph_gsent m K 1 2 c rfl (by decide +kernel) rfl (crs1 (by decide +kernel))) $$ HE Hp Hw H1
  iintro ⟨Hp, Hw, H1⟩
  iapply (ph_grecv m K 1 2 c 3 rfl rfl (by decide +kernel) rfl (crs1 (by decide +kernel))) $$ HE Hp Hw H1
  iintro ⟨Hp, Hw, H1⟩
  iapply (gat_load m c (slc1 rfl _)) $$ H1
  iintro H1
  iapply (out_step m c 768 rfl (fun i j => A m 1 (lo 1 (3 - 3) c + i) j) (out_row1 m c) _ rfl) $$ Hu
  iintro Hu
  iapply (ph_gsent m K 2 2 c rfl (by decide +kernel) rfl (crs2 (by decide +kernel))) $$ HE Hp Hw H2
  iintro ⟨Hp, Hw, H2⟩
  iapply (ret_intro c)
  iapply Hk $$ Hp Hw H1 H2 Hu

end Cert.Exchange
end
-- ==== Proof.Body.lean ====
/-
The body of the kernel on one device, its sections one after another.
-/
module

public import proofs.«01_k».proof.Proof.Early
public import proofs.«01_k».proof.Proof.Parts

@[expose] public section
set_option maxRecDepth 65536
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ

variable (m : (ℓ : Loc nD τ sig) → Buf (Elt F) ℓ) (K : Dev nD × Cl → ℕ)
variable {α : Type} {Q : α → sProp (MT nD τ sig Unit (Elt F) ℕ UU ℕ)}

/-! ## The heads and the landing buffers regrouped -/

/-- A buffer held whole is its heads. -/
theorem pts_heads (b : Ref sig .tc) (c : Dev nD) (S : Nat → Finset b.ty.shape.Idx) (hS : ∀ h h' : Fin 8, h ≠ h' → Disjoint (S h.val) (S h'.val))
    (hu : (Finset.univ : Finset (Fin 8)).biUnion (fun h => S h.val) = Finset.univ) (f : Buf (Elt F) ((c : Thread nD τ).loc b)) :
    allPts (F := F) b c f = bigSep Finset.univ fun h : Fin 8 => (((c : Thread nD τ).loc b) ↦[S h.val]{fullShare} f : sProp (MT nD τ sig Unit (Elt F) ℕ UU ℕ)) := by
  have h := pointsTo_biUnion (ℓ := (c : Thread nD τ).loc b) (q := fullShare) (f := f) (Val := Elt F) (Ix := Unit) (Name := ℕ) (U := UU) (Lvl := ℕ)
    Finset.univ (fun h : Fin 8 => S h.val) (fun h _ h' _ hne => hS h h' hne)
  rw [hu] at h
  exact h

theorem k_heads (c : Dev nD) (f) : allPts (F := F) cc0_scratch2 c f = bigSep Finset.univ fun h : Fin 8 => (((c : Thread nD τ).loc cc0_scratch2) ↦[hdS h.val]{fullShare} f : sProp (MT nD τ sig Unit (Elt F) ℕ UU ℕ)) :=
  pts_heads cc0_scratch2 c hdS (fun h h' hne => hdS_disjoint fun e => hne (Fin.ext e)) hdS_univ f
theorem v_heads (c : Dev nD) (f) : allPts (F := F) cc0_scratch3 c f = bigSep Finset.univ fun h : Fin 8 => (((c : Thread nD τ).loc cc0_scratch3) ↦[hdS h.val]{fullShare} f : sProp (MT nD τ sig Unit (Elt F) ℕ UU ℕ)) :=
  pts_heads cc0_scratch3 c hdS (fun h h' hne => hdS_disjoint fun e => hne (Fin.ext e)) hdS_univ f
theorem kg_heads (c : Dev nD) (f) : allPts (F := F) cc0_stg1_0 c f = bigSep Finset.univ fun h : Fin 8 => (((c : Thread nD τ).loc cc0_stg1_0) ↦[hgS h.val]{fullShare} f : sProp (MT nD τ sig Unit (Elt F) ℕ UU ℕ)) :=
  pts_heads cc0_stg1_0 c hgS (fun h h' hne => hgS_disjoint fun e => hne (Fin.ext e)) hgS_univ f
theorem vg_heads (c : Dev nD) (f) : allPts (F := F) cc0_stg2_0 c f = bigSep Finset.univ fun h : Fin 8 => (((c : Thread nD τ).loc cc0_stg2_0) ↦[hgS h.val]{fullShare} f : sProp (MT nD τ sig Unit (Elt F) ℕ UU ℕ)) :=
  pts_heads cc0_stg2_0 c hgS (fun h h' hne => hgS_disjoint fun e => hne (Fin.ext e)) hgS_univ f

/-- A family holding some contents, from one holding the same. -/
theorem heads_any (b : Ref sig .tc) (c : Dev nD) (S : Nat → Finset b.ty.shape.Idx) (f : Buf (Elt F) ((c : Thread nD τ).loc b)) :
    (bigSep Finset.univ fun h : Fin 8 => (((c : Thread nD τ).loc b) ↦[S h.val]{fullShare} f : sProp (MT nD τ sig Unit (Elt F) ℕ UU ℕ)))
      ⊢ bigSep Finset.univ fun h : Fin 8 => (iprop(∃ f, (((c : Thread nD τ).loc b) ↦[S h.val]{fullShare} f)) : sProp (MT nD τ sig Unit (Elt F) ℕ UU ℕ)) :=
  bigSep_mono fun h _ => by
    show ((((c : Thread nD τ).loc b) ↦[S h.val]{fullShare} f) : sProp (MT nD τ sig Unit (Elt F) ℕ UU ℕ)) ⊢ iprop(∃ f, (((c : Thread nD τ).loc b) ↦[S h.val]{fullShare} f))
    iintro H; iexists f; iexact H

theorem heads_in (c : Dev nD) :
    iprop(allPts cc0_stg1_0 c (kg m c) ∗ allPts cc0_stg2_0 c (vg m c) ∗ anyPts (F := F) cc0_scratch2 c ∗ anyPts (F := F) cc0_scratch3 c)
      ⊢ fromH (fun h => hdRes m c h.val) 0 := by
  rw [fromH_all]
  unfold hdRes
  rw [bigSep_sep', bigSep_sep', bigSep_sep', kg_heads, vg_heads]
  iintro ⟨Ha, Hb, ⟨%f, Hc⟩, ⟨%g, Hd⟩⟩
  ihave Hc := (Entails.of_eq (k_heads c f)) $$ Hc
  ihave Hd := (Entails.of_eq (v_heads c g)) $$ Hd
  ihave Hc := (heads_any cc0_scratch2 c hdS f) $$ Hc
  ihave Hd := (heads_any cc0_scratch3 c hdS g) $$ Hd
  iframe Ha Hb Hc Hd

theorem heads_out (c : Dev nD) : uptoH (hdGot m c) 8 ⊢ iprop(kvs m c ∗ allPts cc0_stg1_0 c (kg m c) ∗ allPts cc0_stg2_0 c (vg m c)) := by
  rw [uptoH_all]
  unfold hdGot dPay kvs
  simp only
  rw [bigSep_sep', bigSep_sep', bigSep_sep', kg_heads, vg_heads, k_heads, v_heads]
  iintro ⟨⟨Ha, Hb⟩, Hc, Hd⟩
  iframe Ha Hb Hc Hd

/-- A device's nine landing buffers. -/
def landB (c : Dev nD) : sProp (MT nD τ sig Unit (Elt F) ℕ UU ℕ) :=
  iprop((stAny (F := F) 0 0 c ∗ stAny (F := F) 0 1 c ∗ stAny (F := F) 0 2 c) ∗ (stAny (F := F) 1 0 c ∗ stAny (F := F) 1 1 c ∗ stAny (F := F) 1 2 c)
    ∗ (stAny (F := F) 2 0 c ∗ stAny (F := F) 2 1 c ∗ stAny (F := F) 2 2 c))

/-- The device's landing buffers, lent to its three partners; -/
theorem bar_lend (c : Dev nD) : landB (F := F) c ⊢ iprop(barPay (F := F) (pd 0 c) 0 ∗ barPay (F := F) (pd 1 c) 1 ∗ barPay (F := F) (pd 2 c) 2) := by
  unfold barPay landB
  rw [pd_pd, pd_pd, pd_pd]
  show _ ⊢ iprop((stAny (F := F) 0 0 c ∗ stAny (F := F) 1 2 c ∗ stAny (F := F) 2 1 c) ∗ (stAny (F := F) 0 1 c ∗ stAny (F := F) 1 0 c ∗ stAny (F := F) 2 2 c)
    ∗ (stAny (F := F) 0 2 c ∗ stAny (F := F) 1 1 c ∗ stAny (F := F) 2 0 c))
  iintro ⟨⟨H1, H2, H3⟩, ⟨H4, H5, H6⟩, H7, H8, H9⟩
  iframe H1 H2 H3 H4 H5 H6 H7 H8 H9

/-- the partners', by part and step. -/
theorem bar_got (c : Dev nD) : iprop(barPay (F := F) c 0 ∗ barPay (F := F) c 1 ∗ barPay (F := F) c 2) ⊢ iprop(theirs (F := F) 0 c 3 ∗ theirs (F := F) 1 c 3 ∗ theirs (F := F) 2 c 3) := by
  show _ ⊢ iprop((stAny (F := F) 0 0 (pd 0 c) ∗ stAny (F := F) 0 1 (pd 1 c) ∗ stAny (F := F) 0 2 (pd 2 c) ∗ emp)
    ∗ (stAny (F := F) 1 0 (pd 1 c) ∗ stAny (F := F) 1 1 (pd 2 c) ∗ stAny (F := F) 1 2 (pd 0 c) ∗ emp)
    ∗ (stAny (F := F) 2 0 (pd 2 c) ∗ stAny (F := F) 2 1 (pd 0 c) ∗ stAny (F := F) 2 2 (pd 1 c) ∗ emp))
  unfold barPay
  iintro ⟨⟨H1, H2, H3⟩, ⟨H4, H5, H6⟩, H7, H8, H9⟩
  isplitl [H1 H4 H7]
  · isplitl [H1]; · iexact H1
    isplitl [H4]; · iexact H4
    isplitl [H7]; · iexact H7
    iempintro
  isplitl [H5 H8 H2]
  · isplitl [H5]; · iexact H5
    isplitl [H8]; · iexact H8
    isplitl [H2]; · iexact H2
    iempintro
  isplitl [H9]; · iexact H9
  isplitl [H3]; · iexact H3
  isplitl [H6]; · iexact H6
  iempintro

/-- At the end the device's working and landing buffers are its own. -/
theorem gat_out (t : Fin 3) (c : Dev nD) (b : Ref sig .tc) (h : own (F := F) t c (lo t 0 c) (nn t 0) (A m t) ⊢ anyPts (F := F) b c) :
    gat m t 3 c ⊢ iprop(anyPts (F := F) b c ∗ stAny (F := F) t 0 c ∗ stAny (F := F) t 1 c ∗ stAny (F := F) t 2 c) := by
  show iprop(own (F := F) t c (lo t 0 c) (nn t 0) (A m t) ∗ emp ∗ stAny (F := F) t 2 c ∗ stAny (F := F) t 1 c ∗ stAny (F := F) t 0 c ∗ emp) ⊢ _
  iintro ⟨H, -, H2, H1, H0, -⟩
  isplitl [H]; · iapply h; iexact H
  iframe H0 H1 H2

theorem own_any0 (c : Dev nD) (g) : own (F := F) 0 c (lo 0 0 c) (nn 0 0) g ⊢ anyPts (F := F) cc0_scratch4 c := by
  show rowPts cc0_scratch4 c 0 384 g ⊢ _
  rw [rows_whole cc0_scratch4 c (n := 384) (by decide) rfl]
  exact allPts_any _ c _
theorem own_any1 (c : Dev nD) (g) : own (F := F) 1 c (lo 1 0 c) (nn 1 0) g ⊢ anyPts (F := F) cc0_scratch5 c := by
  show rowPts cc0_scratch5 c 0 384 g ⊢ _
  rw [rows_whole cc0_scratch5 c (n := 384) (by decide) rfl]
  exact allPts_any _ c _
theorem own_any2 (c : Dev nD) (g) : own (F := F) 2 c (lo 2 0 c) (nn 2 0) g ⊢ anyPts (F := F) cc0_scratch6 c := by
  show rowPts cc0_scratch6 c 0 256 g ⊢ _
  rw [rows_whole cc0_scratch6 c (n := 256) (by decide) rfl]
  exact allPts_any _ c _

/-! ## The body -/

/-- One program after another. -/
theorem seq_intro {β : Type} (c : Dev nD) {p : Prog (TpuEff nD τ sig (Elt F) Λ₀ .tc) β} {k : β → Prog (TpuEff nD τ sig (Elt F) Λ₀ .tc) α} :
    run c p (fun a => run c (k a) Q) ⊢ run c (p >>= k) Q := by
  show run c p (fun a => run c (k a) Q) ⊢ wp frame (wpE (defs₀ (F := F)) 𝒱₀ (c : Thread nD τ) none) Set.univ (p >>= k) Q
  rw [wp_bind]

/-- What the body takes on device `c`, -/
def bodyIn (c : Dev nD) : sProp (MT nD τ sig Unit (Elt F) ℕ UU ℕ) :=
  iprop(pays (F := F) c 0 ∗ waits (F := F) c 0 ∗ (wqSrc m c ∗ woSrc m c) ∗ (xin m c ∗ allPts cc0_stg1_0 c (kg m c) ∗ allPts cc0_stg2_0 c (vg m c) ∗ outP m c 0)
    ∗ (anyPts (F := F) cc0_scratch0 c ∗ anyPts (F := F) cc0_scratch1 c ∗ anyPts (F := F) cc0_scratch2 c ∗ anyPts (F := F) cc0_scratch3 c)
    ∗ (anyPts (F := F) cc0_scratch4 c ∗ anyPts (F := F) cc0_scratch5 c ∗ anyPts (F := F) cc0_scratch6 c) ∗ landB (F := F) c)
/-- and leaves. -/
def bodyOut (c : Dev nD) : sProp (MT nD τ sig Unit (Elt F) ℕ UU ℕ) :=
  iprop(pays (F := F) c 57 ∗ waits (F := F) c 55 ∗ (wqSrc m c ∗ woSrc m c) ∗ (xin m c ∗ allPts cc0_stg1_0 c (kg m c) ∗ allPts cc0_stg2_0 c (vg m c) ∗ outP m c 1024)
    ∗ (anyPts (F := F) cc0_scratch0 c ∗ anyPts (F := F) cc0_scratch1 c ∗ anyPts (F := F) cc0_scratch2 c ∗ anyPts (F := F) cc0_scratch3 c)
    ∗ (anyPts (F := F) cc0_scratch4 c ∗ anyPts (F := F) cc0_scratch5 c ∗ anyPts (F := F) cc0_scratch6 c) ∗ landB (F := F) c)

theorem body_parts (c : Dev nD) {Q : FVec F S256x1024 .f32 → sProp (MT nD τ sig Unit (Elt F) ℕ UU ℕ)} :
    env m K ⊢ iprop(pays (F := F) c 0 -∗ waits (F := F) c 0 -∗ wqSrc m c -∗ woSrc m c -∗ xin m c -∗ outP m c 0 -∗ anyPts (F := F) cc0_scratch0 c -∗ anyPts (F := F) cc0_scratch1 c
      -∗ fromH (fun h => hdRes m c h.val) 0
      -∗ anyPts (F := F) cc0_scratch4 c -∗ anyPts (F := F) cc0_scratch5 c -∗ anyPts (F := F) cc0_scratch6 c
      -∗ barPay (F := F) (pd 0 c) 0 -∗ barPay (F := F) (pd 1 c) 1 -∗ barPay (F := F) (pd 2 c) 2
      -∗ (∀ w, pays (F := F) c 57 -∗ waits (F := F) c 55 -∗ wqSrc m c -∗ woSrc m c -∗ xin m c -∗ outP m c 768
          -∗ allPts cc0_scratch0 c (wqV m c) -∗ allPts cc0_scratch1 c (woV m c) -∗ kvs m c -∗ allPts cc0_stg1_0 c (kg m c) -∗ allPts cc0_stg2_0 c (vg m c)
          -∗ gat m 0 3 c -∗ gat m 1 3 c -∗ gat m 2 3 c
          -∗ ⌜w = k0_pay69 (rc fun i j => A m 2 (lo 2 (3 - 3) c + i) j)⌝ -∗ Q w)
      -∗ run c (at_ (k0_part42 (F := F))) Q) := by
  rw [k0_part42_eq_skeleton]
  unfold at_ k0_part42_skel
  iintro #HE Hp Hw Hq Ho Hx Hu Ha Hb Hr Ha0 Ha1 Ha2 Hb0 Hb1 Hb2 Hret
  iapply (seq_intro c)
  iapply (sec1 m K c) $$ HE Hp Hq Ho Ha Hb Hr
  iintro %w0 Hp Hq Ho Hr Hf
  try dsimp only
  iapply (seq_intro c)
  iapply (sec2 m K c) $$ HE Hp Hr Hf
  iintro Hp Hr Hf
  try dsimp only
  iapply (seq_intro c)
  iapply (sec3 m K c) $$ HE Hp Hr Hf
  iintro Hp Hr Hf
  try dsimp only
  iapply (seq_intro c)
  iapply (sec4 m K c) $$ HE Hp Hr Hf
  iintro Hp Hr Hf
  try dsimp only
  iapply (seq_intro c)
  iapply (sec5 m K c _) $$ HE Hp Hr Hf Hb0 Hb1
  iintro %u0 %u1 %u2 %u3 %u4 %u5 Hp - Hf
  try dsimp only
  ihave Hf := (Entails.of_eq (show uptoH (hdFl (F := F) c) 8 = fromH (hdFl (F := F) c) 0 from rfl)) $$ Hf
  iapply (seq_intro c)
  iapply (sec6 m K c _) $$ HE Hp Hw Hb2 Hq Ho Hf
  iintro Hp Hw Hb0 Hb1 Hb2 Hq Hqs Ho Hos Hf Hg
  try dsimp only
  iapply (seq_intro c)
  iapply (sec7 m K c) $$ HE Hp Hw Hf Hg
  iintro Hp Hw Hf Hg
  try dsimp only
  iapply (seq_intro c)
  iapply (sec8 m K c) $$ HE Hp Hw Hf Hg
  iintro Hp Hw Hf Hg
  try dsimp only
  iapply (seq_intro c)
  iapply (sec9 m K c) $$ HE Hp Hw Hf Hg
  iintro Hp Hw Hf Hg
  try dsimp only
  iapply (seq_intro c)
  iapply (sec10 m K c) $$ HE Hp Hw Hf Hg Hq Ho Hx
  iintro Hp Hw - Hg Hq Ho Hx
  try dsimp only
  ihave Hg := (heads_out m c) $$ Hg
  icases Hg with ⟨Hkv, Hk, Hv⟩
  ihave Hth := (bar_got c) $$ [Hb0 Hb1 Hb2]
  · iframe Hb0 Hb1 Hb2
  icases Hth with ⟨Ht0, Ht1, Ht2⟩
  iapply (seq_intro c)
  iapply (part11 m c _ _ _ _ _ _ _) $$ Hkv
  iintro Hkv
  try dsimp only
  iapply (seq_intro c)
  iapply (part12 m c _ _ _) $$ Hkv
  iintro Hkv
  try dsimp only
  iapply (seq_intro c)
  iapply (part13 m c _ _ _ _) $$ Hkv
  iintro Hkv
  try dsimp only
  iapply (seq_intro c)
  iapply (part14 m c _ _ _) $$ Hkv
  iintro Hkv
  try dsimp only
  iapply (seq_intro c)
  iapply (part15 m c _ _ _ _ _ _ _ _ _ _ _ _ _ (by rfl)) $$ Hkv Ha0 Ht0
  iintro %w16 Hkv H0
  try dsimp only
  iapply (seq_intro c)
  iapply (part16 m K c _) $$ HE Hp Hx H0
  iintro Hp Hx H0
  try dsimp only
  iapply (seq_intro c)
  iapply (part17 m c _ _ _ _ _ _ _) $$ Hkv
  iintro Hkv
  try dsimp only
  iapply (seq_intro c)
  iapply (part18 m c _ _ _) $$ Hkv
  iintro Hkv
  try dsimp only
  iapply (seq_intro c)
  iapply (part19 m c _ _ _) $$ Hkv
  iintro Hkv
  try dsimp only
  iapply (seq_intro c)
  iapply (part20 m c _ _ _) $$ Hkv
  iintro Hkv
  try dsimp only
  iapply (seq_intro c)
  iapply (part21 m K c _ _ _ _ _ _ _ _ _ _ _ _ (by rfl)) $$ HE Hp Hw Hkv Ha1 Ht1 H0
  iintro %w22 Hp Hw Hkv H1 H0
  try dsimp only
  iapply (seq_intro c)
  iapply (part22 m K c _ _ _ _) $$ HE Hp Hw Hx H0
  iintro %w23 Hp Hw Hx H0
  try dsimp only
  iapply (seq_intro c)
  iapply (part23 m c _ _ _ _ _) $$ Hkv
  iintro Hkv
  try dsimp only
  iapply (seq_intro c)
  iapply (part24 m c _ _ _) $$ Hkv
  iintro Hkv
  try dsimp only
  iapply (seq_intro c)
  iapply (part25 m c _ _ _ _ _) $$ Hkv
  iintro Hkv
  try dsimp only
  iapply (seq_intro c)
  iapply (part26 m c _ _ _ _) $$ Hkv
  iintro Hkv
  try dsimp only
  iapply (seq_intro c)
  iapply (part27 m c _ _ _ _ _ _ _ _ _ _ _ _ (by rfl)) $$ Hkv Ha2 Ht2
  iintro %w28 Hkv H2
  try dsimp only
  iapply (seq_intro c)
  iapply (part28 m K c _ _ _ _) $$ HE Hp Hw H2 H1
  iintro %w29 Hp Hw H2 H1
  try dsimp only
  iapply (seq_intro c)
  iapply (part29 m K c _ _ _ _) $$ HE Hp Hw H1 H0
  iintro %w30 Hp Hw H1 H0
  try dsimp only
  iapply (seq_intro c)
  iapply (part30 m K c _ _ _) $$ HE Hp Hw H0 H2
  iintro %w31 Hp Hw H0 H2
  try dsimp only
  iapply (seq_intro c)
  iapply (part31 m K c _ _ _ _) $$ HE Hp Hw H2 H1
  iintro %w32 Hp Hw H2 H1
  try dsimp only
  iapply (seq_intro c)
  iapply (part32 m K c _ _ _) $$ HE Hp Hw H1 H0
  iintro Hp Hw H1 H0
  try dsimp only
  iapply (seq_intro c)
  iapply (part33 m K c _ _ _ _ _ _) $$ HE Hp Hw H0 H2
  iintro %w34 Hp Hw H0 H2
  try dsimp only
  iapply (seq_intro c)
  iapply (part34 m K c _ _) $$ HE Hp Hw H2 H1
  iintro %w35 Hp Hw H2 H1
  try dsimp only
  iapply (seq_intro c)
  iapply (part35 m K c _ _ _ _ _ _ _) $$ HE Hp Hw H0 H2
  iintro %w36 Hp Hw H0 H2
  try dsimp only
  iapply (seq_intro c)
  iapply (part36 m K c _ _ _) $$ HE Hp Hw H2 H1
  iintro %w37 Hp Hw H2 H1
  try dsimp only
  iapply (seq_intro c)
  iapply (part37 m K c _ _ _ _ _) $$ HE Hp Hw H1 H0
  iintro Hp Hw H1 H0
  try dsimp only
  iapply (seq_intro c)
  iapply (part38 m K c _ _) $$ HE Hp Hw H0 H2
  iintro Hp Hw H0 H2
  try dsimp only
  iapply (seq_intro c)
  iapply (part39 m K c _ _ _ _) $$ HE Hp Hw H1 H0
  iintro Hp Hw H1 H0
  try dsimp only
  iapply (seq_intro c)
  iapply (part40 m K c _ _) $$ HE Hp Hw H0 H2 Hu
  iintro Hp Hw H0 H2 Hu
  try dsimp only
  iapply (seq_intro c)
  iapply (part41 m K c _) $$ HE Hp Hw H1 H2 Hu
  iintro Hp Hw H1 H2 Hu
  try dsimp only
  simp only [Prog.bind_lift, Prog.pure_eq_ret]
  iapply (ph_grecv m K 2 2 c 3 rfl rfl (by decide +kernel) rfl (crs2 (by decide +kernel))) $$ HE Hp Hw H2
  iintro ⟨Hp, Hw, H2⟩
  iapply (gat_load m c (slc2 rfl _)) $$ H2
  iintro H2
  iapply (ret_intro c)
  iapply Hret $$ Hp Hw Hqs Hos Hx Hu Hq Ho Hkv Hk Hv H0 H1 H2
  ipureintro
  rfl

/-- The whole body on device `c`. -/
theorem body_run (c : Dev nD) {Q : PUnit → sProp (MT nD τ sig Unit (Elt F) ℕ UU ℕ)} :
    env m K ⊢ iprop(bodyIn m c -∗ (bodyOut m c -∗ Q ⟨⟩) -∗ run c (at_ (cc0_body (F := F))) Q) := by
  rw [cc0_body_eq_skeleton]
  unfold at_ cc0_body_skel bodyIn
  iintro #HE ⟨Hp, Hw, ⟨Hq, Ho⟩, ⟨Hx, Hk, Hv, Hu⟩, ⟨Ha, Hb, Hc, Hd⟩, ⟨Ha0, Ha1, Ha2⟩, Hl⟩ Hret
  ihave Hr := (heads_in m c) $$ [Hk Hv Hc Hd]
  · iframe Hk Hv Hc Hd
  ihave Hl := (bar_lend c) $$ Hl
  icases Hl with ⟨Hb0, Hb1, Hb2⟩
  iapply (seq_intro c)
  iapply (body_parts m K c) $$ HE Hp Hw Hq Ho Hx Hu Ha Hb Hr Ha0 Ha1 Ha2 Hb0 Hb1 Hb2
  iintro %w Hp Hw Hq Ho Hx Hu Ha Hb Hkv Hk Hv H0 H1 H2 %hw
  try dsimp only
  simp only [Prog.bind_lift, Prog.pure_eq_ret]
  iapply (out_step m c 1024 rfl (fun i j => A m 2 (lo 2 (3 - 3) c + i) j) (out_row2 m c) _ (by rw [hw]; rfl)) $$ Hu
  iintro Hu
  iapply (ret_intro c)
  iapply Hret
  ihave H0 := (gat_out m 0 c cc0_scratch4 (own_any0 c _)) $$ H0
  ihave H1 := (gat_out m 1 c cc0_scratch5 (own_any1 c _)) $$ H1
  ihave H2 := (gat_out m 2 c cc0_scratch6 (own_any2 c _)) $$ H2
  icases H0 with ⟨Ha0, H0⟩
  icases H1 with ⟨Ha1, H1⟩
  icases H2 with ⟨Ha2, H2⟩
  unfold kvs
  icases Hkv with ⟨Hc, Hd⟩
  ihave Ha := (allPts_any _ c _) $$ Ha
  ihave Hb := (allPts_any _ c _) $$ Hb
  ihave Hc := (allPts_any _ c _) $$ Hc
  ihave Hd := (allPts_any _ c _) $$ Hd
  unfold bodyOut landB
  iframe Hp Hw Hq Ho Hx Hk Hv Hu Ha Hb Hc Hd Ha0 Ha1 Ha2 H0 H1 H2

end Cert.Exchange
end
-- ==== Proof.Launch.lean ====
/-
The launch on the mesh: what every device starts from, and that the whole run ends with the output in place,
the arguments as they were and every counter at zero.
-/
module

public import proofs.«01_k».proof.Proof.Body
public import proofs.«01_k».proof.Proof.Gen.KernelIdeal.Launch
public import Idealize.ShloMosaic.Lib.Pipeline.CollectiveSegs

@[expose] public section
set_option maxRecDepth 65536
noncomputable section
namespace Cert.Exchange
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ

variable (m : (ℓ : Loc nD τ sig) → Buf (Elt F) ℓ) (ρ : Dev nD → PrngReg)

/-! ## What the devices are dealt -/

/-- The weights' arrays on device `c`. -/
def argPts (c : Dev nD) : sProp (MT nD τ sig Unit (Elt F) ℕ UU ℕ) :=
  iprop((((c : Thread nD τ).loc main_arg1) ↦{fullShare} m ((c : Thread nD τ).loc main_arg1)) ∗ (((c : Thread nD τ).loc main_arg4) ↦{fullShare} m ((c : Thread nD τ).loc main_arg4)))

/-- The cells' invariants and that each is at its round. -/
def records (K : Dev nD × Cl → ℕ) : sProp (MT nD τ sig Unit (Elt F) ℕ UU ℕ) :=
  iprop((bigSep Finset.univ fun ck => cellInv ER (Rd m) (K ck) (kcell ck))
    ∗ bigSep Finset.univ fun ck : Dev nD × Cl => reached ER (kcell ck) 0)

instance records_persistent (K : Dev nD × Cl → ℕ) : BI.Persistent (records m K) := by unfold records; infer_instance

/-- Device `c`'s positions at its cells, and the tokens of the duties it pays. -/
def linear (c : Dev nD) : sProp (MT nD τ sig Unit (Elt F) ℕ UU ℕ) :=
  iprop((bigSep Finset.univ fun x : Cl => atPos ER (kcell (c, x)) 0 ∅ 0) ∗ bigSep Finset.univ fun k : Tok => tokAt (F := F) k (tdev k c))

/-- What the global step hands device `c`. -/
def G' (c : Dev nD) : sProp (MT nD τ sig Unit (Elt F) ℕ UU ℕ) := iprop(∃ K, records m K ∗ linear (F := F) c)

/-- The units the other devices owe device `c`'s cells. -/
def lcreds (c : Dev nD) : sProp (MT nD τ sig Unit (Elt F) ℕ UU ℕ) := bigSep Finset.univ fun x : Cl => lcred (F := F) c x

/-- What device `c`'s body starts from, besides its buffers. -/
def start (c : Dev nD) : sProp (MT nD τ sig Unit (Elt F) ℕ UU ℕ) :=
  iprop(G' m c ∗ lcreds (F := F) c ∗ levAts L lv ∗ argPts m c)

/-- Before the body, -/
def Φ₀ (c : Dev nD) : sProp (MT nD τ sig Unit (Elt F) ℕ UU ℕ) :=
  iprop(start m c ∗ (Pipeline.scopedRest (Ix := Unit) (Name := ℕ) (U := UU) (Lvl := ℕ) (Val := Elt F) spec0 c))
/-- after it: the counters at zero. -/
def Φ₁ (c : Dev nD) : sProp (MT nD τ sig Unit (Elt F) ℕ UU ℕ) :=
  iprop((unscopedSems0 c ∗ argPts m c) ∗ Pipeline.ownSems0 (Ix := Unit) (Name := ℕ) (U := UU) (Lvl := ℕ) (Val := Elt F) (τ := τ) osem c
    ∗ (Pipeline.scopedRest (Ix := Unit) (Name := ℕ) (U := UU) (Lvl := ℕ) (Val := Elt F) spec0 c))

/-- The launch's proof data: the windows' blocks, what holds before and after the body, what is owed. -/
def dats (_ : Fin 1) (c : Dev nD) : Dat τ (Elt F) Unit ℕ UU ℕ cfg0 c where
  A w := m ((cfg0.win w).arr.view.loc (c : Thread nD τ))
  after w _ := match w with
    | ⟨0, _⟩ => xT m c
    | ⟨1, _⟩ => kg m c
    | ⟨2, _⟩ => vg m c
    | ⟨3, _⟩ => outAt m
  Φ t := match t with
    | ⟨0, _⟩ => Φ₀ m c
    | ⟨_ + 1, _⟩ => Φ₁ m c
  q _ := fullShare
  owed t := match t with
    | ⟨0, _⟩ => owed c payL
    | ⟨_ + 1, _⟩ => owed c []

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem owns_whole_eq (c : Dev nD) (b : Ref sig .tc) (X : b.ty.Contents (Elt F)) :
    (owns (Ix := Unit) (Name := ℕ) (U := UU) (Lvl := ℕ) (c : Thread nD τ) (Memref.whole b) fullShare X : sProp (MT nD τ sig Unit (Elt F) ℕ UU ℕ))
      = iprop(∃ f : Buf (Elt F) ((c : Thread nD τ).loc b), ⌜f = X⌝ ∗ allPts b c f) := by
  unfold owns; simp only [Memref.view_whole, View.read_whole, View.set_whole]

/-! ## The body -/

/-- A window's staging buffer, holding `X`. -/
abbrev win (c : Dev nD) (b : Ref sig .tc) (X : b.ty.Contents (Elt F)) : sProp (MT nD τ sig Unit (Elt F) ℕ UU ℕ) :=
  iprop(∃ f : Buf (Elt F) ((c : Thread nD τ).loc b), ⌜f = X⌝ ∗ allPts b c f)

def bodyPre (c : Dev nD) : sProp (MT nD τ sig Unit (Elt F) ℕ UU ℕ) :=
  iprop(Φ₀ m c ∗ (dats m 0 c).owesAt () t₀.castSucc
    ∗ (∃ d, win c cc0_stg0_0 ((dats m 0 c).before (0 : Fin 4) t₀ d)) ∗ (∃ d, win c cc0_stg1_0 ((dats m 0 c).before (1 : Fin 4) t₀ d))
    ∗ (∃ d, win c cc0_stg2_0 ((dats m 0 c).before (2 : Fin 4) t₀ d)) ∗ (∃ d, win c cc0_stg3_0 ((dats m 0 c).before (3 : Fin 4) t₀ d)))
def bodyPost (c : Dev nD) : sProp (MT nD τ sig Unit (Elt F) ℕ UU ℕ) :=
  iprop(Φ₁ m c ∗ (dats m 0 c).owesAt () t₀.succ
    ∗ win c cc0_stg0_0 (xT m c) ∗ win c cc0_stg1_0 (kg m c) ∗ win c cc0_stg2_0 (vg m c) ∗ win c cc0_stg3_0 (outAt m))

theorem fetch_0 : (cfg0.win (0 : Fin 4)).fetch t₀ = true := rfl
theorem fetch_1 : (cfg0.win (1 : Fin 4)).fetch t₀ = true := rfl
theorem fetch_2 : (cfg0.win (2 : Fin 4)).fetch t₀ = true := rfl

/-- The part of an array outside the device's slice. -/
def argRest (c : Dev nD) : sProp (MT nD τ sig Unit (Elt F) ℕ UU ℕ) :=
  iprop((((c : Thread nD τ).loc main_arg1) ↦[Finset.univ \ (wqM c).view.set]{fullShare} m ((c : Thread nD τ).loc main_arg1))
    ∗ (((c : Thread nD τ).loc main_arg4) ↦[Finset.univ \ (woM c).view.set]{fullShare} m ((c : Thread nD τ).loc main_arg4)))

/-- The weights' arrays are the device's slices and the rest. -/
theorem args_eq (c : Dev nD) : argPts m c = iprop((wqSrc m c ∗ woSrc m c) ∗ argRest m c) := by
  have h1 := pointsTo_union (ℓ := (c : Thread nD τ).loc main_arg1) (q := fullShare) (f := m ((c : Thread nD τ).loc main_arg1)) (Val := Elt F) (Ix := Unit) (Name := ℕ) (U := UU) (Lvl := ℕ)
    (Finset.disjoint_sdiff : Disjoint (wqM c).view.set (Finset.univ \ (wqM c).view.set))
  have h2 := pointsTo_union (ℓ := (c : Thread nD τ).loc main_arg4) (q := fullShare) (f := m ((c : Thread nD τ).loc main_arg4)) (Val := Elt F) (Ix := Unit) (Name := ℕ) (U := UU) (Lvl := ℕ)
    (Finset.disjoint_sdiff : Disjoint (woM c).view.set (Finset.univ \ (woM c).view.set))
  rw [Finset.union_sdiff_of_subset (Finset.subset_univ _)] at h1 h2
  have h1 := Entails.antisymm h1.mp h1.mpr
  have h2 := Entails.antisymm h2.mp h2.mpr
  unfold argPts argRest wqSrc woSrc
  rw [h1, h2]
  refine Entails.antisymm ?_ ?_
  · show BIBase.Entails (_ : sProp (MT nD τ sig Unit (Elt F) ℕ UU ℕ)) _
    iintro ⟨⟨H1, H2⟩, H3, H4⟩
    isplitl [H1 H3]
    · isplitl [H1] <;> iassumption
    · isplitl [H2] <;> iassumption
  · show BIBase.Entails (_ : sProp (MT nD τ sig Unit (Elt F) ℕ UU ℕ)) _
    iintro ⟨⟨H1, H3⟩, H2, H4⟩
    isplitl [H1 H2]
    · isplitl [H1] <;> iassumption
    · isplitl [H3] <;> iassumption

/-- All the cells' counters: the barrier's and the copies'. -/
theorem bigSep_cl (Φ : Cl → sProp (MT nD τ sig Unit (Elt F) ℕ UU ℕ)) : bigSep Finset.univ Φ = iprop(Φ none ∗ bigSep Finset.univ fun x : DCell => Φ (some x)) := by
  rw [bigSep_univ_at Φ none, show (Finset.univ : Finset Cl).erase none = Finset.univ.map Function.Embedding.some from by
    ext x; cases x <;> simp, bigSep_map]
  rfl

theorem unscopedSems0_eq (c : Dev nD) : (unscopedSems0 c : sProp (MT nD τ sig Unit (Elt F) ℕ UU ℕ)) = semVal (kcell (c, none)) 0 := by
  unfold unscopedSems0; rw [bigSep_eq_bigSepL_of_eq [SemLoc.reg barS] (by decide) (by decide)]; rfl

theorem sems0_eq (c : Dev nD) :
    (bigSep Finset.univ fun x : Cl => (semVal (kcell (c, x)) 0 : sProp (MT nD τ sig Unit (Elt F) ℕ UU ℕ)))
      = iprop(unscopedSems0 c ∗ Pipeline.ownSems0 (Ix := Unit) (Name := ℕ) (U := UU) (Lvl := ℕ) (Val := Elt F) (τ := τ) osem c) := by
  rw [bigSep_cl, unscopedSems0_eq]; rfl

/-- What is owed and the tokens, at the beginning. -/
theorem pays_start (c : Dev nD) (W : Waits sig Unit) :
    iprop(owes (c : Thread nD τ) (owed c payL) W ∗ bigSep Finset.univ fun k : Tok => tokAt (F := F) k (tdev k c)) ⊢ pays (F := F) c 0 := by
  unfold pays
  rw [List.drop_zero, bigSep_univ_eq_bigSepL payL payL_all payL_nodup]
  iintro ⟨HO, HT⟩
  isplitl [HO]
  · iexists W; iexact HO
  · iexact HT

/-- The rights to wait, at the beginning. -/
theorem waits_start (c : Dev nD) :
    iprop((bigSep Finset.univ fun x : Cl => (atPos ER (kcell (c, x)) 0 ∅ 0 : sProp (MT nD τ sig Unit (Elt F) ℕ UU ℕ))) ∗ lcreds (F := F) c) ⊢ waits (F := F) c 0 := by
  unfold waits lcreds
  rw [← bigSep_sep', List.drop_zero, List.take_zero, bigSep_univ_eq_bigSepL waitL waitL_all waitL_nodup]
  iintro H
  isplitl
  · unfold wt; iexact H
  · iempintro

/-- Every counter is back at zero, at the end. -/
theorem waits_end (c : Dev nD) :
    waits (F := F) c 55 ⊢ iprop(unscopedSems0 c ∗ Pipeline.ownSems0 (Ix := Unit) (Name := ℕ) (U := UU) (Lvl := ℕ) (Val := Elt F) (τ := τ) osem c) := by
  rw [← sems0_eq, bigSep_univ_eq_bigSepL waitL waitL_all waitL_nodup]
  unfold waits
  rw [show waitL.take 55 = waitL from rfl]
  iintro ⟨-, H⟩
  iexact H

/-- The body on device `c` does what the launch asks of it. -/
theorem body_obligation (c : Dev nD) : BodyObligation (dats (F := F) m 0 c) (defs₀ (F := F)) 𝒱₀ () Set.univ := fun t => by
  rw [fin_N t]
  rw [show ∀ Φ : Fin cfg0.W → sProp (MT nD τ sig Unit (Elt F) ℕ UU ℕ), bigSep Finset.univ Φ = iprop(Φ (0 : Fin 4) ∗ Φ (1 : Fin 4) ∗ Φ (2 : Fin 4) ∗ Φ (3 : Fin 4)) from fun Φ => bigSep_W0 Φ,
    show ∀ Φ : Fin cfg0.W → sProp (MT nD τ sig Unit (Elt F) ℕ UU ℕ), bigSep Finset.univ Φ = iprop(Φ (0 : Fin 4) ∗ Φ (1 : Fin 4) ∗ Φ (2 : Fin 4) ∗ Φ (3 : Fin 4)) from fun Φ => bigSep_W0 Φ]
  simp only [owns_whole_eq]
  show bodyPre m c ⊢ run c (at_ (cc0_body (F := F))) (fun _ => bodyPost m c)
  unfold bodyPre Φ₀ start G' linear
  rw [args_eq, scopedRest0_eq]
  iintro ⟨⟨⟨⟨%K, #HR, Hat, Htok⟩, Hcr, #Hlev, ⟨Hsrc, Hrest⟩⟩, ⟨Hb0, Hb1, Hb2, Hb3, Hb4, Hb5, Hb6, Hb7, Hb8, Hb9, Hb10, Hb11, Hb12, Hb13, Hb14, Hb15⟩⟩, Ho,
    ⟨%d0, %g0, %hg0, Hx⟩, ⟨%d1, %g1, %hg1, Hk⟩, ⟨%d2, %g2, %hg2, Hv⟩, ⟨%d3, %g3, %hg3, Hout⟩⟩
  have h0 : g0 = xT m c := by rw [hg0]; unfold Dat.before; rw [if_pos fetch_0]; rfl
  have h1 : g1 = kg m c := by rw [hg1]; unfold Dat.before; rw [if_pos fetch_1]; rfl
  have h2 : g2 = vg m c := by rw [hg2]; unfold Dat.before; rw [if_pos fetch_2]; rfl
  subst h0 h1 h2
  unfold Dat.owesAt Pipeline.owesWithin
  icases Ho with ⟨%W, %hW, HO⟩
  rw [show (dats m 0 c).owed t₀.castSucc = owed c payL from rfl]
  ihave Hp := (pays_start c W) $$ [HO Htok]
  · isplitl [HO] <;> iassumption
  ihave Hw := (waits_start c) $$ [Hat Hcr]
  · isplitl [Hat] <;> iassumption
  iapply (body_run m K c) $$ [] [Hp Hw Hsrc Hx Hk Hv Hout Hb0 Hb1 Hb2 Hb3 Hb4 Hb5 Hb6 Hb7 Hb8 Hb9 Hb10 Hb11 Hb12 Hb13 Hb14 Hb15] [Hrest]
  · unfold env records
    isplitr; · iexact Hlev
    iexact HR
  · unfold bodyIn landB
    isplitl [Hp]; · iexact Hp
    isplitl [Hw]; · iexact Hw
    isplitl [Hsrc]; · iexact Hsrc
    isplitl [Hx Hk Hv Hout]
    · unfold xin outP
      isplitl [Hx]; · iexact Hx
      isplitl [Hk]; · iexact Hk
      isplitl [Hv]; · iexact Hv
      iexists g3
      isplitr; · ipureintro; exact fun i hi => absurd hi (Nat.not_lt_zero _)
      iexact Hout
    isplitl [Hb0 Hb1 Hb2 Hb3]
    · isplitl [Hb0]; · iexact Hb0
      isplitl [Hb1]; · iexact Hb1
      isplitl [Hb2] <;> iassumption
    isplitl [Hb4 Hb5 Hb6]
    · isplitl [Hb4]; · iexact Hb4
      isplitl [Hb5] <;> iassumption
    unfold stAny stB
    isplitl [Hb7 Hb8 Hb9]
    · isplitl [Hb7]; · iexact Hb7
      isplitl [Hb8] <;> iassumption
    isplitl [Hb10 Hb11 Hb12]
    · isplitl [Hb10]; · iexact Hb10
      isplitl [Hb11] <;> iassumption
    isplitl [Hb13]; · iexact Hb13
    isplitl [Hb14] <;> iassumption
  · unfold bodyOut landB stAny stB xin outP pays
    iintro ⟨⟨⟨%W', HO⟩, -⟩, Hw, Hsrc, ⟨Hx, Hk, Hv, ⟨%f, %hf, Hout⟩⟩, ⟨Hb0, Hb1, Hb2, Hb3⟩, ⟨Hb4, Hb5, Hb6⟩, ⟨Hb7, Hb8, Hb9⟩, ⟨Hb10, Hb11, Hb12⟩, ⟨Hb13, Hb14, Hb15⟩⟩
    ihave Hs := (waits_end c) $$ Hw
    icases Hs with ⟨Hu, Hs⟩
    have hf' : f = outAt m := funext fun i => hf i (i 1).isLt
    unfold bodyPost Φ₁
    rw [args_eq, scopedRest0_eq]
    isplitr [HO Hx Hk Hv Hout]
    · isplitl [Hu Hsrc Hrest]
      · isplitl [Hu]; · iexact Hu
        isplitl [Hsrc] <;> iassumption
      isplitl [Hs]; · iexact Hs
      isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      isplitl [Hb9]; · iexact Hb9
      isplitl [Hb10]; · iexact Hb10
      isplitl [Hb11]; · iexact Hb11
      isplitl [Hb12]; · iexact Hb12
      isplitl [Hb13]; · iexact Hb13
      isplitl [Hb14]; · iexact Hb14
      iexact Hb15
    isplitl [HO]
    · unfold Dat.owesAt Pipeline.owesWithin
      iexists W'
      isplitr; · ipureintro; exact fun _ _ => Or.inl trivial
      iexact HO
    isplitl [Hx]
    · iexists _
      isplitr; · ipureintro; rfl
      iexact Hx
    isplitl [Hk]
    · iexists _
      isplitr; · ipureintro; rfl
      iexact Hk
    isplitl [Hv]
    · iexists _
      isplitr; · ipureintro; rfl
      iexact Hv
    iexists f
    isplitr; · ipureintro; exact hf'
    iexact Hout

/-! ## The launch -/

theorem ownSemFacts : Pipeline.OwnSemFacts cfg0.spec osem := by decide +kernel

theorem share_eq (c : Dev nD) (w : Fin cfg0.W) : (dats m 0 c).share w = fullShare := by unfold Dat.share; split <;> rfl

def exCells : Finset (GSem nD τ sig) := Finset.univ.map ⟨kcell, kcell_injective⟩

/-- A cell's duty, as minted. -/
abbrev tokOf (ck : Dev nD × Tok) : GSem nD τ sig × ℕ × Fin 3 := (kcell (ck.1, tcl ck.2), 0, tdu ck.2)
theorem tok_injective (k k' : Tok) (h : tcl k = tcl k') (h' : tdu k = tdu k') : k = k' := by
  rcases k with d | x <;> rcases k' with d' | x'
  · exact congrArg _ h'
  · cases h
  · cases h
  · exact congrArg _ (Option.some.inj h)
theorem tokOf_injective : Function.Injective tokOf := by
  rintro ⟨c, k⟩ ⟨c', k'⟩ h
  have h1 := kcell_injective (congrArg Prod.fst h)
  have h2 : tdu k = tdu k' := congrArg (fun x : GSem nD τ sig × ℕ × Fin 3 => x.2.2) h
  have h3 : c = c' := congrArg Prod.fst h1
  rw [h3, tok_injective k k' (congrArg Prod.snd h1) h2]
def exToks : Finset (GSem nD τ sig × ℕ × Fin 3) := Finset.univ.map ⟨tokOf, tokOf_injective⟩

def u₀ : UU := (initOf (Pipeline.cells cfgs cellOf_inj) (Pipeline.launchToks cfgs cellOf_inj), initOf exCells exToks)

/-- The duty tokens of device `c`'s own cells. -/
def toks (c : Dev nD) : sProp (MT nD τ sig Unit (Elt F) ℕ UU ℕ) := bigSep Finset.univ fun k : Tok => tokAt (F := F) k c

/-- What the launch deals device `c`. -/
def G (c : Dev nD) : sProp (MT nD τ sig Unit (Elt F) ℕ UU ℕ) :=
  iprop((bigSep Finset.univ fun k : Cl => roundState ER (Rd m) (kcell (c, k)) 0)
    ∗ (bigSep Finset.univ fun k : Cl => iprop(atPos ER (kcell (c, k)) 0 ∅ 0 ∗ reached ER (kcell (c, k)) 0)) ∗ toks (F := F) c)

theorem fund_ex : BI.own (ER (initOf exCells exToks)) ⊢ (|==> bigSep Finset.univ (G m) : sProp (MT nD τ sig Unit (Elt F) ℕ UU ℕ)) := by
  have hX (Φ : GSem nD τ sig → sProp (MT nD τ sig Unit (Elt F) ℕ UU ℕ)) :
      bigSep exCells Φ = bigSep Finset.univ fun c : Dev nD => bigSep Finset.univ fun k : Cl => Φ (kcell (c, k)) := by
    unfold exCells; rw [bigSep_map, bigSep_univ_prod]; rfl
  have hT : bigSep exToks (fun x => (dutyTok ER x.1 x.2.1 x.2.2 : sProp (MT nD τ sig Unit (Elt F) ℕ UU ℕ))) = bigSep Finset.univ fun c : Dev nD => toks (F := F) c := by
    unfold exToks toks; rw [bigSep_map, bigSep_univ_prod]; rfl
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's counters become its cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (Rd m) κ (kcell (c, k))))
          ∗ (bigSep Finset.univ fun k : Cl => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Cl => semVal (kcell (c, k)) 0) ∗ bigSep Finset.univ fun k : Cl => roundState ER (Rd m) (kcell (c, k)) 0)
      ⊢ (|={Set.univ}=> bigSep Finset.univ fun k : Cl => iprop(∃ κ : ℕ, cellInv ER (Rd m) κ (kcell (c, k))) : sProp (MT nD τ sig Unit (Elt F) ℕ UU ℕ)) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Two conjunctions, one inside the other, in the other order. -/
theorem bigSep_swap {I J : Type} [Fintype I] [Fintype J] (Φ : I → J → sProp (MT nD τ sig Unit (Elt F) ℕ UU ℕ)) :
    (bigSep Finset.univ fun i => bigSep Finset.univ fun j => Φ i j) = bigSep Finset.univ fun j => bigSep Finset.univ fun i => Φ i j := by
  have h1 := bigSep_univ_prod (fun p : I × J => Φ p.1 p.2)
  have h2 := bigSep_univ_prod (fun p : J × I => Φ p.2 p.1)
  exact h1.symm.trans ((bigSep_univ_equiv (Equiv.prodComm J I) (fun p : I × J => Φ p.1 p.2)).trans h2)

/-- The tokens dealt to the devices that pay the duties. -/
theorem toks_around : (bigSep Finset.univ fun c : Dev nD => toks (F := F) c)
    = bigSep Finset.univ fun c : Dev nD => bigSep Finset.univ fun k : Tok => tokAt (F := F) k (tdev k c) := by
  unfold toks
  rw [bigSep_swap, bigSep_swap (fun (c : Dev nD) (k : Tok) => tokAt (F := F) k (tdev k c))]
  exact bigSep_congr fun k _ => bigSep_univ_equiv (tdevEquiv k) (fun c : Dev nD => tokAt (F := F) k c)

/-- What all share goes to each. -/
theorem bigSep_share {I : Type} [DecidableEq I] {S : Finset I} {R : sProp (MT nD τ sig Unit (Elt F) ℕ UU ℕ)} [BI.Persistent R]
    {Φ Ψ : I → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Cl => iprop(∃ κ : ℕ, cellInv ER (Rd m) κ (kcell (c, k))))
          ∗ (bigSep Finset.univ fun k : Cl => iprop(atPos ER (kcell (c, k)) 0 ∅ 0 ∗ reached ER (kcell (c, k)) 0)) ∗ toks (F := F) c) : sProp (MT nD τ sig Unit (Elt F) ℕ UU ℕ))
      ⊢ bigSep Finset.univ (G' m) := by
  rw [bigSep_sep', bigSep_sep', ← bigSep_univ_prod (fun ck : Dev nD × Cl => iprop(∃ κ : ℕ, cellInv ER (Rd m) κ (kcell ck))),
    bigSep_congr (s := Finset.univ) (fun (c : Dev nD) _ => bigSep_sep' Finset.univ (fun k : Cl => (atPos ER (kcell (c, k)) 0 ∅ 0 : sProp (MT nD τ sig Unit (Elt F) ℕ UU ℕ))) (fun k => reached ER (kcell (c, k)) 0)),
    bigSep_sep', ← bigSep_univ_prod (fun ck : Dev nD × Cl => (reached ER (kcell ck) 0 : sProp (MT nD τ sig Unit (Elt F) ℕ UU ℕ))), toks_around]
  iintro ⟨HI, ⟨Hat, #HR⟩, Htok⟩
  ihave HK := (BI.bigSep_exists_pi Finset.univ (fun (ck : Dev nD × Cl) (κ : ℕ) => (cellInv ER (Rd m) κ (kcell ck) : sProp (MT nD τ sig Unit (Elt F) ℕ UU ℕ)))) $$ HI
  icases HK with ⟨%K, #HI⟩
  iapply (bigSep_share (R := records m K) (Φ := fun c => linear (F := F) c) fun c _ => by
    unfold G'; iintro ⟨#H1, H2⟩; iexists K; isplitr; · iexact H1
    iexact H2)
  isplitr
  · unfold records; isplitl; · iexact HI
    iexact HR
  · unfold linear; rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp (MT nD τ sig Unit (Elt F) ℕ UU ℕ))
    ⊢ |={Set.univ}=> bigSep Finset.univ (G' m) :=
  ((bigSep_mono fun c _ => core_alloc m c).trans (bigSep_fupd _ _)).trans (BI.fupd_mono (regroup m))

/-! ### The launch credit -/

/-- What a duty brings a cell from other devices, -/
def inc1 (x : Cl) (k : Tok) : Nat := if tcl k = x ∧ (tdir k).isSome then tamt k else 0
/-- and all the duties. -/
def inc (x : Cl) : List Tok → Nat
  | [] => 0
  | k :: l => inc x l + inc1 x k

theorem sum_tal (c : Dev nD) (x : Cl) (k : Tok) : ∑ d : Dev nD, tal d k (kcell (c, x)) () = inc1 x k := by
  unfold inc1 tal
  cases hd : tdir k with
  | none => exact (Finset.sum_eq_zero fun d _ => rfl).trans (if_neg fun h => absurd h.2 (by decide)).symm
  | some e =>
    by_cases hx : tcl k = x
    · rw [if_pos ⟨hx, rfl⟩]
      refine (Finset.sum_eq_single (pd e c) (fun d _ hne => ?_) (fun h => absurd (Finset.mem_univ _) h)).trans ?_
      · show tallyAt (kcell (pd e d, tcl k)) () (tamt k) (kcell (c, x)) () = 0
        rw [tallyAt_apply, if_neg]
        rintro ⟨h, -⟩
        have h1 : c = pd e d := congrArg Prod.fst (kcell_injective h)
        exact hne (by rw [h1, pd_pd])
      · show tallyAt (kcell (pd e (pd e c), tcl k)) () (tamt k) (kcell (c, x)) () = tamt k
        rw [tallyAt_apply, if_pos ⟨by rw [pd_pd, hx], rfl⟩]
    · rw [if_neg fun h => hx h.1]
      refine Finset.sum_eq_zero fun d _ => ?_
      show tallyAt (kcell (pd e d, tcl k)) () (tamt k) (kcell (c, x)) () = 0
      rw [tallyAt_apply, if_neg]
      rintro ⟨h, -⟩
      exact hx (congrArg Prod.snd (kcell_injective h)).symm

theorem sum_owed (c : Dev nD) (x : Cl) (l : List Tok) : ∑ d : Dev nD, owed d l (kcell (c, x)) () = inc x l := by
  induction l with
  | nil => exact Finset.sum_eq_zero fun d _ => rfl
  | cons k l ih =>
    show ∑ d : Dev nD, (owed d l (kcell (c, x)) () + tal d k (kcell (c, x)) ()) = inc x l + inc1 x k
    rw [Finset.sum_add_distrib, ih, sum_tal]

theorem launch_cell (c : Dev nD) (x : Cl) :
    tallyOn (kcell (c, x)) (launchCredit (Pipeline.owing fun d => owed d payL) 0 (kcell (c, x))) = (tallyAt (kcell (c, x)) () (inc x payL) : CellTallies nD τ sig Unit) := by
  unfold tallyAt; refine congrArg _ (Finsupp.ext fun u => ?_); cases u
  rw [Pipeline.launchCredit_owing, Finsupp.single_eq_same, sum_owed]

theorem inc_none : inc none payL = 3 := by decide +kernel
theorem inc_rsR (t r : Fin 3) : inc (some (.rsR t r)) payL = amt (.rsR t r) := by revert t r; decide +kernel
theorem inc_agR (t r : Fin 3) : inc (some (.agR t r)) payL = amt (.agR t r) := by revert t r; decide +kernel

theorem lcred_of (c : Dev nD) (x : Cl) : (cred (tallyAt (kcell (c, x)) () (inc x payL)) : sProp (MT nD τ sig Unit (Elt F) ℕ UU ℕ)) ⊢ lcred (F := F) c x := by
  rcases x with _ | x
  · rw [inc_none]; exact .rfl
  · cases x
    case rsR t r => rw [inc_rsR]; exact .rfl
    case agR t r => rw [inc_agR]; exact .rfl
    all_goals (iintro -; unfold lcred; iempintro)

theorem creds (c : Dev nD) : (Pipeline.launchCred (fun d => owed d payL) c : sProp (MT nD τ sig Unit (Elt F) ℕ UU ℕ)) ⊢ lcreds (F := F) c := by
  unfold Pipeline.launchCred lcreds
  refine (bigSep_subset (t := Finset.univ.map ⟨csem, csem_injective⟩) (Finset.subset_univ _)).trans ?_
  rw [bigSep_map]
  refine bigSep_mono fun x _ => ?_
  show (cred (tallyOn (kcell (c, x)) (launchCredit (Pipeline.owing fun d => owed d payL) 0 (kcell (c, x)))) : sProp (MT nD τ sig Unit (Elt F) ℕ UU ℕ)) ⊢ _
  rw [launch_cell]
  exact lcred_of c x

/-! ### The run -/

theorem start_intro (c : Dev nD) :
    iprop(Pipeline.unscopedRestP Pipeline.Prefetch.none cfg0.spec c (fun b => m ((c : Thread nD τ).loc b)) ∗ levAts L lv
        ∗ Pipeline.launchCred (fun d => owed d payL) c ∗ prngReg c (ρ c) ∗ G' m c)
      ⊢ |={Set.univ}=> iprop(start m c ∗ emp) := by
  rw [show (Pipeline.unscopedRestP Pipeline.Prefetch.none cfg0.spec c (fun b => m ((c : Thread nD τ).loc b)) : sProp (MT nD τ sig Unit (Elt F) ℕ UU ℕ))
    = argPts m c from (Pipeline.unscopedRestP_none _ _ _).trans (unscopedRest0_eq c _)]
  iintro ⟨Ha, Hlev, Hcr, -, HG⟩
  ihave Hc := (creds (F := F) c) $$ Hcr
  imodintro
  unfold start
  isplitl
  · isplitl [HG]; · iexact HG
    isplitl [Hc]; · iexact Hc
    isplitl [Hlev] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs] <;> iassumption

theorem waits_stage (c : Dev nD) : (levAts L lv : sProp (MT nD τ sig Unit (Elt F) ℕ UU ℕ)) ⊢ Pipeline.cellsWaits cfgs (dats m) () 0 c :=
  Pipeline.cellsWaits_intro cfgs (dats m) () 0 c fun w s t => by
    rcases t with ⟨_ | _, ht⟩
    · exact mayWait_stage c _ (by fin_cases w <;> fin_cases s <;> decide) payL (by decide +kernel)
    · exact mayWait_stage c _ (by fin_cases w <;> fin_cases s <;> decide) [] (by decide +kernel)

/-- The weights' arrays in the final memory. -/
def QA (c : Dev nD) (s : MemSt nD τ sig (Elt F)) : Prop :=
  s.mem ((c : Thread nD τ).loc main_arg1) = m ((c : Thread nD τ).loc main_arg1) ∧ s.mem ((c : Thread nD τ).loc main_arg4) = m ((c : Thread nD τ).loc main_arg4)

theorem read_end (c : Dev nD) (s' : Phys nD τ sig (Elt F)) :
    iprop((unscopedSems0 c ∗ argPts m c) ∗ emp ∗ SI s')
      ⊢ |={Set.univ}=> iprop(⌜(∀ sm : SemLoc sig, sm.isScoped .tc = false → s'.mem.sem ((c.tc : Thread nD τ), sm) = 0) ∧ QA m c s'.mem⌝ ∗ SI s') := by
  unfold argPts
  iintro ⟨⟨Hu, H1, H4⟩, -, HSI⟩
  icombine HSI H1 gives %h1
  icombine HSI H4 gives %h4
  imod (Pipeline.unscopedSems0_read (X := unscopedSems0 c) (c := c) fupd_intro s') $$ [Hu HSI] with ⟨%h, HSI⟩
  · isplitl [Hu] <;> iassumption
  imodintro
  isplitr
  · ipureintro
    exact ⟨h, Buf.eq_of_forall_mem_univ h1, Buf.eq_of_forall_mem_univ h4⟩
  · iexact HSI

/-- Every weakly fair run of the mesh ends; each window's array is what the proof data say, the weights' arrays are as
    they were, every counter is at zero. -/
theorem run_wins : θ_run defs (onTc (τ := τ) (main (F := F))) ⟨m, fun _ => 0, ρ⟩ (fun r => (∀ c : Dev nD,
    (∀ w : Fin cfg0.W, r.2.mem ((cfg0.win w).arr.view.loc (c : Thread nD τ)) = (dats m 0 c).arrAt w cfg0.N) ∧ QA m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := fun d => owed d payL) (howed₀ := fun _ => rfl) (howedN := fun _ => rfl)
    (L := L) (lv := lv) (hL := L_of_ne) (hwaits := waits_stage m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => iprop(unscopedSems0 c ∗ argPts m c)) (Z := fun _ => iprop(emp))
    (hX := start_intro m ρ) (hin := phi0_intro m) (hout := fun c => by
      rw [show (dats m 0 c).Φ (Fin.last cfg0.N) = Φ₁ m c from rfl]; exact .rfl)
    (QY := fun c s => (∀ sm : SemLoc sig, sm.isScoped .tc = false → s.sem ((c.tc : Thread nD τ), sm) = 0) ∧ QA m c s)
    (hY := read_end m)
    (hQ := fun _ h hs => ⟨fun c => ⟨(h c).1, (h c).2.2.2⟩, sem_eq_zero hs fun c => (h c).2.2.1⟩)

end Cert.Exchange
end
-- ==== Proof.Run.lean ====
/-
The run of the whole program: the output on every device, the arguments as they were, every counter at zero.
-/
module

public import proofs.«01_k».proof.Proof.Launch
public import Idealize.ShloMosaic.Lib.Pipeline.Value

@[expose] public section
set_option maxRecDepth 65536
noncomputable section
namespace Cert.Exchange
open Cert.KernelIdeal Cert.KernelIdeal.Gen
open Idealize.ShloMosaic
open Idealize.ShloMosaic.TcCoe
open Idealize.SL Idealize.SL.Sem
open Idealize.ShloMosaic.Pipeline (Dat Cfg Window)
variable {F : FTy → Type} [FloatOps F]
variable (m : (ℓ : Loc nD τ sig) → Buf (Elt F) ℓ) (ρ : Dev nD → PrngReg)

/-- The output's one block is the whole array: it ends as the body left it. -/
theorem final_out (c : Dev nD) : (dats m 0 c).arrAt (3 : Fin 4) cfg0.N = (outAt m : Buf (Elt F) ((c : Thread nD τ).loc main_v1)) := by
  have hz : (fun a => (win0_3.index (0 : Fin 1)) a * main_v1.ty.shape.size a) = fun _ => 0 := funext fun a => by fin_cases a <;> decide
  have hr := fun f => Memref.read_access_unit_zero (Elt F) main_v1 hz (fun a => by fin_cases a <;> decide) f
  have ho : (win0_3.blk (0 : Fin 1)).view.read (Elt F) ((dats m 0 c).arrAt (3 : Fin 4) cfg0.N) = outAt m := by
    rw [show cfg0.N = ((0 : Fin 1) : Fin cfg0.N).val + 1 from rfl, (dats m 0 c).arrAt_succ (3 : Fin 4) (0 : Fin 1)]
    rw [show (cfg0.win (3 : Fin 4)).flush (0 : Fin 1) = true from by decide, if_pos rfl]
    exact View.read_write_univ _ _
  exact (hr _).symm.trans ho

/-- Every weakly fair run of the program on the mesh ends, with the output on every device, the arguments as they were and
    every counter at zero. -/
theorem run_main : θ_run defs (onTc (τ := τ) (main (F := F))) ⟨m, fun _ => 0, ρ⟩ (fun r => (∀ c : Dev nD,
    r.2.mem ((c.tc : Thread nD τ).loc main_v1) = (outAt m : Buf (Elt F) ((c : Thread nD τ).loc main_v1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun _ h => ⟨fun c =>
    ⟨((h.1 c).1 (3 : Fin 4)).trans (final_out m c),
     ((h.1 c).1 (0 : Fin 4)).trans ((dats (F := F) m 0 c).arrAt_in (0 : Fin 4) rfl _),
     (h.1 c).2.1,
     ((h.1 c).1 (1 : Fin 4)).trans ((dats (F := F) m 0 c).arrAt_in (1 : Fin 4) rfl _),
     ((h.1 c).1 (2 : Fin 4)).trans ((dats (F := F) m 0 c).arrAt_in (2 : Fin 4) rfl _),
     (h.1 c).2.2⟩, h.2⟩) (run_wins m ρ)

end Cert.Exchange
end
-- ==== Proof.Reads.lean ====
/-
# What a device reads

The elements of the arrays a device reads, in terms of its argument arrays: the rows of `x`, the slices of the two weights, and the
keys and values head by head.
-/
module

public import proofs.«01_k».proof.Proof.Values
public import Idealize.ShloMosaic.Lib.ValueIdx

@[expose] public section
noncomputable section
namespace Cert.Exchange
open Cert.KernelIdeal Cert.KernelIdeal.Gen
open Idealize.ShloMosaic
open Idealize.ShloMosaic.TcCoe
open Idealize.ShloMosaic.ValueIdx

section
variable {F : FTy → Type} [FloatOps F]

theorem x0_apply (x : Vec F S1024x1024 .f32) (r : Fin 384) (t : Fin 1024) : x0 x (ix2 r t) = x (ix2 ⟨0 + r.val, by omega⟩ t) := by
  refine congrArg x (funext fun a => Fin.ext ?_)
  match a with
  | 0 => show 0 + 1 * r.val = 0 + r.val; omega
  | 1 => show 0 + 1 * t.val = t.val; omega
theorem x1_apply (x : Vec F S1024x1024 .f32) (r : Fin 384) (t : Fin 1024) : x1 x (ix2 r t) = x (ix2 ⟨384 + r.val, by omega⟩ t) := by
  refine congrArg x (funext fun a => Fin.ext ?_)
  match a with
  | 0 => show 384 + 1 * r.val = 384 + r.val; omega
  | 1 => show 0 + 1 * t.val = t.val; omega
theorem x2_apply (x : Vec F S1024x1024 .f32) (r : Fin 256) (t : Fin 1024) : x2 x (ix2 r t) = x (ix2 ⟨768 + r.val, by omega⟩ t) := by
  refine congrArg x (funext fun a => Fin.ext ?_)
  match a with
  | 0 => show 768 + 1 * r.val = 768 + r.val; omega
  | 1 => show 0 + 1 * t.val = t.val; omega

/-- The first rows of one head of keys (or values), out of the array by row. -/
theorem kh0_apply (h : Nat) (hh : h < 8) (f : Vec F S1024x8x128 .f32) (j : Fin 384) (e : Fin 128) :
    kh0 h hh (swp f) (ix3 0 j e) = f (ix3 (j.castLE (by decide)) ⟨h, hh⟩ e) := by
  refine congrArg f (funext fun a => Fin.ext ?_)
  match a with
  | 0 => show 0 + 1 * j.val = j.val; omega
  | 1 => show h + 1 * 0 = h; omega
  | 2 => show 0 + 1 * e.val = e.val; omega
theorem kh1_apply (h : Nat) (hh : h < 8) (f : Vec F S1024x8x128 .f32) (j : Fin 768) (e : Fin 128) :
    kh1 h hh (swp f) (ix3 0 j e) = f (ix3 (j.castLE (by decide)) ⟨h, hh⟩ e) := by
  refine congrArg f (funext fun a => Fin.ext ?_)
  match a with
  | 0 => show 0 + 1 * j.val = j.val; omega
  | 1 => show h + 1 * 0 = h; omega
  | 2 => show 0 + 1 * e.val = e.val; omega
theorem kh2_apply (h : Nat) (hh : h < 8) (f : Vec F S1024x8x128 .f32) (j : Fin 1024) (e : Fin 128) :
    kh2 h hh (swp f) (ix3 0 j e) = f (ix3 (j.castLE (by decide)) ⟨h, hh⟩ e) := by
  refine congrArg f (funext fun a => Fin.ext ?_)
  match a with
  | 0 => show 0 + 1 * j.val = j.val; omega
  | 1 => show h + 1 * 0 = h; omega
  | 2 => show 0 + 1 * e.val = e.val; omega

variable (m : (ℓ : Loc nD τ sig) → Buf (Elt F) ℓ) (c : Dev nD)

/-- The staged arrays are the arguments. -/
theorem xT_eq : xT m c = m ((c : Thread nD τ).loc main_arg0) := by
  funext i
  refine congrArg (m ((c : Thread nD τ).loc main_arg0)) (funext fun a => Fin.ext ?_)
  match a with
  | 0 => show 0 * 1024 + 1 * (i 0).val = (i 0).val; omega
  | 1 => show 0 * 1024 + 1 * (i 1).val = (i 1).val; omega
theorem kg_eq : kg m c = m ((c : Thread nD τ).loc main_arg2) := by
  funext i
  refine congrArg (m ((c : Thread nD τ).loc main_arg2)) (funext fun a => Fin.ext ?_)
  match a with
  | 0 => show 0 * 1024 + 1 * (i 0).val = (i 0).val; omega
  | 1 => show 0 * 8 + 1 * (i 1).val = (i 1).val; omega
  | 2 => show 0 * 128 + 1 * (i 2).val = (i 2).val; omega
theorem vg_eq : vg m c = m ((c : Thread nD τ).loc main_arg3) := by
  funext i
  refine congrArg (m ((c : Thread nD τ).loc main_arg3)) (funext fun a => Fin.ext ?_)
  match a with
  | 0 => show 0 * 1024 + 1 * (i 0).val = (i 0).val; omega
  | 1 => show 0 * 8 + 1 * (i 1).val = (i 1).val; omega
  | 2 => show 0 * 128 + 1 * (i 2).val = (i 2).val; omega

/-- Where the two weights' slices begin. -/
theorem off1_val : ∀ c : Dev nD, k0_off1 c 0 = 0 ∧ k0_off1 c 1 = 1024 * c.val := by decide +kernel
theorem off2_val : ∀ c : Dev nD, k0_off2 c 0 = 1024 * c.val ∧ k0_off2 c 1 = 0 := by decide +kernel

/-- The elements of the two weights' slices. -/
theorem wqV_apply (t z : Fin 1024) : wqV m c (ix2 t z) = m ((c : Thread nD τ).loc main_arg1)
    (ix2 (n0 := 1024) (n1 := 8192) t ⟨1024 * c.val + z.val, by have : c.val < 8 := c.isLt; omega⟩) := by
  refine congrArg (m ((c : Thread nD τ).loc main_arg1)) (funext fun a => Fin.ext ?_)
  match a with
  | 0 => show k0_off1 c 0 + 1 * t.val = t.val; rw [(off1_val c).1]; omega
  | 1 => show k0_off1 c 1 + 1 * z.val = 1024 * c.val + z.val; rw [(off1_val c).2]; omega
theorem woV_apply (z t : Fin 1024) : woV m c (ix2 z t) = m ((c : Thread nD τ).loc main_arg4)
    (ix2 (n0 := 8192) (n1 := 1024) ⟨1024 * c.val + z.val, by have : c.val < 8 := c.isLt; omega⟩ t) := by
  refine congrArg (m ((c : Thread nD τ).loc main_arg4)) (funext fun a => Fin.ext ?_)
  match a with
  | 0 => show k0_off2 c 0 + 1 * z.val = 1024 * c.val + z.val; rw [(off2_val c).1]; omega
  | 1 => show k0_off2 c 1 + 1 * t.val = t.val; rw [(off2_val c).2]; omega
end
end Cert.Exchange
end
-- ==== Proof.Heads.lean ====
/-
# The blocks of rows, head by head

The three blocks of rows the kernel computes are one composition at three sizes: for each of the eight heads the weights of the
block's rows over the first `w` columns, their normalisation and the product with the values; then the eight heads side by side
times the slice of the output weights.
-/
module

public import proofs.«01_k».proof.Proof.Values
public import proofs.«01_k».proof.Proof.Gen.KernelIdeal.Skeleton
public import Idealize.ShloMosaic.Lib.MatmulPlain
public import Idealize.ShloMosaic.Lib.ValueIdx
public import Idealize.ShloMosaic.Lib.Pipeline.Value

@[expose] public section
set_option maxRecDepth 65536
noncomputable section
namespace Cert.Exchange
open Cert.KernelIdeal Cert.KernelIdeal.Gen
open Idealize.ShloMosaic

section
variable {F : FTy → Type} [FloatOps F]
variable (n w : Nat)

/-- The exponentials of the scores of one head, zero where the mask is off. -/
def headW (mk : IVec ⟨2, ![n, w]⟩ 1) (q : FVec F ⟨2, ![n, 1024]⟩ .bf16) (o : Nat)
    (hs : (⟨2, ![n, 1024]⟩ : Shape).Slices ![0, o] ⟨2, ![n, 128]⟩) (k : Vec F ⟨3, ![1, w, 128]⟩ .f32)
    (hk : (⟨3, ![1, w, 128]⟩ : Shape).ShapeCasts ⟨2, ![w, 128]⟩) : FVec F ⟨2, ![n, w]⟩ .f32 :=
  select mk (exp (matmul (DotDims.transposedRhs n 128 w) none (extractStridedSlice ⟨2, ![n, 128]⟩ ![0, o] q hs)
    (truncf .bf16 (shapeCast ⟨2, ![w, 128]⟩ k hk) bitsLt_bf16_f32) (constant ⟨2, ![n, w]⟩ .f32 0x00000000#32)))
    (broadcast ⟨2, ![n, w]⟩ (Scalar.ofBits .f32 0x00000000#32))

/-- One head's rows: the exponentials over their row sums, times the values. -/
def headOut (e : FVec F ⟨2, ![n, w]⟩ .f32) (v : Vec F ⟨3, ![1, w, 128]⟩ .f32)
    (hk : (⟨3, ![1, w, 128]⟩ : Shape).ShapeCasts ⟨2, ![w, 128]⟩)
    (hr : (⟨2, ![n, w]⟩ : Shape).Reduces [1] ⟨1, ![n]⟩) (hc : (⟨1, ![n]⟩ : Shape).ShapeCasts ⟨2, ![n, 1]⟩)
    (hb : (⟨2, ![n, 1]⟩ : Shape).Broadcasts ⟨2, ![n, w]⟩) : FVec F ⟨2, ![n, 128]⟩ .bf16 :=
  truncf .bf16 (matmul (DotDims.plain n w 128) none
    (truncf .bf16 (divf e (broadcastTo ⟨2, ![n, w]⟩ (shapeCast ⟨2, ![n, 1]⟩
      (multiReduction .add [1] ⟨1, ![n]⟩ e 0x00000000#32 hr (.inl rfl) rfl) hc) hb)) bitsLt_bf16_f32)
    (truncf .bf16 (shapeCast ⟨2, ![w, 128]⟩ v hk) bitsLt_bf16_f32) (constant ⟨2, ![n, 128]⟩ .f32 0x00000000#32)) bitsLt_bf16_f32

/-- The eight heads side by side times the output weights. -/
def project (h : Fin 8 → FVec F ⟨2, ![n, 128]⟩ .bf16) (wo : FVec F S1024x1024 .bf16)
    (hcat : Shape.Concatenates ((List.ofFn fun i : Fin 8 => (⟨⟨2, ![n, 128]⟩, h i⟩ : (s : Shape) × (s.Idx → F .bf16))).map (·.1)) ⟨2, ![n, 1024]⟩ 1)
    (hc : (⟨2, ![n, 1024]⟩ : Shape).ShapeCasts ⟨2, ![n, 1024]⟩) : FVec F ⟨2, ![n, 1024]⟩ .bf16 :=
  shapeCast ⟨2, ![n, 1024]⟩ (truncf .bf16 (matmul (DotDims.plain n 1024 1024) none
    (concatenate ⟨2, ![n, 1024]⟩ 1 (List.ofFn fun i : Fin 8 => (⟨⟨2, ![n, 128]⟩, h i⟩ : (s : Shape) × (s.Idx → F .bf16))) hcat)
    wo (constant ⟨2, ![n, 1024]⟩ .f32 0x00000000#32)) bitsLt_bf16_f32) hc

/-- A block's queries. -/
def queries (x : Vec F ⟨2, ![n, 1024]⟩ .f32) (wq : Vec F S1024x1024 .f32)
    (hc : (⟨2, ![n, 1024]⟩ : Shape).ShapeCasts ⟨2, ![n, 1024]⟩) : FVec F ⟨2, ![n, 1024]⟩ .bf16 :=
  truncf .bf16 (matmul (DotDims.plain n 1024 1024) none (truncf .bf16 (shapeCast ⟨2, ![n, 1024]⟩ x hc) bitsLt_bf16_f32)
    (truncf .bf16 (mulf wq (broadcast S1024x1024 (Scalar.ofBits .f32 0x3DB504F3#32))) bitsLt_bf16_f32)
    (constant ⟨2, ![n, 1024]⟩ .f32 0x00000000#32)) bitsLt_bf16_f32

/-- The columns of one head are among a block's. -/
theorem slices_head (i : Fin 8) : (⟨2, ![n, 1024]⟩ : Shape).Slices ![0, 128 * i.val] ⟨2, ![n, 128]⟩ :=
  ⟨rfl, fun a => match a with
    | ⟨0, _⟩ => by show 0 + n ≤ n; omega
    | ⟨1, _⟩ => by show 128 * i.val + 128 ≤ 1024; omega⟩

end

section
variable {F : FTy → Type} [FloatOps F]
variable (wq wo x : Vec F S1024x1024 .f32) (k v : Vec F S8x1024x128 .f32)

theorem q0_eq : q0 wq x = queries 384 (x0 x) wq shapeCasts_S384x1024_S384x1024 := rfl
theorem q1_eq : q1 wq x = queries 384 (x1 x) wq shapeCasts_S384x1024_S384x1024 := rfl
theorem q2_eq : q2 wq x = queries 256 (x2 x) wq shapeCasts_S256x1024_S256x1024 := rfl

/-- The first block as the composition. -/
theorem part0_eq : part0 wq wo x k v = project 384 (fun i => headOut 384 384
      (headW 384 384 m0 (queries 384 (x0 x) wq shapeCasts_S384x1024_S384x1024) (128 * i.val) (slices_head 384 i)
        (kh0 i.val i.isLt k) shapeCasts_S1x384x128_S384x128) (vh0 i.val i.isLt v) shapeCasts_S1x384x128_S384x128
      reduces_S384x384_S384 shapeCasts_S384_S384x1 broadcasts_S384x1_S384x384) (truncf .bf16 wo bitsLt_bf16_f32)
      concatenates_S384x128_S384x128_S384x128_S384x128_S384x128_S384x128_S384x128_S384x128_S384x1024_d1 shapeCasts_S384x1024_S384x1024 := rfl

/-- The second block as the composition. -/
theorem part1_eq : part1 wq wo x k v = project 384 (fun i => headOut 384 768
      (headW 384 768 m1 (queries 384 (x1 x) wq shapeCasts_S384x1024_S384x1024) (128 * i.val) (slices_head 384 i)
        (kh1 i.val i.isLt k) shapeCasts_S1x768x128_S768x128) (vh1 i.val i.isLt v) shapeCasts_S1x768x128_S768x128
      reduces_S384x768_S384 shapeCasts_S384_S384x1 broadcasts_S384x1_S384x768) (truncf .bf16 wo bitsLt_bf16_f32)
      concatenates_S384x128_S384x128_S384x128_S384x128_S384x128_S384x128_S384x128_S384x128_S384x1024_d1 shapeCasts_S384x1024_S384x1024 := rfl

/-- The third block as the composition. -/
theorem part2_eq : part2 wq wo x k v = project 256 (fun i => headOut 256 1024
      (headW 256 1024 m2 (queries 256 (x2 x) wq shapeCasts_S256x1024_S256x1024) (128 * i.val) (slices_head 256 i)
        (kh2 i.val i.isLt k) shapeCasts_S1x1024x128_S1024x128) (vh2 i.val i.isLt v) shapeCasts_S1x1024x128_S1024x128
      reduces_S256x1024_S256 shapeCasts_S256_S256x1 broadcasts_S256x1_S256x1024) (truncf .bf16 wo bitsLt_bf16_f32)
      concatenates_S256x128_S256x128_S256x128_S256x128_S256x128_S256x128_S256x128_S256x128_S256x1024_d1 shapeCasts_S256x1024_S256x1024 := rfl
end
end Cert.Exchange
end
-- ==== Proof.HeadRead.lean ====
/-
# The blocks of rows read at an index

Over the extended reals: the queries, the exponentials of one head, a head's rows and a block's rows as sums of products.
-/
module

public import proofs.«01_k».proof.Proof.Heads

@[expose] public section
noncomputable section
namespace Cert.Exchange
open Cert.KernelIdeal Cert.KernelIdeal.Gen
open Idealize.ShloMosaic
open Idealize.ShloMosaic.ValueIdx

/-- The scale of the scores. -/
def scale : EReal := Ideal.ofBits .f32 0x3DB504F3#32

/-- The zero words are zero. -/
theorem ofBits_zero : (FloatOps.ofBits .f32 0x00000000#32 : Ideal .f32) = (0 : EReal) := Ideal.ofBits_zero_f32

variable (n w : Nat)

/-- A block's queries at a row and a column. -/
theorem queries_apply (x : Vec Ideal ⟨2, ![n, 1024]⟩ .f32) (wq : Vec Ideal S1024x1024 .f32)
    (hc : (⟨2, ![n, 1024]⟩ : Shape).ShapeCasts ⟨2, ![n, 1024]⟩) (r : Fin n) (z : Fin 1024) :
    queries n x wq hc (ix2 r z) = (∑ k : Fin 1024, x (ix2 r k) * (wq (ix2 k z) * scale) : EReal) := by
  unfold queries
  refine (Ideal.matmul_plain_apply (M := n) (K := 1024) (N := 1024) none _ _ _ r z).trans ?_
  rw [constant_apply, Ideal.ofBits_zero_f32, zero_add]
  refine Finset.sum_congr rfl fun k _ => ?_
  rw [shapeCast_self]
  rfl

/-- The exponentials of one head at a row and a column. -/
theorem headW_apply (mk : IVec ⟨2, ![n, w]⟩ 1) (q : FVec Ideal ⟨2, ![n, 1024]⟩ .bf16) (o : Nat)
    (hs : (⟨2, ![n, 1024]⟩ : Shape).Slices ![0, o] ⟨2, ![n, 128]⟩) (k : Vec Ideal ⟨3, ![1, w, 128]⟩ .f32)
    (hk : (⟨3, ![1, w, 128]⟩ : Shape).ShapeCasts ⟨2, ![w, 128]⟩) (ho : o + 128 ≤ 1024) (r : Fin n) (j : Fin w) :
    headW n w mk q o hs k hk (ix2 r j) = (if mk (ix2 r j) = 1#1 then
      Ideal.exp (∑ e : Fin 128, q (ix2 r ⟨o + e.val, by omega⟩) * k (ix3 0 j e)) else 0 : EReal) := by
  have hm : (matmul (DotDims.transposedRhs n 128 w) none (extractStridedSlice ⟨2, ![n, 128]⟩ ![0, o] q hs)
      (truncf .bf16 (shapeCast ⟨2, ![w, 128]⟩ k hk) bitsLt_bf16_f32) (constant ⟨2, ![n, w]⟩ .f32 0x00000000#32) : FVec Ideal ⟨2, ![n, w]⟩ .f32)
      (ix2 r j) = (∑ e : Fin 128, q (ix2 r ⟨o + e.val, by omega⟩) * k (ix3 0 j e) : EReal) := by
    refine (Ideal.matmul_transposedRhs_apply (M := n) (K := 128) (N := w) none _ _ _ r j).trans ?_
    rw [constant_apply, Ideal.ofBits_zero_f32, zero_add]
    refine Finset.sum_congr rfl fun e _ => ?_
    refine congrArg₂ (· * ·) ?_ ?_
    · refine extractStridedSlice_apply _ q hs _ (ix2 r ⟨o + e.val, by omega⟩) fun a => ?_
      match a with
      | ⟨0, _⟩ => show r.val = 0 + r.val; omega
      | ⟨1, _⟩ => rfl
    · show shapeCast ⟨2, ![w, 128]⟩ k hk (ix2 j e) = _
      refine (shapeCast_dropUnit_apply ![w, 128] k hk (ix2 j e)).trans (congrArg k (funext fun a => ?_))
      match a with
      | ⟨0, _⟩ => rfl
      | ⟨1, _⟩ => rfl
      | ⟨2, _⟩ => rfl
  unfold headW
  rw [select_apply]
  show (if mk (ix2 r j) = 1#1 then FloatOps.exp _ else _) = _
  rw [hm]
  refine congrArg (ite _ _) ?_
  exact ofBits_zero

/-- A head's rows at a row and a column. -/
theorem headOut_apply (e : FVec Ideal ⟨2, ![n, w]⟩ .f32) (v : Vec Ideal ⟨3, ![1, w, 128]⟩ .f32)
    (hk : (⟨3, ![1, w, 128]⟩ : Shape).ShapeCasts ⟨2, ![w, 128]⟩)
    (hr : (⟨2, ![n, w]⟩ : Shape).Reduces [1] ⟨1, ![n]⟩) (hc : (⟨1, ![n]⟩ : Shape).ShapeCasts ⟨2, ![n, 1]⟩)
    (hb : (⟨2, ![n, 1]⟩ : Shape).Broadcasts ⟨2, ![n, w]⟩) (r : Fin n) (d : Fin 128) :
    headOut n w e v hk hr hc hb (ix2 r d)
      = (∑ j : Fin w, Ideal.div (e (ix2 r j)) (∑ i : Fin w, e (ix2 r i)) * v (ix3 0 j d) : EReal) := by
  have hsum : (multiReduction .add [1] ⟨1, ![n]⟩ e 0x00000000#32 hr (.inl rfl) rfl : FVec Ideal ⟨1, ![n]⟩ .f32) (ix1 r)
      = (∑ i : Fin w, e (ix2 r i) : EReal) := by
    refine (Ideal.multiReduction_add_single (φ := .f32) e _ hr (.inl rfl) rfl (ix1 r)).trans ?_
    refine Finset.sum_congr rfl fun i _ => congrArg e (funext fun a => Fin.ext ?_)
    match a with
    | ⟨0, _⟩ => rfl
    | ⟨1, _⟩ => rfl
  unfold headOut
  refine (Ideal.matmul_plain_apply (M := n) (K := w) (N := 128) none _ _ _ r d).trans ?_
  rw [constant_apply, Ideal.ofBits_zero_f32, zero_add]
  refine Finset.sum_congr rfl fun j _ => ?_
  refine congrArg₂ (· * ·) ?_ ?_
  · show Ideal.div (e (ix2 r j)) (broadcastTo _ _ hb (ix2 r j)) = _
    refine congrArg (Ideal.div _) ?_
    refine (broadcastTo_apply _ hb _ (ix2 r (0 : Fin 1)) fun a => ?_).trans ?_
    · match a with
      | ⟨0, _⟩ =>
        show r.val = if n = 1 then 0 else r.val
        have := r.isLt
        split <;> omega
      | ⟨1, _⟩ => rfl
    · refine (shapeCast_apply _ hc _ (ix1 r) ?_).trans hsum
      rw [Shape.rowMajor_val_one, Shape.rowMajor_val_two]
      show r.val = r.val * 1 + 0
      omega
  · show shapeCast ⟨2, ![w, 128]⟩ v hk (ix2 j d) = _
    refine (shapeCast_dropUnit_apply ![w, 128] v hk (ix2 j d)).trans (congrArg v (funext fun a => ?_))
    match a with
    | ⟨0, _⟩ => rfl
    | ⟨1, _⟩ => rfl
    | ⟨2, _⟩ => rfl

/-- A block's rows at a row and a column. -/
theorem project_apply (h : Fin 8 → FVec Ideal ⟨2, ![n, 128]⟩ .bf16) (wo : FVec Ideal S1024x1024 .bf16)
    (hcat : Shape.Concatenates ((List.ofFn fun i : Fin 8 => (⟨⟨2, ![n, 128]⟩, h i⟩ : (s : Shape) × (s.Idx → Ideal .bf16))).map (·.1)) ⟨2, ![n, 1024]⟩ 1)
    (hc : (⟨2, ![n, 1024]⟩ : Shape).ShapeCasts ⟨2, ![n, 1024]⟩) (r : Fin n) (j : Fin 1024) :
    project n h wo hcat hc (ix2 r j)
      = (∑ z : Fin 1024, h ⟨z.val / 128, by omega⟩ (ix2 r ⟨z.val % 128, by omega⟩) * wo (ix2 z j) : EReal) := by
  unfold project
  rw [shapeCast_self]
  refine (Ideal.matmul_plain_apply (M := n) (K := 1024) (N := 1024) none _ _ _ r j).trans ?_
  rw [constant_apply, Ideal.ofBits_zero_f32, zero_add]
  refine Finset.sum_congr rfl fun z _ => congrArg (· * (wo (ix2 z j) : EReal)) ?_
  refine concatenate_ofFn_apply (t := ⟨2, ![n, 1024]⟩) (s₁ := ⟨2, ![n, 128]⟩) 1 h hcat rfl 128 rfl _ _ rfl _ rfl fun b hb => ?_
  match b with
  | ⟨0, _⟩ => rfl
  | ⟨1, _⟩ => exact absurd rfl hb

end Cert.Exchange
end
-- ==== Proof.RefRead.lean ====
/-
# The reference read at an index

Over the extended reals: the mask, the scores, the weights of the masked softmax, a head's rows and the result, as sums of products of
the arguments' elements.
-/
module

public import proofs.«01_k».proof.Proof.Gen.ReferenceIdeal.Read
public import Idealize.ShloMosaic.PureOps.Reduce

@[expose] public section
set_option maxRecDepth 65536
noncomputable section
namespace Cert.RefVal
open Cert.ReferenceIdeal Cert.ReferenceIdeal.Gen Cert.ReferenceIdeal.Read
open Idealize.ShloMosaic
open Idealize.ShloMosaic.ValueIdx

/-! ## The mask -/

/-- The sign of a word. -/
@[reducible] def sgn (x : BitVec 32) : BitVec 32 := if x = 0 then 0 else if x.msb then -1 else 1

/-- The reference's floored division of a word by 64: the quotient, less one when the signs differ and there is a remainder. -/
@[reducible] def fdiv (x : BitVec 32) : BitVec 32 :=
  Scalar.select (IntOp.andi (IntOp.cmpi .ne (sgn x) (sgn 64#32)) (IntOp.cmpi .ne (IntOp.remsi .host x 64#32) 0#32))
    (IntOp.subi (IntOp.divsi .host x 64#32) 1#32) (IntOp.divsi .host x 64#32)

/-- On the words below 1024 it is the quotient. -/
theorem fdiv_ofNat : ∀ k : Fin 1024, fdiv (BitVec.ofNat 32 k.val) = BitVec.ofNat 32 (k.val / 64) := by decide +kernel

/-- Comparing two small words compares their numbers. -/
theorem sle_ofNat : ∀ a b : Fin 16, IntOp.cmpi .sle (BitVec.ofNat 32 a.val) (BitVec.ofNat 32 b.val) = 1#1 ↔ a.val ≤ b.val := by
  decide +kernel

/-- The row's and the column's group. -/
theorem v6_eq (k : Fin 1024) : val_main_v6 (F := Ideal) (ix1 k) = fdiv (BitVec.ofNat 32 k.val) := rfl
theorem v9_eq (k : Fin 1024) : val_main_v9 (F := Ideal) (ix1 k) = fdiv (BitVec.ofNat 32 k.val) := rfl

/-- The mask is on where the column's group is at most the row's. -/
theorem mask_iff (i j : Fin 1024) : val_main_v13 (F := Ideal) (ix2 i j) = 1#1 ↔ j.val / 64 ≤ i.val / 64 := by
  rw [← sle_ofNat ⟨j.val / 64, by omega⟩ ⟨i.val / 64, by omega⟩, ← fdiv_ofNat j, ← fdiv_ofNat i, ← v6_eq, ← v9_eq]
  exact Iff.rfl

/-- A disjunction of bits of which one is on is on. -/
theorem fold_or {n : Nat} (b : BitVec 1) (f : Fin n → BitVec 1) (i : Fin n) (h : f i = 1#1) :
    (Finset.univ : Finset (Fin n)).fold IntOp.ori b f = 1#1 := by
  rw [← Finset.insert_erase (Finset.mem_univ i), Finset.fold_insert (Finset.notMem_erase _ _), h]
  generalize Finset.fold IntOp.ori b f (Finset.univ.erase i) = c
  revert c; decide

/-- Every row sees a column: its own. -/
theorem keep (i : Fin 1024) : val_main_v24 (F := Ideal) (ix1 i) = 1#1 := by
  have hR : S1024x1024.Reduces [1] S1024 := by decide
  refine (Host.reduce_eq_fold_single IntOp.ori (val_main_v13 (F := Ideal)) _ reducesTo_S1024x1024_S1024_d1 hR h_S_ (ix1 i)).trans ?_
  refine fold_or (n := 1024) _ _ i ?_
  refine (congrArg (val_main_v13 (F := Ideal)) (funext fun a => Fin.ext ?_)).trans ((mask_iff i i).2 le_rfl)
  match a with
  | ⟨0, _⟩ => rfl
  | ⟨1, _⟩ => rfl

/-! ## The scores and the weights -/

variable (x : (⟨S1024x1024, .f32⟩ : BufTy).Contents (Elt Ideal)) (wq : (⟨S1024x8192, .f32⟩ : BufTy).Contents (Elt Ideal))
  (k v : (⟨S1024x64x128, .f32⟩ : BufTy).Contents (Elt Ideal)) (wo : (⟨S8192x1024, .f32⟩ : BufTy).Contents (Elt Ideal))

/-- The column of the weights a head's coordinate sits in. -/
abbrev colOf (h : Fin 64) (e : Fin 128) : Fin 8192 := ⟨128 * h.val + e.val, by omega⟩

/-- The scaled score of a row and a column for one head. -/
def score (h : Fin 64) (i j : Fin 1024) : EReal :=
  (∑ e : Fin 128, (∑ t : Fin 1024, (x (ix2 i t) : EReal) * wq (ix2 t (colOf h e))) * k (ix3 j h e)) * Ideal.ofBits .f32 0x3DB504F3#32

/-- The masked score. -/
def mscore (h : Fin 64) (i j : Fin 1024) : EReal := if j.val / 64 ≤ i.val / 64 then score x wq k h i j else ⊥

/-- The queries. -/
theorem v4_eq (h : Fin 64) (i : Fin 1024) (e : Fin 128) : val_main_v4 (F := Ideal) x wq (ix4 0 i h e)
    = (∑ t : Fin 1024, (x (ix2 i t) : EReal) * wq (ix2 t (colOf h e)) : EReal) := by
  rw [val_main_v4_apply, val_main_v3_apply]
  refine Finset.sum_congr rfl fun t _ => ?_
  rw [val_main_v0_apply]
  refine congrArg₂ (· * ·) (congrArg x (funext fun a => Fin.ext ?_)) (congrArg wq (funext fun a => Fin.ext ?_))
  · match a with
    | ⟨0, _⟩ => show (((0 * 1024 + i.val) * 64 + h.val) * 128 + e.val) / 8192 % 1024 = i.val; omega
    | ⟨1, _⟩ => rfl
  · match a with
    | ⟨0, _⟩ => rfl
    | ⟨1, _⟩ => show (((0 * 1024 + i.val) * 64 + h.val) * 128 + e.val) % 8192 = 128 * h.val + e.val; omega

/-- The scaled scores. -/
theorem v16_eq (h : Fin 64) (i j : Fin 1024) : val_main_v16 (F := Ideal) x wq k (ix4 0 h i j) = score x wq k h i j := by
  rw [val_main_v16_apply, val_main_v14_apply, val_main_v15_apply]
  show (_ : EReal) * Ideal.ofBits .f32 0x3DB504F3#32 = _
  refine congrArg (· * (Ideal.ofBits .f32 0x3DB504F3#32 : EReal)) (Finset.sum_congr rfl fun e _ => ?_)
  rw [val_main_v1_apply]
  refine congrArg₂ (· * ·) ((congrArg (val_main_v4 (F := Ideal) x wq) (funext fun a => ?_)).trans (v4_eq x wq h i e)) (congrArg k (funext fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The word of `-∞`. -/
theorem ofBits_bot : Ideal.ofBits .f32 0xFF800000#32 = (⊥ : EReal) := by simp [Ideal.ofBits, Ideal.ieee]

/-- The masked scores. -/
theorem v18_eq (h : Fin 64) (i j : Fin 1024) : val_main_v18 (F := Ideal) x wq k (ix4 0 h i j) = mscore x wq k h i j := by
  rw [val_main_v18_apply, v16_eq, val_main_call2_v1_apply, val_main_v17_apply, val_main_call2_v2_apply]
  show Scalar.select (val_main_v13 (F := Ideal) _) (score x wq k h i j) (Ideal.ofBits .f32 0xFF800000#32 : EReal) = _
  rw [ofBits_bot]
  unfold mscore Scalar.select
  refine if_congr (Iff.trans (Iff.of_eq (congrArg (· = 1#1) (congrArg (val_main_v13 (F := Ideal)) (funext fun a => ?_)))) (mask_iff i j)) rfl rfl
  match a with
  | ⟨0, _⟩ => rfl
  | ⟨1, _⟩ => rfl

/-- The greatest masked score of a row. -/
def top (h : Fin 64) (i : Fin 1024) : EReal := (Finset.univ : Finset (Fin 1024)).fold max ⊥ (mscore x wq k h i)

theorem v19_eq (h : Fin 64) (i : Fin 1024) : val_main_v19 (F := Ideal) x wq k (ix3 0 h i) = top x wq k h i := by
  unfold val_main_v19
  refine (Host.reduce_eq_fold_single (max : EReal → EReal → EReal) _ _ reducesTo_S1x64x1024x1024_S1x64x1024_d3 (by decide) h_S_ (ix3 0 h i)).trans ?_
  unfold top
  refine congrArg₂ (fun b f => Finset.fold max b f Finset.univ) ofBits_bot (funext fun j => ?_)
  refine (congrArg (val_main_v18 (F := Ideal) x wq k) (funext fun a => Fin.ext ?_)).trans (v18_eq x wq k h i j)
  match a with
  | ⟨0, _⟩ => rfl
  | ⟨1, _⟩ => rfl
  | ⟨2, _⟩ => rfl
  | ⟨3, _⟩ => rfl

/-- The exponentials. -/
theorem v23_eq (h : Fin 64) (i j : Fin 1024) : val_main_v23 (F := Ideal) x wq k (ix4 0 h i j)
    = Ideal.exp (mscore x wq k h i j - top x wq k h i) := by
  rw [val_main_v23_apply, val_main_v22_apply, v18_eq, val_main_v21_apply, val_main_v20_apply]
  show Ideal.exp (mscore x wq k h i j - val_main_v19 (F := Ideal) x wq k _) = _
  refine congrArg (fun y => Ideal.exp (mscore x wq k h i j - y)) ((congrArg (val_main_v19 (F := Ideal) x wq k) (funext fun a => ?_)).trans (v19_eq x wq k h i))
  match a with
  | ⟨0, _⟩ => rfl
  | ⟨1, _⟩ => rfl
  | ⟨2, _⟩ => rfl

/-- Their row sums. -/
theorem v26_eq (h : Fin 64) (i : Fin 1024) : val_main_v26 (F := Ideal) x wq k (ix3 0 h i)
    = (∑ t : Fin 1024, Ideal.exp (mscore x wq k h i t - top x wq k h i) : EReal) := by
  rw [val_main_v26_apply]
  refine (congrArg (· + (_ : EReal)) Ideal.ofBits_zero_f32).trans ((zero_add _).trans (Finset.sum_congr rfl fun t _ => ?_))
  refine (congrArg (val_main_v23 (F := Ideal) x wq k) (funext fun a => ?_)).trans (v23_eq x wq k h i t)
  match a with
  | ⟨0, _⟩ => rfl
  | ⟨1, _⟩ => rfl
  | ⟨2, _⟩ => rfl
  | ⟨3, _⟩ => rfl

/-- The weight of a column in a row. -/
def weight (h : Fin 64) (i j : Fin 1024) : EReal :=
  Ideal.div (Ideal.exp (mscore x wq k h i j - top x wq k h i)) (∑ t : Fin 1024, Ideal.exp (mscore x wq k h i t - top x wq k h i))

/-- The row sums stay, every row seeing a column. -/
theorem v28_eq (h : Fin 64) (i : Fin 1024) : val_main_v28 (F := Ideal) x wq k (ix4 0 h i 0) = val_main_v26 (F := Ideal) x wq k (ix3 0 h i) := by
  rw [val_main_v28_apply, val_main_call3_v1_apply, val_main_v25_apply, val_main_v27_apply]
  have e : val_main_v24 (F := Ideal) (idx_main_v25 (idx_main_call3_v1 (ix4 0 h i 0))) = 1#1 := by
    refine (congrArg (val_main_v24 (F := Ideal)) (funext fun a => ?_)).trans (keep i)
    match a with | ⟨0, _⟩ => rfl
  rw [e]
  refine (select_one _ _).trans (congrArg (val_main_v26 (F := Ideal) x wq k) (funext fun a => ?_))
  match a with
  | ⟨0, _⟩ => rfl
  | ⟨1, _⟩ => rfl
  | ⟨2, _⟩ => rfl

theorem v32_eq (h : Fin 64) (i j : Fin 1024) : val_main_v32 (F := Ideal) x wq k (ix4 0 h i j) = weight x wq k h i j := by
  rw [val_main_v32_apply, val_main_call4_v1_apply, val_main_v31_apply, val_main_v30_apply, v23_eq, val_main_v29_apply]
  have e : val_main_v24 (F := Ideal) (idx_main_v31 (idx_main_call4_v1 (ix4 0 h i j))) = 1#1 := by
    refine (congrArg (val_main_v24 (F := Ideal)) (funext fun a => ?_)).trans (keep i)
    match a with | ⟨0, _⟩ => rfl
  rw [e]
  refine (select_one _ _).trans ?_
  show Ideal.div _ _ = _
  refine congrArg (Ideal.div _) (((congrArg (val_main_v28 (F := Ideal) x wq k) (funext fun a => ?_)).trans (v28_eq x wq k h i)).trans (v26_eq x wq k h i))
  match a with
  | ⟨0, _⟩ => rfl
  | ⟨1, _⟩ => rfl
  | ⟨2, _⟩ => rfl
  | ⟨3, _⟩ => rfl

/-! ## The result -/

/-- A head's rows: the values under the weights. -/
def headRow (h : Fin 64) (i : Fin 1024) (d : Fin 128) : EReal := ∑ j : Fin 1024, (v (ix3 j h d) : EReal) * weight x wq k h i j

theorem v33_eq (h : Fin 64) (i : Fin 1024) (d : Fin 128) : val_main_v33 (F := Ideal) x wq k v (ix4 0 h d i) = headRow x wq k v h i d := by
  rw [val_main_v33_apply]
  refine Finset.sum_congr rfl fun j _ => ?_
  rw [val_main_v2_apply]
  refine congrArg₂ (· * ·) (congrArg v (funext fun a => ?_)) ((congrArg (val_main_v32 (F := Ideal) x wq k) (funext fun a => ?_)).trans (v32_eq x wq k h i j))
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl

/-- The result at a row and a column. -/
theorem v36_eq (i j : Fin 1024) : val_main_v36 (F := Ideal) x wq k v wo (ix3 0 i j)
    = (∑ z : Fin 8192, headRow x wq k v ⟨z.val / 128, by omega⟩ i ⟨z.val % 128, by omega⟩ * (wo (ix2 z j) : EReal) : EReal) := by
  rw [val_main_v36_apply]
  refine Finset.sum_congr rfl fun z _ => ?_
  rw [val_main_v35_apply, val_main_v34_apply]
  refine congrArg₂ (· * ·) ((congrArg (val_main_v33 (F := Ideal) x wq k v) (funext fun a => Fin.ext ?_)).trans
    (v33_eq x wq k v ⟨z.val / 128, by omega⟩ i ⟨z.val % 128, by omega⟩)) (congrArg wo (funext fun a => ?_))
  · match a with
    | ⟨0, _⟩ => rfl
    | ⟨1, _⟩ => show ((0 * 1024 + i.val) * 8192 + z.val) / 128 % 64 = z.val / 128; omega
    | ⟨2, _⟩ => show ((0 * 1024 + i.val) * 8192 + z.val) % 128 = z.val % 128; omega
    | ⟨3, _⟩ => show ((0 * 1024 + i.val) * 8192 + z.val) / 8192 % 1024 = i.val; omega
  · match a with
    | ⟨0, _⟩ => rfl
    | ⟨1, _⟩ => rfl

end Cert.RefVal
end
-- ==== Proof.Soft.lean ====
/-
# Weights of a masked softmax

The exponentials of finite scores over their sum are the same with any finite number subtracted from each score, with the masked
scores `⊥`, and over the first columns alone when the rest is masked. And the scale may be applied to the weights or to the scores.
-/
module

public import Idealize.ShloMosaic.PureOps.Ideal
public import Mathlib.Data.EReal.Inv
public import Mathlib.Algebra.BigOperators.Fin
public import Mathlib.Algebra.BigOperators.Field

@[expose] public section
noncomputable section
namespace Cert.Exchange
open Idealize.ShloMosaic

/-- A sum of reals read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The sum of the masked exponentials is a positive real. -/
theorem sum_exp {N : Nat} (m : Fin N → Prop) [DecidablePred m] (s : Fin N → ℝ) (h : ∃ j, m j) :
    0 < ∑ i, (if m i then Real.exp (s i) else 0)
      ∧ (∑ i, if m i then Ideal.exp (s i : EReal) else 0) = ((∑ i, (if m i then Real.exp (s i) else 0) : ℝ) : EReal) := by
  constructor
  · obtain ⟨j0, h0⟩ := h
    refine Finset.sum_pos' (fun i _ => ?_) ⟨j0, Finset.mem_univ _, ?_⟩
    · split
      · exact (Real.exp_pos _).le
      · exact le_rfl
    · rw [if_pos h0]; exact Real.exp_pos _
  · rw [coe_sum]
    refine Finset.sum_congr rfl fun i _ => ?_
    split <;> simp

/-- The weights from masked exponentials and from scores with a finite number subtracted are the same. -/
theorem weight_shift {N : Nat} (m : Fin N → Prop) [DecidablePred m] (s : Fin N → ℝ) (M : ℝ) (h : ∃ j, m j) (j : Fin N) :
    Ideal.div (if m j then Ideal.exp (s j : EReal) else 0) (∑ i, if m i then Ideal.exp (s i : EReal) else 0)
      = Ideal.div (Ideal.exp ((if m j then (s j : EReal) else ⊥) - (M : EReal)))
          (∑ i, Ideal.exp ((if m i then (s i : EReal) else ⊥) - (M : EReal))) := by
  have e1 : ∀ i, (if m i then Ideal.exp (s i : EReal) else 0) = ((if m i then Real.exp (s i) else 0 : ℝ) : EReal) := by
    intro i; split <;> simp
  have e2 : ∀ i, Ideal.exp ((if m i then (s i : EReal) else ⊥) - (M : EReal))
      = ((Real.exp (-M) * (if m i then Real.exp (s i) else 0) : ℝ) : EReal) := by
    intro i
    split
    · rw [← EReal.coe_sub, Ideal.exp_coe, ← Real.exp_add]; congr 2; ring
    · rw [EReal.bot_sub]; simp
  have hpos := (sum_exp m s h).1
  simp only [e1, e2]
  rw [← coe_sum, ← coe_sum, ← Finset.mul_sum, Ideal.div_coe (ne_of_gt hpos),
    Ideal.div_coe (mul_ne_zero (Real.exp_pos _).ne' (ne_of_gt hpos)), ← EReal.coe_mul, ← EReal.coe_mul]
  congr 1
  have := (Real.exp_pos (-M)).ne'
  field_simp

/-- A sum over the first `w` of 1024 columns is the sum over all of them when the rest is zero. -/
theorem sum_first {α : Type*} [AddCommMonoid α] (w : Nat) (hw : w ≤ 1024) (f : Fin 1024 → α)
    (h : ∀ j : Fin 1024, w ≤ j.val → f j = 0) : ∑ j : Fin w, f (j.castLE hw) = ∑ j, f j := by
  refine Finset.sum_of_injOn (fun j => j.castLE hw) ?_ ?_ ?_ ?_
  · intro a _ b _ hab; exact Fin.castLE_injective hw hab
  · intro a _; exact Finset.mem_coe.2 (Finset.mem_univ _)
  · intro j _ hj
    refine h j (Nat.le_of_not_lt fun hlt => hj ⟨⟨j.val, hlt⟩, Finset.mem_coe.2 (Finset.mem_univ _), Fin.ext rfl⟩)
  · intro j _; rfl

/-- One row of one head: the values under the weights of the first `w` columns are those under the weights of all columns, the
masked scores `⊥` and a finite number subtracted from each. -/
theorem head_eq (w : Nat) (hw : w ≤ 1024) (m : Fin 1024 → Prop) [DecidablePred m] (s : Fin 1024 → ℝ) (M : ℝ)
    (v : Fin 1024 → EReal) (h : ∃ j, m j) (hm : ∀ j : Fin 1024, w ≤ j.val → ¬ m j) :
    ∑ j : Fin w, Ideal.div (if m (j.castLE hw) then Ideal.exp (s (j.castLE hw) : EReal) else 0)
        (∑ i : Fin w, if m (i.castLE hw) then Ideal.exp (s (i.castLE hw) : EReal) else 0) * v (j.castLE hw)
      = ∑ j, v j * Ideal.div (Ideal.exp ((if m j then (s j : EReal) else ⊥) - (M : EReal)))
          (∑ i, Ideal.exp ((if m i then (s i : EReal) else ⊥) - (M : EReal))) := by
  rw [sum_first w hw (fun i => if m i then Ideal.exp (s i : EReal) else 0) fun j hj => if_neg (hm j hj)]
  refine (sum_first w hw (fun j => Ideal.div (if m j then Ideal.exp (s j : EReal) else 0)
    (∑ i, if m i then Ideal.exp (s i : EReal) else 0) * v j) fun j hj => ?_).trans ?_
  · have hz : Ideal.div 0 (∑ i, if m i then Ideal.exp (s i : EReal) else 0) = 0 := by
      rw [(sum_exp m s h).2, Ideal.div_coe (ne_of_gt (sum_exp m s h).1), zero_mul]
    rw [if_neg (hm j hj), hz, zero_mul]
  · refine Finset.sum_congr rfl fun j _ => ?_
    rw [weight_shift m s M h j, mul_comm]

/-- The scale on the weights or on the scores. -/
theorem scale_move {N K : Nat} (x : Fin K → ℝ) (q : Fin K → Fin N → ℝ) (k : Fin N → ℝ) (c : ℝ) :
    (∑ e, (∑ i, (x i : EReal) * ((q i e : EReal) * (c : EReal))) * (k e : EReal))
      = (((∑ e, (∑ i, x i * q i e) * k e) * c : ℝ) : EReal) := by
  simp only [← EReal.coe_mul, ← coe_sum]
  congr 1
  rw [Finset.sum_mul]
  refine Finset.sum_congr rfl fun e _ => ?_
  rw [Finset.sum_mul, Finset.sum_mul, Finset.sum_mul]
  exact Finset.sum_congr rfl fun i _ => by ring

/-- The unscaled scores. -/
theorem score_real {N K : Nat} (x : Fin K → ℝ) (q : Fin K → Fin N → ℝ) (k : Fin N → ℝ) :
    (∑ e, (∑ i, (x i : EReal) * (q i e : EReal)) * (k e : EReal)) = ((∑ e, (∑ i, x i * q i e) * k e : ℝ) : EReal) := by
  simp only [← EReal.coe_mul, ← coe_sum]

end Cert.Exchange
end
-- ==== Proof.Block.lean ====
/-
# A block of rows is the reference's, up to the other devices' heads

With `x`, the query weights and the keys finite, each row of a device's block is the sum, over the device's heads, of the reference's
rows of those heads times the output weights.
-/
module

public import proofs.«01_k».proof.Proof.HeadRead
public import proofs.«01_k».proof.Proof.RefRead
public import proofs.«01_k».proof.Proof.Soft

@[expose] public section
noncomputable section
namespace Cert.Exchange
open Idealize.ShloMosaic
open Idealize.ShloMosaic.ValueIdx
open Cert.RefVal (score mscore top weight headRow colOf)

/-- The scale is a real number. -/
theorem scale_real : ∃ s : ℝ, scale = (s : EReal) := by
  unfold scale Ideal.ofBits Ideal.ieee
  simp
  exact ⟨_, rfl⟩

/-- A finite family of values that are reals or `⊥`, one of them a real, has a real greatest. -/
theorem top_real {N : Nat} (m : Fin N → Prop) [DecidablePred m] (s : Fin N → ℝ) (h : ∃ j, m j) :
    ∃ M : ℝ, (Finset.univ : Finset (Fin N)).fold max ⊥ (fun j => if m j then (s j : EReal) else ⊥) = (M : EReal) := by
  obtain ⟨j0, h0⟩ := h
  have ht : (Finset.univ : Finset (Fin N)).fold max ⊥ (fun j => if m j then (s j : EReal) else ⊥) < ⊤ := by
    rw [Finset.fold_max_lt]
    refine ⟨bot_lt_top, fun j _ => ?_⟩
    split
    · exact EReal.coe_lt_top _
    · exact bot_lt_top
  have hb : (s j0 : EReal) ≤ (Finset.univ : Finset (Fin N)).fold max ⊥ (fun j => if m j then (s j : EReal) else ⊥) := by
    rw [Finset.le_fold_max]
    exact Or.inr ⟨j0, Finset.mem_univ _, by rw [if_pos h0]⟩
  exact ⟨_, (EReal.coe_toReal (ne_of_lt ht) (ne_of_gt (lt_of_lt_of_le (EReal.bot_lt_coe _) hb))).symm⟩

section
variable (X : Vec Ideal ⟨2, ![1024, 1024]⟩ .f32) (WQ : Vec Ideal ⟨2, ![1024, 8192]⟩ .f32) (K V : Vec Ideal ⟨3, ![1024, 64, 128]⟩ .f32)
  (WO : Vec Ideal ⟨2, ![8192, 1024]⟩ .f32)
variable (xr : (⟨2, ![1024, 1024]⟩ : Shape).Idx → ℝ) (qr : (⟨2, ![1024, 8192]⟩ : Shape).Idx → ℝ) (kr : (⟨3, ![1024, 64, 128]⟩ : Shape).Idx → ℝ)
variable (hX : ∀ i, X i = (xr i : EReal)) (hQ : ∀ i, WQ i = (qr i : EReal)) (hK : ∀ i, K i = (kr i : EReal))
include hX hQ hK

/-- One row of one head. -/
theorem head_row (n w r0 : Nat) (hw : w ≤ 1024) (hw64 : w % 64 = 0) (hn : r0 + n ≤ w) (c : Fin 8) (h : Fin 8)
    (xs : Vec Ideal ⟨2, ![n, 1024]⟩ .f32) (wq : Vec Ideal Cert.KernelIdeal.S1024x1024 .f32) (kk vv : Vec Ideal ⟨3, ![1, w, 128]⟩ .f32)
    (mk : IVec ⟨2, ![n, w]⟩ 1)
    (hxs : ∀ (r : Fin n) (t : Fin 1024), xs (ix2 r t) = X (ix2 ⟨r0 + r.val, by omega⟩ t))
    (hwq : ∀ (t z : Fin 1024), wq (ix2 t z) = WQ (ix2 t ⟨1024 * c.val + z.val, by omega⟩))
    (hkk : ∀ (j : Fin w) (e : Fin 128), kk (ix3 0 j e) = K (ix3 (j.castLE hw) ⟨8 * c.val + h.val, by omega⟩ e))
    (hvv : ∀ (j : Fin w) (e : Fin 128), vv (ix3 0 j e) = V (ix3 (j.castLE hw) ⟨8 * c.val + h.val, by omega⟩ e))
    (hmk : ∀ (r : Fin n) (j : Fin w), mk (ix2 r j) = 1#1 ↔ j.val / 64 ≤ (r0 + r.val) / 64)
    (hc hs hk hr hcc hb) (r : Fin n) (d : Fin 128) :
    headOut n w (headW n w mk (queries n xs wq hc) (128 * h.val) hs kk hk) vv hk hr hcc hb (ix2 r d)
      = headRow X WQ K V ⟨8 * c.val + h.val, by omega⟩ ⟨r0 + r.val, by omega⟩ d := by
  obtain ⟨s, hs'⟩ := scale_real
  set H : Fin 64 := ⟨8 * c.val + h.val, by omega⟩ with hH
  set i : Fin 1024 := ⟨r0 + r.val, by omega⟩ with hi
  let sc : Fin 1024 → ℝ := fun j => (∑ e : Fin 128, (∑ t : Fin 1024, xr (ix2 i t) * qr (ix2 t (colOf H e))) * kr (ix3 j H e)) * s
  have hsc : ∀ j, score X WQ K H i j = (sc j : EReal) := by
    intro j
    unfold score
    simp only [hX, hQ, hK]
    rw [score_real (fun t => xr (ix2 i t)) (fun t e => qr (ix2 t (colOf H e))) (fun e => kr (ix3 j H e))]
    show _ * scale = _
    rw [hs', ← EReal.coe_mul]
  have hms : ∀ j, mscore X WQ K H i j = if j.val / 64 ≤ i.val / 64 then (sc j : EReal) else ⊥ := fun j => by
    unfold mscore; rw [hsc]
  have hex : ∃ j : Fin 1024, j.val / 64 ≤ i.val / 64 := ⟨i, le_rfl⟩
  obtain ⟨M, hM⟩ := top_real (fun j : Fin 1024 => j.val / 64 ≤ i.val / 64) sc hex
  have htop : top X WQ K H i = (M : EReal) := by
    unfold top
    rw [← hM]
    exact congrArg (fun f => Finset.fold max ⊥ f Finset.univ) (funext hms)
  have he : ∀ j : Fin w, headW n w mk (queries n xs wq hc) (128 * h.val) hs kk hk (ix2 r j)
      = if (j.castLE hw).val / 64 ≤ i.val / 64 then Ideal.exp (sc (j.castLE hw) : EReal) else 0 := by
    intro j
    rw [headW_apply _ _ _ _ _ _ _ _ (by omega)]
    refine if_congr (hmk r j) (congrArg Ideal.exp ?_) rfl
    simp only [queries_apply, hxs, hwq, hkk, hX, hQ, hK, hs']
    refine (Finset.sum_congr rfl fun e _ => ?_).trans (scale_move (fun t => xr (ix2 i t)) (fun t e => qr (ix2 t (colOf H e)))
      (fun e => kr (ix3 (j.castLE hw) H e)) s)
    refine congrArg₂ (· * ·) (Finset.sum_congr rfl fun t _ => ?_) rfl
    have ec : (⟨1024 * c.val + (128 * h.val + e.val), by omega⟩ : Fin 8192) = colOf H e := Fin.ext (by simp only [hH]; omega)
    rw [ec]
  rw [headOut_apply]
  simp only [he, hvv]
  refine (head_eq w hw (fun j : Fin 1024 => j.val / 64 ≤ i.val / 64) sc M (fun j => V (ix3 j H d)) hex fun j hj => ?_).trans ?_
  · simp only [hi]; omega
  · unfold headRow weight
    simp only [hms, htop]

/-- One row of a block. -/
theorem block_row (n w r0 : Nat) (hw : w ≤ 1024) (hw64 : w % 64 = 0) (hn : r0 + n ≤ w) (c : Fin 8)
    (xs : Vec Ideal ⟨2, ![n, 1024]⟩ .f32) (wq wo : Vec Ideal Cert.KernelIdeal.S1024x1024 .f32) (kk vv : Fin 8 → Vec Ideal ⟨3, ![1, w, 128]⟩ .f32)
    (mk : IVec ⟨2, ![n, w]⟩ 1)
    (hxs : ∀ (r : Fin n) (t : Fin 1024), xs (ix2 r t) = X (ix2 ⟨r0 + r.val, by omega⟩ t))
    (hwq : ∀ (t z : Fin 1024), wq (ix2 t z) = WQ (ix2 t ⟨1024 * c.val + z.val, by omega⟩))
    (hwo : ∀ (z t : Fin 1024), wo (ix2 z t) = WO (ix2 ⟨1024 * c.val + z.val, by omega⟩ t))
    (hkk : ∀ (h : Fin 8) (j : Fin w) (e : Fin 128), kk h (ix3 0 j e) = K (ix3 (j.castLE hw) ⟨8 * c.val + h.val, by omega⟩ e))
    (hvv : ∀ (h : Fin 8) (j : Fin w) (e : Fin 128), vv h (ix3 0 j e) = V (ix3 (j.castLE hw) ⟨8 * c.val + h.val, by omega⟩ e))
    (hmk : ∀ (r : Fin n) (j : Fin w), mk (ix2 r j) = 1#1 ↔ j.val / 64 ≤ (r0 + r.val) / 64)
    (hc hk hr hcc hb) (hs : ∀ h : Fin 8, _) (hcat) (r : Fin n) (j : Fin 1024) :
    project n (fun h => headOut n w (headW n w mk (queries n xs wq hc) (128 * h.val) (hs h) (kk h) hk) (vv h) hk hr hcc hb)
        (truncf .bf16 wo Cert.KernelIdeal.Gen.bitsLt_bf16_f32) hcat hc (ix2 r j)
      = (∑ z : Fin 1024, headRow X WQ K V ⟨(1024 * c.val + z.val) / 128, by omega⟩ ⟨r0 + r.val, by omega⟩ ⟨(1024 * c.val + z.val) % 128, by omega⟩
          * (WO (ix2 ⟨1024 * c.val + z.val, by omega⟩ j) : EReal) : EReal) := by
  rw [project_apply]
  refine Finset.sum_congr rfl fun z _ => ?_
  refine congrArg₂ (· * ·) ?_ (hwo z j)
  refine (head_row X WQ K V xr qr kr hX hQ hK n w r0 hw hw64 hn c ⟨z.val / 128, by omega⟩ xs wq _ _ mk hxs hwq
    (fun j e => hkk _ j e) (fun j e => hvv _ j e) hmk hc _ hk hr hcc hb r ⟨z.val % 128, by omega⟩).trans ?_
  have e1 : (⟨8 * c.val + z.val / 128, by omega⟩ : Fin 64) = ⟨(1024 * c.val + z.val) / 128, by omega⟩ := Fin.ext (by show 8 * c.val + z.val / 128 = (1024 * c.val + z.val) / 128; omega)
  have e2 : (⟨z.val % 128, by omega⟩ : Fin 128) = ⟨(1024 * c.val + z.val) % 128, by omega⟩ := Fin.ext (by show z.val % 128 = (1024 * c.val + z.val) % 128; omega)
  rw [e1, e2]
end
end Cert.Exchange
end
-- ==== Proof.Masks.lean ====
/-
# The masks

A row sees the columns of its own group of 64 and of the groups before it. The kernel computes the groups with a floored division
of words; each of the three masks is on exactly where the column's group is at most the row's.
-/
module

public import proofs.«01_k».proof.Proof.Values
public import proofs.«01_k».proof.Proof.Gen.KernelIdeal.Skeleton
public import Idealize.ShloMosaic.Lib.ValueIdx
public import Idealize.ShloMosaic.Lib.Pipeline.Value

@[expose] public section
set_option maxRecDepth 65536
noncomputable section
namespace Cert.Exchange
open Cert.KernelIdeal Cert.KernelIdeal.Gen
open Idealize.ShloMosaic
open Idealize.ShloMosaic.ValueIdx

/-- The kernel's floored division of a word by 64: the quotient, less one when the signs differ and there is a remainder. -/
@[reducible] def fdiv (x : BitVec 32) : BitVec 32 :=
  Scalar.select (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32))))
    (IntOp.cmpi .ne (IntOp.remsi .vector x 64#32) 0#32))
    (IntOp.subi (IntOp.divsi .vector x 64#32) 1#32) (IntOp.divsi .vector x 64#32)

/-- On the words below 1024 it is the quotient. -/
theorem fdiv_ofNat : ∀ k : Fin 1024, fdiv (BitVec.ofNat 32 k.val) = BitVec.ofNat 32 (k.val / 64) := by decide +kernel

/-- Comparing two small words compares their numbers. -/
theorem sle_ofNat : ∀ a b : Fin 16, IntOp.cmpi .sle (BitVec.ofNat 32 a.val) (BitVec.ofNat 32 b.val) = 1#1 ↔ a.val ≤ b.val := by
  decide +kernel

/-- The comparison of the groups of a column and of a row. -/
theorem mask_word (j i : Nat) (hj : j < 1024) (hi : i < 1024) :
    IntOp.cmpi .sle (fdiv (BitVec.ofNat 32 j)) (fdiv (BitVec.ofNat 32 i)) = 1#1 ↔ j / 64 ≤ i / 64 := by
  rw [fdiv_ofNat ⟨j, hj⟩, fdiv_ofNat ⟨i, hi⟩]
  exact sle_ofNat ⟨j / 64, by omega⟩ ⟨i / 64, by omega⟩

/-- The first mask. -/
theorem m0_iff (r : Fin 384) (j : Fin 384) : m0 (ix2 r j) = 1#1 ↔ j.val / 64 ≤ (0 + r.val) / 64 := by
  have e0 : iota .tc S384x384 32 [0] iota_S384x384_d0_w32 (ix2 r j) = BitVec.ofNat 32 r.val := iota_single_apply _ _ _ _ _ _
  have e1 : iota .tc S384x384 32 [1] iota_S384x384_d1_w32 (ix2 r j) = BitVec.ofNat 32 j.val := iota_single_apply _ _ _ _ _ _
  rw [← mask_word j.val (0 + r.val) (by omega) (by omega), BitVec.ofNat_add, ← e0, ← e1]
  exact Iff.rfl

/-- The second mask. -/
theorem m1_iff (r : Fin 384) (j : Fin 768) : m1 (ix2 r j) = 1#1 ↔ j.val / 64 ≤ (384 + r.val) / 64 := by
  have e0 : iota .tc S384x768 32 [0] iota_S384x768_d0_w32 (ix2 r j) = BitVec.ofNat 32 r.val := iota_single_apply _ _ _ _ _ _
  have e1 : iota .tc S384x768 32 [1] iota_S384x768_d1_w32 (ix2 r j) = BitVec.ofNat 32 j.val := iota_single_apply _ _ _ _ _ _
  rw [← mask_word j.val (384 + r.val) (by omega) (by omega), BitVec.ofNat_add, ← e0, ← e1]
  exact Iff.rfl

/-- The third mask. -/
theorem m2_iff (r : Fin 256) (j : Fin 1024) : m2 (ix2 r j) = 1#1 ↔ j.val / 64 ≤ (768 + r.val) / 64 := by
  have e0 : iota .tc S256x1024 32 [0] iota_S256x1024_d0_w32 (ix2 r j) = BitVec.ofNat 32 r.val := iota_single_apply _ _ _ _ _ _
  have e1 : iota .tc S256x1024 32 [1] iota_S256x1024_d1_w32 (ix2 r j) = BitVec.ofNat 32 j.val := iota_single_apply _ _ _ _ _ _
  rw [← mask_word j.val (768 + r.val) (by omega) (by omega), BitVec.ofNat_add, ← e0, ← e1]
  exact Iff.rfl

end Cert.Exchange
end
-- ==== Proof.Total.lean ====
/-
# The exchange sums over the devices

Each row of a part, as the device that ends up with it has it, is the sum of that row over the eight devices.
-/
module

public import proofs.«01_k».proof.Proof.Values
public import Idealize.ShloMosaic.PureOps.Ideal

@[expose] public section
noncomputable section
namespace Cert.Exchange
open Cert.KernelIdeal
open Idealize.ShloMosaic

/-- The eight devices in the order in which a device adds up their blocks. -/
def order (t : Fin 3) (c : Dev nD) : List (Dev nD) :=
  let p := fun (r : Nat) (d : Dev nD) => pr t r d
  [c, p 0 c, p 1 c, p 0 (p 1 c), p 2 c, p 0 (p 2 c), p 1 (p 2 c), p 0 (p 1 (p 2 c))]

/-- Every device is in it once. -/
theorem order_perm : ∀ (t : Fin 3) (c : Dev nD), (order t c).Perm (List.finRange 8) := by decide +kernel

/-- The sum after three steps. -/
theorem W_sum (m : (ℓ : Loc nD τ sig) → Buf (Elt Ideal) ℓ) (t : Fin 3) (c : Dev nD) (i j : Nat) :
    W m t 3 c i j = (∑ d : Fin 8, (P m d t i j : EReal) : EReal) := by
  rw [Fin.sum_univ_def]
  refine Eq.trans ?_ (((order_perm t c).map fun d => (P m d t i j : EReal)).sum_eq)
  show (((P m c t i j : EReal) + P m (pr t 0 c) t i j) + (P m (pr t 1 c) t i j + P m (pr t 0 (pr t 1 c)) t i j))
    + ((P m (pr t 2 c) t i j + P m (pr t 0 (pr t 2 c)) t i j) + (P m (pr t 1 (pr t 2 c)) t i j + P m (pr t 0 (pr t 1 (pr t 2 c))) t i j)) = _
  simp only [order, List.map_cons, List.map_nil, List.sum_cons, List.sum_nil, add_zero, add_assoc]

theorem A_sum (m : (ℓ : Loc nD τ sig) → Buf (Elt Ideal) ℓ) (t : Fin 3) (i j : Nat) :
    A m t i j = (∑ d : Fin 8, (P m d t i j : EReal) : EReal) := W_sum m t _ i j

end Cert.Exchange
end
-- ==== Proof.Whole.lean ====
/-
# The kernel's result is the reference's

From argument arrays that are the reference's (the keys and values cut by heads over the devices), each row of each part of the whole
sum is the reference's row, so the output of every device is the reference's.
-/
module

public import proofs.«01_k».proof.Proof.Reads
public import proofs.«01_k».proof.Proof.Heads
public import proofs.«01_k».proof.Proof.Block
public import proofs.«01_k».proof.Proof.Masks
public import proofs.«01_k».proof.Proof.Total
public import proofs.«01_k».proof.Proof.Output
public import Idealize.ShloMosaic.Lib.Layout

@[expose] public section
noncomputable section
namespace Cert.Exchange
open Cert.KernelIdeal Cert.KernelIdeal.Gen
open Idealize.ShloMosaic
open Idealize.ShloMosaic.TcCoe
open Idealize.ShloMosaic.ValueIdx
open Cert.RefVal (headRow)

/-- An array read by row and column, inside its bounds. -/
theorem toRC_apply {p q : Nat} {α : Type} (hp : 0 < p) (hq : 0 < q) (f : Shape.Idx ⟨2, ![p, q]⟩ → α) (i j : Nat) (hi : i < p) (hj : j < q) :
    toRC hp hq f i j = f (ix2 ⟨i, hi⟩ ⟨j, hj⟩) := by
  refine congrArg f (funext fun a => Fin.ext ?_)
  match a with
  | 0 => exact Nat.mod_eq_of_lt hi
  | 1 => exact Nat.mod_eq_of_lt hj

/-- A device's heads are the block of the heads it has. -/
theorem block_heads {α : Type} (c : Fin 8) (f : (⟨3, ![1024, 64, 128]⟩ : Shape).Idx → α) (j : Fin 1024) (h : Fin 8) (e : Fin 128) :
    Layout.block ⟨3, ![1024, 8, 128]⟩ ⟨3, ![1024, 64, 128]⟩ 1 8 c f (by decide) (ix3 j h e) = f (ix3 j ⟨8 * c.val + h.val, by omega⟩ e) := by
  refine congrArg f (funext fun a => Fin.ext ?_)
  match a with
  | 0 => rfl
  | 1 => show c.val * 8 + h.val = 8 * c.val + h.val; omega
  | 2 => rfl

/-- An array by heads is real where every device's block of it is. -/
theorem heads_real (f : (⟨3, ![1024, 64, 128]⟩ : Shape).Idx → EReal)
    (h : ∀ c : Fin 8, ∃ r : (⟨3, ![1024, 8, 128]⟩ : Shape).Idx → ℝ,
      ∀ i, Layout.block ⟨3, ![1024, 8, 128]⟩ ⟨3, ![1024, 64, 128]⟩ 1 8 c f (by decide) i = (r i : EReal)) :
    ∃ r : (⟨3, ![1024, 64, 128]⟩ : Shape).Idx → ℝ, ∀ i, f i = (r i : EReal) := by
  have hi : ∀ i, ∃ r : ℝ, f i = (r : EReal) := fun i => by
    have h1 : (i 1).val < 64 := (i 1).isLt
    obtain ⟨r, hr⟩ := h ⟨(i 1).val / 8, by omega⟩
    refine ⟨_, Eq.trans ?_ ((block_heads _ f (i 0) ⟨(i 1).val % 8, by omega⟩ (i 2)).symm.trans (hr _))⟩
    refine congrArg f (funext fun a => Fin.ext ?_)
    match a with
    | 0 => rfl
    | 1 => show (i 1).val = 8 * ((i 1).val / 8) + (i 1).val % 8; omega
    | 2 => rfl
  exact ⟨fun i => Classical.choose (hi i), fun i => Classical.choose_spec (hi i)⟩

/-- Summing over the devices and each device's columns is summing over all columns. -/
theorem sum_columns (f : Fin 8192 → EReal) :
    (∑ c : Fin 8, ∑ z : Fin 1024, f ⟨1024 * c.val + z.val, by omega⟩) = ∑ z : Fin 8192, f z := by
  rw [← Fintype.sum_prod_type' (f := fun (c : Fin 8) (z : Fin 1024) => f ⟨1024 * c.val + z.val, by omega⟩)]
  refine Fintype.sum_equiv (finProdFinEquiv (m := 8) (n := 1024)) _ _ fun p => congrArg f (Fin.ext ?_)
  show 1024 * p.1.val + p.2.val = p.2.val + 1024 * p.1.val
  omega

section
variable (X : Vec Ideal ⟨2, ![1024, 1024]⟩ .f32) (WQ : Vec Ideal ⟨2, ![1024, 8192]⟩ .f32) (K V : Vec Ideal ⟨3, ![1024, 64, 128]⟩ .f32)
  (WO : Vec Ideal ⟨2, ![8192, 1024]⟩ .f32)
variable (xr : (⟨2, ![1024, 1024]⟩ : Shape).Idx → ℝ) (qr : (⟨2, ![1024, 8192]⟩ : Shape).Idx → ℝ) (kr : (⟨3, ![1024, 64, 128]⟩ : Shape).Idx → ℝ)
variable (hX : ∀ i, X i = (xr i : EReal)) (hQ : ∀ i, WQ i = (qr i : EReal)) (hK : ∀ i, K i = (kr i : EReal))
variable (m : (ℓ : Loc nD τ sig) → Buf (Elt Ideal) ℓ)
variable (h0 : ∀ c : Dev nD, m ((c : Thread nD τ).loc main_arg0) = X) (h1 : ∀ c : Dev nD, m ((c : Thread nD τ).loc main_arg1) = WQ)
  (h2 : ∀ c : Dev nD, m ((c : Thread nD τ).loc main_arg2) = Layout.block ⟨3, ![1024, 8, 128]⟩ ⟨3, ![1024, 64, 128]⟩ 1 8 c K)
  (h3 : ∀ c : Dev nD, m ((c : Thread nD τ).loc main_arg3) = Layout.block ⟨3, ![1024, 8, 128]⟩ ⟨3, ![1024, 64, 128]⟩ 1 8 c V)
  (h4 : ∀ c : Dev nD, m ((c : Thread nD τ).loc main_arg4) = WO)

/-- One column's term of the reference's row. -/
def term (i j : Fin 1024) (z : Fin 8192) : EReal :=
  headRow X WQ K V ⟨z.val / 128, by omega⟩ i ⟨z.val % 128, by omega⟩ * (WO (ix2 z j) : EReal)

include hX hQ hK h0 h1 h2 h3 h4

/-- The first part's rows at one device. -/
theorem P0_apply (c : Fin 8) (r : Fin 384) (j : Fin 1024) :
    P m c 0 r.val j.val = (∑ z : Fin 1024, term X WQ K V WO ⟨0 + r.val, by omega⟩ j ⟨1024 * c.val + z.val, by omega⟩ : EReal) := by
  refine (toRC_apply (p := 384) (q := 1024) (by decide) (by decide) (part0 (wqV m c) (woV m c) (xT m c) (kT m c) (vT m c)) _ _ r.isLt j.isLt).trans ?_
  rw [part0_eq]
  exact block_row X WQ K V WO xr qr kr hX hQ hK 384 384 0 (by decide) (by decide) (by decide) c _ _ _ _ _ _
    (fun r t => by rw [x0_apply, xT_eq, h0]) (fun t z => by rw [wqV_apply, h1]) (fun z t => by rw [woV_apply, h4])
    (fun h j e => by rw [kh0_apply, kg_eq, h2, block_heads]) (fun h j e => (kh0_apply h.val h.isLt (vg m c) j e).trans (by rw [vg_eq, h3, block_heads]))
    m0_iff _ _ _ _ _ _ _ r j

/-- The second part's rows at one device. -/
theorem P1_apply (c : Fin 8) (r : Fin 384) (j : Fin 1024) :
    P m c 1 r.val j.val = (∑ z : Fin 1024, term X WQ K V WO ⟨384 + r.val, by omega⟩ j ⟨1024 * c.val + z.val, by omega⟩ : EReal) := by
  refine (toRC_apply (p := 384) (q := 1024) (by decide) (by decide) (part1 (wqV m c) (woV m c) (xT m c) (kT m c) (vT m c)) _ _ r.isLt j.isLt).trans ?_
  rw [part1_eq]
  exact block_row X WQ K V WO xr qr kr hX hQ hK 384 768 384 (by decide) (by decide) (by decide) c _ _ _ _ _ _
    (fun r t => by rw [x1_apply, xT_eq, h0]) (fun t z => by rw [wqV_apply, h1]) (fun z t => by rw [woV_apply, h4])
    (fun h j e => by rw [kh1_apply, kg_eq, h2, block_heads]) (fun h j e => (kh1_apply h.val h.isLt (vg m c) j e).trans (by rw [vg_eq, h3, block_heads]))
    m1_iff _ _ _ _ _ _ _ r j

/-- The third part's rows at one device. -/
theorem P2_apply (c : Fin 8) (r : Fin 256) (j : Fin 1024) :
    P m c 2 r.val j.val = (∑ z : Fin 1024, term X WQ K V WO ⟨768 + r.val, by omega⟩ j ⟨1024 * c.val + z.val, by omega⟩ : EReal) := by
  refine (toRC_apply (p := 256) (q := 1024) (by decide) (by decide) (part2 (wqV m c) (woV m c) (xT m c) (kT m c) (vT m c)) _ _ r.isLt j.isLt).trans ?_
  rw [part2_eq]
  exact block_row X WQ K V WO xr qr kr hX hQ hK 256 1024 768 (by decide) (by decide) (by decide) c _ _ _ _ _ _
    (fun r t => by rw [x2_apply, xT_eq, h0]) (fun t z => by rw [wqV_apply, h1]) (fun z t => by rw [woV_apply, h4])
    (fun h j e => by rw [kh2_apply, kg_eq, h2, block_heads]) (fun h j e => (kh2_apply h.val h.isLt (vg m c) j e).trans (by rw [vg_eq, h3, block_heads]))
    m2_iff _ _ _ _ _ _ _ r j

/-- The output's rows. -/
theorem outRow_eq (i j : Fin 1024) : outRow m i.val j.val = (∑ z : Fin 8192, term X WQ K V WO i j z : EReal) := by
  rw [← sum_columns]
  unfold outRow
  split
  · rename_i hi
    rw [A_sum]
    refine Finset.sum_congr rfl fun c _ => (P0_apply X WQ K V WO xr qr kr hX hQ hK m h0 h1 h2 h3 h4 c ⟨i.val, hi⟩ j).trans ?_
    have e : (⟨0 + i.val, by omega⟩ : Fin 1024) = i := Fin.ext (Nat.zero_add _)
    simp only [e]
  · split
    · rename_i hi hi'
      rw [A_sum]
      refine Finset.sum_congr rfl fun c _ => (P1_apply X WQ K V WO xr qr kr hX hQ hK m h0 h1 h2 h3 h4 c ⟨i.val - 384, by omega⟩ j).trans ?_
      have e : (⟨384 + (i.val - 384), by omega⟩ : Fin 1024) = i := Fin.ext (by show 384 + (i.val - 384) = i.val; omega)
      simp only [e]
    · rename_i hi hi'
      rw [A_sum]
      refine Finset.sum_congr rfl fun c _ => (P2_apply X WQ K V WO xr qr kr hX hQ hK m h0 h1 h2 h3 h4 c ⟨i.val - 768, by omega⟩ j).trans ?_
      have e : (⟨768 + (i.val - 768), by omega⟩ : Fin 1024) = i := Fin.ext (by show 768 + (i.val - 768) = i.val; omega)
      simp only [e]

/-- The output of every device is the reference's result. -/
theorem outAt_eq : outAt m = Cert.ReferenceIdeal.Read.val_main_v36 (F := Ideal) X WQ K V WO := by
  funext i
  have hi : i = ix3 0 (i 1) (i 2) := by
    funext a
    match a with
    | 0 => exact Fin.ext (by have : (i 0).val < 1 := (i 0).isLt; show (i 0).val = 0; omega)
    | 1 => rfl
    | 2 => rfl
  exact (outRow_eq X WQ K V WO xr qr kr hX hQ hK m h0 h1 h2 h3 h4 (i 1) (i 2)).trans
    ((Cert.RefVal.v36_eq X WQ K V WO (i 1) (i 2)).symm.trans (congrArg _ hi.symm))
end
end Cert.Exchange
end
-- ==== Proof.Finite.lean ====
/-
# Finite arguments are real arguments

The precondition compares each magnitude with positive infinity; an extended real below it in magnitude is a real.
-/
module

public import proofs.«01_k».proof.Defs
public import Idealize.ShloMosaic.Lib.ValueIdx

@[expose] public section
noncomputable section
namespace Cert.Exchange
open Idealize.ShloMosaic

/-- The side conditions of the precondition's operations. -/
theorem pre_facts : Cert.Pre_finite_KernelIdeal.Facts := ⟨by decide, by decide, by decide⟩
theorem pre_facts_ref : Cert.Pre_finite_ReferenceIdeal.Facts := ⟨by decide, by decide, by decide⟩

/-- An extended real whose magnitude is below the infinity's word is a real. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hn
    have hz : Ideal.cmp .olt (max x (-x)) ⊤ = 0#1 := by
      show BitVec.ofBool (decide (max x (-x) < ⊤)) = 0#1
      rw [decide_eq_false hn]
      rfl
    rw [hz] at h
    exact absurd h (by decide)
  have h1 : x ≠ ⊤ := ne_of_lt (lt_of_le_of_lt (le_max_left _ _) hlt)
  have h2 : x ≠ ⊥ := fun hb => by
    rw [hb] at hlt
    exact absurd (lt_of_le_of_lt (le_max_right _ _) hlt) (by simp)
  exact ⟨x.toReal, (EReal.coe_toReal h1 h2).symm⟩

/-- Each argument's elements are reals, where its magnitudes are all below infinity. -/
theorem reals_of_lt {s : Shape} (f : FVec Ideal s .f32) (hb : (⟨0, ![]⟩ : Shape).BroadcastsInDim s (![] : Fin 0 → Fin s.rank))
    (h : cmpf .olt (Host.absf f) (broadcastInDim s ![] hb (constant (F := Ideal) ⟨0, ![]⟩ .f32 0x7F800000#32)) = fun _ => 1#1) :
    ∃ r : s.Idx → ℝ, ∀ i, f i = (r i : EReal) :=
  ⟨fun i => Classical.choose (real_of_lt (f i) (congrFun h i)), fun i => Classical.choose_spec (real_of_lt (f i) (congrFun h i))⟩

end Cert.Exchange
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Whole
public import proofs.«01_k».proof.Proof.Finite
public import Idealize.ShloMosaic.Lib.Quiescent

@[expose] public section

noncomputable section

namespace Cert.Proof

open Idealize.ShloMosaic Idealize.SL.Sem

section
open Cert.KernelIdeal
variable {F : FTy → Type} [FloatOps F]

/-- Over any float values, every weakly fair run of the kernel ends with its arguments as they were and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (Cert.Exchange.run_main (F := F) m ρ)

end

/-- The kernel's region has the same body in the two printed programs … -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l with
  | 0 => match x with | (t, s) => rfl

/-- … and so the two programs have the same definitions. -/
theorem defs_eq : Cert.Kernel.defs (F := Bits) = Cert.KernelIdeal.defs (F := Bits) := by
  unfold Cert.Kernel.defs Cert.KernelIdeal.defs
  rw [defs₀_eq]
  rfl

/-- The frame of the kernel as it runs, over the words. -/
theorem frame_kernel : Cert.quiescent_Kernel := by
  intro m ρ _
  rw [defs_eq]
  exact frame (F := Bits) m ρ

/-- The frame of the kernel over the extended reals. -/
theorem frame_ideal : Cert.quiescent_KernelIdeal := fun m ρ _ => frame (F := Ideal) m ρ

/-- The same of the reference over the extended reals, which has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel and the reference end with the same result, from arguments that are the reference's parts, with `x`, the query weights and
    the keys finite. -/
theorem algebraic : Cert.algebraic_KernelIdeal_ReferenceIdeal_pre_finite_KernelIdeal (hPre_finite_KernelIdeal := Cert.Exchange.pre_facts) := by
  intro m g m' g' hp ha
  obtain ⟨xr, hx⟩ := Cert.Exchange.reals_of_lt _ _ (hp 0).1
  obtain ⟨qr, hq⟩ := Cert.Exchange.reals_of_lt _ _ (hp 0).2.1
  rw [(ha 0).1] at hx
  rw [(ha 0).2.1] at hq
  obtain ⟨kr, hk⟩ := Cert.Exchange.heads_real _ fun c => by
    obtain ⟨r, hr⟩ := Cert.Exchange.reals_of_lt _ _ (hp c).2.2
    rw [(ha c).2.2.1] at hr
    exact ⟨r, hr⟩
  have ho := Cert.Exchange.outAt_eq _ _ _ _ _ xr qr kr hx hq hk m (fun c => (ha c).1) (fun c => (ha c).2.1) (fun c => (ha c).2.2.1)
    (fun c => (ha c).2.2.2.1) (fun c => (ha c).2.2.2.2)
  refine ⟨Cert.Exchange.outAt m, (θ_run Cert.KernelIdeal.defs _ _).mono (fun _ h => h.1) (Cert.Exchange.run_main (F := Ideal) m g),
    (θ_run Cert.ReferenceIdeal.defs _ _).mono (fun r h => ⟨?_, (h 0).2⟩) (Cert.ReferenceIdeal.Value.run (F := Ideal) m' g')⟩
  rw [ho, (h 0).1]
  exact Cert.ReferenceIdeal.Read.val_main_v36_eq m' 0

theorem claim : Cert.Claim := ⟨Cert.Kernel.Gen.facts, Cert.KernelIdeal.Gen.facts, Cert.ReferenceIdeal.Gen.facts,
  Cert.Exchange.pre_facts, Cert.Exchange.pre_facts_ref,
  frame_kernel, frame_ideal, fun m ρ _ => frame_ideal m ρ trivial, frame_reference, fun m ρ _ => frame_reference m ρ trivial, trivial, algebraic⟩

end Cert.Proof

end
